-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Reference (m : (ℓ : Loc Cert.Reference.nD Cert.Reference.τ Cert.Reference.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Reference2 (m : (ℓ : Loc Cert.Reference2.nD Cert.Reference2.τ Cert.Reference2.sig) → Buf (Elt Bits) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Reference3 (m : (ℓ : Loc Cert.Reference3.nD Cert.Reference3.τ Cert.Reference3.sig) → Buf (Elt Bits) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Reference4 (m : (ℓ : Loc Cert.Reference4.nD Cert.Reference4.τ Cert.Reference4.sig) → Buf (Elt Bits) ℓ) : Prop :=
  True

def Pre_Kernel5 [hPre_experts : Cert.Pre_experts.Facts] (m : (ℓ : Loc Cert.Kernel5.nD Cert.Kernel5.τ Cert.Kernel5.sig) → Buf (Elt Bits) ℓ) : Prop :=
  ∀ c : Dev Cert.Kernel5.nD,
    (Cert.Pre_experts.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4)) (m ((c.tc : Thread Cert.Kernel5.nD Cert.Kernel5.τ).loc Cert.Kernel5.main_arg5)) (m ((c.tc : Thread Cert.Kernel5.nD Cert.Kernel5.τ).loc Cert.Kernel5.main_arg6))) = (fun _ => 1#1)

def Pre_Kernel5Ideal [hPre_experts : Cert.Pre_experts.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_experts.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_experts [hPre_experts : Cert.Pre_experts.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_experts.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))) = (fun _ => 1#1)

def Pre_Reference5 (m : (ℓ : Loc Cert.Reference5.nD Cert.Reference5.τ Cert.Reference5.sig) → Buf (Elt Bits) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Reference6 (m : (ℓ : Loc Cert.Reference6.nD Cert.Reference6.τ Cert.Reference6.sig) → Buf (Elt Bits) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Reference7 (m : (ℓ : Loc Cert.Reference7.nD Cert.Reference7.τ Cert.Reference7.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2 [hReference2 : Cert.Reference2.Facts] : Prop :=
  ∀ (m : (ℓ : Loc Cert.Reference2.nD Cert.Reference2.τ Cert.Reference2.sig) → Buf (Elt Bits) ℓ) (g : Dev Cert.Reference2.nD → PrngReg), Pre_Reference2 m →
    θ_run (Cert.Reference2.defs (F := Bits)) (onTc (τ := Cert.Reference2.τ) (Cert.Reference2.main (F := Bits))) ⟨m, fun _ => 0, g⟩ (fun r => (∀ c : Dev Cert.Reference2.nD,
      r.2.mem ((c.tc : Thread Cert.Reference2.nD Cert.Reference2.τ).loc Cert.Reference2.main_arg0) = m ((c.tc : Thread Cert.Reference2.nD Cert.Reference2.τ).loc Cert.Reference2.main_arg0)
      ∧ r.2.mem ((c.tc : Thread Cert.Reference2.nD Cert.Reference2.τ).loc Cert.Reference2.main_arg1) = m ((c.tc : Thread Cert.Reference2.nD Cert.Reference2.τ).loc Cert.Reference2.main_arg1)
      ∧ r.2.mem ((c.tc : Thread Cert.Reference2.nD Cert.Reference2.τ).loc Cert.Reference2.main_arg2) = m ((c.tc : Thread Cert.Reference2.nD Cert.Reference2.τ).loc Cert.Reference2.main_arg2)
      ∧ r.2.mem ((c.tc : Thread Cert.Reference2.nD Cert.Reference2.τ).loc Cert.Reference2.main_arg3) = m ((c.tc : Thread Cert.Reference2.nD Cert.Reference2.τ).loc Cert.Reference2.main_arg3)
      ∧ r.2.mem ((c.tc : Thread Cert.Reference2.nD Cert.Reference2.τ).loc Cert.Reference2.main_arg4) = m ((c.tc : Thread Cert.Reference2.nD Cert.Reference2.τ).loc Cert.Reference2.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Reference3 [hReference3 : Cert.Reference3.Facts] : Prop :=
  ∀ (m : (ℓ : Loc Cert.Reference3.nD Cert.Reference3.τ Cert.Reference3.sig) → Buf (Elt Bits) ℓ) (g : Dev Cert.Reference3.nD → PrngReg), Pre_Reference3 m →
    θ_run (Cert.Reference3.defs (F := Bits)) (onTc (τ := Cert.Reference3.τ) (Cert.Reference3.main (F := Bits))) ⟨m, fun _ => 0, g⟩ (fun r => (∀ c : Dev Cert.Reference3.nD,
      r.2.mem ((c.tc : Thread Cert.Reference3.nD Cert.Reference3.τ).loc Cert.Reference3.main_arg0) = m ((c.tc : Thread Cert.Reference3.nD Cert.Reference3.τ).loc Cert.Reference3.main_arg0)
      ∧ r.2.mem ((c.tc : Thread Cert.Reference3.nD Cert.Reference3.τ).loc Cert.Reference3.main_arg1) = m ((c.tc : Thread Cert.Reference3.nD Cert.Reference3.τ).loc Cert.Reference3.main_arg1)
      ∧ r.2.mem ((c.tc : Thread Cert.Reference3.nD Cert.Reference3.τ).loc Cert.Reference3.main_arg2) = m ((c.tc : Thread Cert.Reference3.nD Cert.Reference3.τ).loc Cert.Reference3.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Reference4 [hReference4 : Cert.Reference4.Facts] : Prop :=
  ∀ (m : (ℓ : Loc Cert.Reference4.nD Cert.Reference4.τ Cert.Reference4.sig) → Buf (Elt Bits) ℓ) (g : Dev Cert.Reference4.nD → PrngReg), Pre_Reference4 m →
    θ_run (Cert.Reference4.defs (F := Bits)) (onTc (τ := Cert.Reference4.τ) (Cert.Reference4.main (F := Bits))) ⟨m, fun _ => 0, g⟩ (fun r => (∀ c : Dev Cert.Reference4.nD,
      r.2.mem ((c.tc : Thread Cert.Reference4.nD Cert.Reference4.τ).loc Cert.Reference4.main_arg0) = m ((c.tc : Thread Cert.Reference4.nD Cert.Reference4.τ).loc Cert.Reference4.main_arg0)
      ∧ r.2.mem ((c.tc : Thread Cert.Reference4.nD Cert.Reference4.τ).loc Cert.Reference4.main_arg1) = m ((c.tc : Thread Cert.Reference4.nD Cert.Reference4.τ).loc Cert.Reference4.main_arg1)
      ∧ r.2.mem ((c.tc : Thread Cert.Reference4.nD Cert.Reference4.τ).loc Cert.Reference4.main_arg2) = m ((c.tc : Thread Cert.Reference4.nD Cert.Reference4.τ).loc Cert.Reference4.main_arg2)
      ∧ r.2.mem ((c.tc : Thread Cert.Reference4.nD Cert.Reference4.τ).loc Cert.Reference4.main_arg3) = m ((c.tc : Thread Cert.Reference4.nD Cert.Reference4.τ).loc Cert.Reference4.main_arg3)
      ∧ r.2.mem ((c.tc : Thread Cert.Reference4.nD Cert.Reference4.τ).loc Cert.Reference4.main_arg4) = m ((c.tc : Thread Cert.Reference4.nD Cert.Reference4.τ).loc Cert.Reference4.main_arg4)
      ∧ r.2.mem ((c.tc : Thread Cert.Reference4.nD Cert.Reference4.τ).loc Cert.Reference4.main_arg5) = m ((c.tc : Thread Cert.Reference4.nD Cert.Reference4.τ).loc Cert.Reference4.main_arg5)
      ∧ r.2.mem ((c.tc : Thread Cert.Reference4.nD Cert.Reference4.τ).loc Cert.Reference4.main_arg6) = m ((c.tc : Thread Cert.Reference4.nD Cert.Reference4.τ).loc Cert.Reference4.main_arg6)
      ∧ r.2.mem ((c.tc : Thread Cert.Reference4.nD Cert.Reference4.τ).loc Cert.Reference4.main_arg7) = m ((c.tc : Thread Cert.Reference4.nD Cert.Reference4.τ).loc Cert.Reference4.main_arg7)
      ∧ r.2.mem ((c.tc : Thread Cert.Reference4.nD Cert.Reference4.τ).loc Cert.Reference4.main_arg8) = m ((c.tc : Thread Cert.Reference4.nD Cert.Reference4.τ).loc Cert.Reference4.main_arg8))
      ∧ r.2.sem = fun _ => 0)

def quiescent_Kernel5 [hKernel5 : Cert.Kernel5.Facts] [hPre_experts : Cert.Pre_experts.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] [hPre_experts : Cert.Pre_experts.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Reference5Ideal_pre_experts [hReference5Ideal : Cert.Reference5Ideal.Facts] [hPre_experts : Cert.Pre_experts.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_experts m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Reference5 [hReference5 : Cert.Reference5.Facts] : Prop :=
  ∀ (m : (ℓ : Loc Cert.Reference5.nD Cert.Reference5.τ Cert.Reference5.sig) → Buf (Elt Bits) ℓ) (g : Dev Cert.Reference5.nD → PrngReg), Pre_Reference5 m →
    θ_run (Cert.Reference5.defs (F := Bits)) (onTc (τ := Cert.Reference5.τ) (Cert.Reference5.main (F := Bits))) ⟨m, fun _ => 0, g⟩ (fun r => (∀ c : Dev Cert.Reference5.nD,
      r.2.mem ((c.tc : Thread Cert.Reference5.nD Cert.Reference5.τ).loc Cert.Reference5.main_arg0) = m ((c.tc : Thread Cert.Reference5.nD Cert.Reference5.τ).loc Cert.Reference5.main_arg0)
      ∧ r.2.mem ((c.tc : Thread Cert.Reference5.nD Cert.Reference5.τ).loc Cert.Reference5.main_arg1) = m ((c.tc : Thread Cert.Reference5.nD Cert.Reference5.τ).loc Cert.Reference5.main_arg1)
      ∧ r.2.mem ((c.tc : Thread Cert.Reference5.nD Cert.Reference5.τ).loc Cert.Reference5.main_arg2) = m ((c.tc : Thread Cert.Reference5.nD Cert.Reference5.τ).loc Cert.Reference5.main_arg2)
      ∧ r.2.mem ((c.tc : Thread Cert.Reference5.nD Cert.Reference5.τ).loc Cert.Reference5.main_arg3) = m ((c.tc : Thread Cert.Reference5.nD Cert.Reference5.τ).loc Cert.Reference5.main_arg3)
      ∧ r.2.mem ((c.tc : Thread Cert.Reference5.nD Cert.Reference5.τ).loc Cert.Reference5.main_arg4) = m ((c.tc : Thread Cert.Reference5.nD Cert.Reference5.τ).loc Cert.Reference5.main_arg4)
      ∧ r.2.mem ((c.tc : Thread Cert.Reference5.nD Cert.Reference5.τ).loc Cert.Reference5.main_arg5) = m ((c.tc : Thread Cert.Reference5.nD Cert.Reference5.τ).loc Cert.Reference5.main_arg5)
      ∧ r.2.mem ((c.tc : Thread Cert.Reference5.nD Cert.Reference5.τ).loc Cert.Reference5.main_arg6) = m ((c.tc : Thread Cert.Reference5.nD Cert.Reference5.τ).loc Cert.Reference5.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Reference6 [hReference6 : Cert.Reference6.Facts] : Prop :=
  ∀ (m : (ℓ : Loc Cert.Reference6.nD Cert.Reference6.τ Cert.Reference6.sig) → Buf (Elt Bits) ℓ) (g : Dev Cert.Reference6.nD → PrngReg), Pre_Reference6 m →
    θ_run (Cert.Reference6.defs (F := Bits)) (onTc (τ := Cert.Reference6.τ) (Cert.Reference6.main (F := Bits))) ⟨m, fun _ => 0, g⟩ (fun r => (∀ c : Dev Cert.Reference6.nD,
      r.2.mem ((c.tc : Thread Cert.Reference6.nD Cert.Reference6.τ).loc Cert.Reference6.main_arg0) = m ((c.tc : Thread Cert.Reference6.nD Cert.Reference6.τ).loc Cert.Reference6.main_arg0)
      ∧ r.2.mem ((c.tc : Thread Cert.Reference6.nD Cert.Reference6.τ).loc Cert.Reference6.main_arg1) = m ((c.tc : Thread Cert.Reference6.nD Cert.Reference6.τ).loc Cert.Reference6.main_arg1)
      ∧ r.2.mem ((c.tc : Thread Cert.Reference6.nD Cert.Reference6.τ).loc Cert.Reference6.main_arg2) = m ((c.tc : Thread Cert.Reference6.nD Cert.Reference6.τ).loc Cert.Reference6.main_arg2)
      ∧ r.2.mem ((c.tc : Thread Cert.Reference6.nD Cert.Reference6.τ).loc Cert.Reference6.main_arg3) = m ((c.tc : Thread Cert.Reference6.nD Cert.Reference6.τ).loc Cert.Reference6.main_arg3)
      ∧ r.2.mem ((c.tc : Thread Cert.Reference6.nD Cert.Reference6.τ).loc Cert.Reference6.main_arg4) = m ((c.tc : Thread Cert.Reference6.nD Cert.Reference6.τ).loc Cert.Reference6.main_arg4)
      ∧ r.2.mem ((c.tc : Thread Cert.Reference6.nD Cert.Reference6.τ).loc Cert.Reference6.main_arg5) = m ((c.tc : Thread Cert.Reference6.nD Cert.Reference6.τ).loc Cert.Reference6.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Reference7 [hReference7 : Cert.Reference7.Facts] : Prop :=
  ∀ (m : (ℓ : Loc Cert.Reference7.nD Cert.Reference7.τ Cert.Reference7.sig) → Buf (Elt Bits) ℓ) (g : Dev Cert.Reference7.nD → PrngReg), Pre_Reference7 m →
    θ_run (Cert.Reference7.defs (F := Bits)) (onTc (τ := Cert.Reference7.τ) (Cert.Reference7.main (F := Bits))) ⟨m, fun _ => 0, g⟩ (fun r => (∀ c : Dev Cert.Reference7.nD,
      r.2.mem ((c.tc : Thread Cert.Reference7.nD Cert.Reference7.τ).loc Cert.Reference7.main_arg0) = m ((c.tc : Thread Cert.Reference7.nD Cert.Reference7.τ).loc Cert.Reference7.main_arg0)
      ∧ r.2.mem ((c.tc : Thread Cert.Reference7.nD Cert.Reference7.τ).loc Cert.Reference7.main_arg1) = m ((c.tc : Thread Cert.Reference7.nD Cert.Reference7.τ).loc Cert.Reference7.main_arg1))
      ∧ r.2.sem = fun _ => 0)

def preserves_Kernel_KernelIdeal : Prop :=
  True

def preserves_Reference_ReferenceIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def preserves_Reference2_Reference2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def preserves_Reference3_Reference3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v17) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def preserves_Reference4_Reference4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v38) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def preserves_Reference5_Reference5Ideal : Prop :=
  True

def algebraic_Kernel5Ideal_Reference5Ideal [hKernel5Ideal : Cert.Kernel5Ideal.Facts] [hReference5Ideal : Cert.Reference5Ideal.Facts] [hPre_experts : Cert.Pre_experts.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v30) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def preserves_Reference6_Reference6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v23) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def preserves_Reference7_Reference7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v33) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hReference2 : Cert.Reference2.Facts) (hKernel3 : Cert.Kernel3.Facts) (hKernel3Ideal : Cert.Kernel3Ideal.Facts) (hReference3Ideal : Cert.Reference3Ideal.Facts) (hReference3 : Cert.Reference3.Facts) (hKernel4 : Cert.Kernel4.Facts) (hKernel4Ideal : Cert.Kernel4Ideal.Facts) (hReference4Ideal : Cert.Reference4Ideal.Facts) (hReference4 : Cert.Reference4.Facts) (hKernel5 : Cert.Kernel5.Facts) (hKernel5Ideal : Cert.Kernel5Ideal.Facts) (hReference5Ideal : Cert.Reference5Ideal.Facts) (hReference5 : Cert.Reference5.Facts) (hKernel6 : Cert.Kernel6.Facts) (hKernel6Ideal : Cert.Kernel6Ideal.Facts) (hReference6Ideal : Cert.Reference6Ideal.Facts) (hReference6 : Cert.Reference6.Facts) (hKernel7 : Cert.Kernel7.Facts) (hKernel7Ideal : Cert.Kernel7Ideal.Facts) (hReference7Ideal : Cert.Reference7Ideal.Facts) (hReference7 : Cert.Reference7.Facts) (hPre_finite : Cert.Pre_finite.Facts) (hPre_experts : Cert.Pre_experts.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Reference (hReference := hReference)
    ∧ quiescent_Kernel2 (hKernel2 := hKernel2)
    ∧ quiescent_Kernel2Ideal (hKernel2Ideal := hKernel2Ideal)
    ∧ quiescent_Reference2Ideal (hReference2Ideal := hReference2Ideal)
    ∧ quiescent_Reference2 (hReference2 := hReference2)
    ∧ quiescent_Kernel3 (hKernel3 := hKernel3)
    ∧ quiescent_Kernel3Ideal (hKernel3Ideal := hKernel3Ideal)
    ∧ quiescent_Reference3Ideal (hReference3Ideal := hReference3Ideal)
    ∧ quiescent_Reference3 (hReference3 := hReference3)
    ∧ quiescent_Kernel4 (hKernel4 := hKernel4)
    ∧ quiescent_Kernel4Ideal (hKernel4Ideal := hKernel4Ideal)
    ∧ quiescent_Reference4Ideal (hReference4Ideal := hReference4Ideal)
    ∧ quiescent_Reference4 (hReference4 := hReference4)
    ∧ quiescent_Kernel5 (hKernel5 := hKernel5) (hPre_experts := hPre_experts)
    ∧ quiescent_Kernel5Ideal (hKernel5Ideal := hKernel5Ideal) (hPre_experts := hPre_experts)
    ∧ quiescent_Reference5Ideal (hReference5Ideal := hReference5Ideal)
    ∧ quiescent_Reference5Ideal_pre_experts (hReference5Ideal := hReference5Ideal) (hPre_experts := hPre_experts)
    ∧ quiescent_Reference5 (hReference5 := hReference5)
    ∧ quiescent_Kernel6 (hKernel6 := hKernel6)
    ∧ quiescent_Kernel6Ideal (hKernel6Ideal := hKernel6Ideal)
    ∧ quiescent_Reference6Ideal (hReference6Ideal := hReference6Ideal)
    ∧ quiescent_Reference6 (hReference6 := hReference6)
    ∧ quiescent_Kernel7 (hKernel7 := hKernel7)
    ∧ quiescent_Kernel7Ideal (hKernel7Ideal := hKernel7Ideal)
    ∧ quiescent_Reference7Ideal (hReference7Ideal := hReference7Ideal)
    ∧ quiescent_Reference7 (hReference7 := hReference7)
    ∧ preserves_Kernel_KernelIdeal
    ∧ preserves_Reference_ReferenceIdeal
    ∧ algebraic_KernelIdeal_ReferenceIdeal_pre_finite (hKernelIdeal := hKernelIdeal) (hReferenceIdeal := hReferenceIdeal) (hPre_finite := hPre_finite)
    ∧ preserves_Kernel2_Kernel2Ideal
    ∧ preserves_Reference2_Reference2Ideal
    ∧ algebraic_Kernel2Ideal_Reference2Ideal (hKernel2Ideal := hKernel2Ideal) (hReference2Ideal := hReference2Ideal)
    ∧ preserves_Kernel3_Kernel3Ideal
    ∧ preserves_Reference3_Reference3Ideal
    ∧ algebraic_Kernel3Ideal_Reference3Ideal (hKernel3Ideal := hKernel3Ideal) (hReference3Ideal := hReference3Ideal)
    ∧ preserves_Kernel4_Kernel4Ideal
    ∧ preserves_Reference4_Reference4Ideal
    ∧ algebraic_Kernel4Ideal_Reference4Ideal (hKernel4Ideal := hKernel4Ideal) (hReference4Ideal := hReference4Ideal)
    ∧ preserves_Kernel5_Kernel5Ideal
    ∧ preserves_Reference5_Reference5Ideal
    ∧ algebraic_Kernel5Ideal_Reference5Ideal (hKernel5Ideal := hKernel5Ideal) (hReference5Ideal := hReference5Ideal) (hPre_experts := hPre_experts)
    ∧ preserves_Kernel6_Kernel6Ideal
    ∧ preserves_Reference6_Reference6Ideal
    ∧ algebraic_Kernel6Ideal_Reference6Ideal (hKernel6Ideal := hKernel6Ideal) (hReference6Ideal := hReference6Ideal)
    ∧ preserves_Kernel7_Kernel7Ideal
    ∧ preserves_Reference7_Reference7Ideal
    ∧ algebraic_Kernel7Ideal_Reference7Ideal (hKernel7Ideal := hKernel7Ideal) (hReference7Ideal := hReference7Ideal)
-- ==== Pre_experts.lean ====
abbrev S54272x2048 : Shape := ⟨2, ![54272, 2048]⟩
abbrev S53 : Shape := ⟨1, ![53]⟩
abbrev S8x2048x7168 : Shape := ⟨3, ![8, 2048, 7168]⟩
abbrev S8x7168x2048 : Shape := ⟨3, ![8, 7168, 2048]⟩
abbrev S74752x2048 : Shape := ⟨2, ![74752, 2048]⟩
abbrev S_ : Shape := ⟨0, ![]⟩

class Facts : Prop where
  bcast_S_S53 : S_.BroadcastsInDim S53 (![] : Fin 0 → Fin S53.rank)

variable [Facts]

def fn {F : FTy → Type} [FloatOps F] (main_arg0 : FVec F S54272x2048 .bf16) (main_arg1 : IVec S53 32) (main_arg2 : IVec S53 32) (main_arg3 : FVec F S8x2048x7168 .f32) (main_arg4 : FVec F S8x2048x7168 .f32) (main_arg5 : FVec F S8x7168x2048 .f32) (main_arg6 : FVec F S74752x2048 .bf16) : IVec S53 1 :=
  let main_c : IVec S_ 32 := constantI S_ 32 0#32
  let main_v0 : IVec S53 32 := broadcastInDim S53 ![] bcast_S_S53 main_c
  let main_v1 : IVec S53 1 := cmpi .sge main_arg1 main_v0
  let main_c_0 : IVec S_ 32 := constantI S_ 32 8#32
  let main_v2 : IVec S53 32 := broadcastInDim S53 ![] bcast_S_S53 main_c_0
  let main_v3 : IVec S53 1 := cmpi .slt main_arg1 main_v2
  let main_v4 : IVec S53 1 := andi main_v1 main_v3
  main_v4
-- ==== Pre_finite.lean ====
abbrev S33024x12288 : Shape := ⟨2, ![33024, 12288]⟩
abbrev S16x15x31 : Shape := ⟨3, ![16, 15, 31]⟩
abbrev S16x16 : Shape := ⟨2, ![16, 16]⟩
abbrev S_ : Shape := ⟨0, ![]⟩

class Facts : Prop where
  bitsLt_bf16_f32 : FTy.bits .bf16 < FTy.bits .f32
  bcast_S_S33024x12288 : S_.BroadcastsInDim S33024x12288 (![] : Fin 0 → Fin S33024x12288.rank)
  bcast_S_S16x15x31 : S_.BroadcastsInDim S16x15x31 (![] : Fin 0 → Fin S16x15x31.rank)
  bcast_S_S16x16 : S_.BroadcastsInDim S16x16 (![] : Fin 0 → Fin S16x16.rank)

variable [Facts]

def fn {F : FTy → Type} [FloatOps F] (main_arg0 : FVec F S33024x12288 .bf16) (main_arg1 : FVec F S16x15x31 .f32) (main_arg2 : FVec F S16x16 .f32) : IVec S33024x12288 1 × IVec S16x15x31 1 × IVec S16x16 1 :=
  let main_v0 : FVec F S33024x12288 .f32 := (extf .f32 · bitsLt_bf16_f32) main_arg0
  let main_v1 : FVec F S33024x12288 .f32 := Host.absf main_v0
  let main_cst : FVec F S_ .f32 := constant S_ .f32 0x7F800000#32
  let main_v2 : FVec F S33024x12288 .f32 := broadcastInDim S33024x12288 ![] bcast_S_S33024x12288 main_cst
  let main_v3 : IVec S33024x12288 1 := cmpf .olt main_v1 main_v2
  let main_v4 : FVec F S16x15x31 .f32 := Host.absf main_arg1
  let main_cst_0 : FVec F S_ .f32 := constant S_ .f32 0x7F800000#32
  let main_v5 : FVec F S16x15x31 .f32 := broadcastInDim S16x15x31 ![] bcast_S_S16x15x31 main_cst_0
  let main_v6 : IVec S16x15x31 1 := cmpf .olt main_v4 main_v5
  let main_v7 : FVec F S16x16 .f32 := Host.absf main_arg2
  let main_cst_1 : FVec F S_ .f32 := constant S_ .f32 0x7F800000#32
  let main_v8 : FVec F S16x16 .f32 := broadcastInDim S16x16 ![] bcast_S_S16x16 main_cst_1
  let main_v9 : IVec S16x16 1 := cmpf .olt main_v7 main_v8
  (main_v3, main_v6, main_v9)
-- ==== Kernel.lean ====
abbrev S33024x12288 : Shape := ⟨2, ![33024, 12288]⟩
abbrev S16x15x31 : Shape := ⟨3, ![16, 15, 31]⟩
abbrev S16x16 : Shape := ⟨2, ![16, 16]⟩
abbrev S8x8 : Shape := ⟨2, ![8, 8]⟩
abbrev S4096 : Shape := ⟨1, ![4096]⟩
abbrev S64x64 : Shape := ⟨2, ![64, 64]⟩
abbrev S_ : Shape := ⟨0, ![]⟩
abbrev S8x8x1 : Shape := ⟨3, ![8, 8, 1]⟩
abbrev S16x8x8x31 : Shape := ⟨4, ![16, 8, 8, 31]⟩
abbrev S4096x1 : Shape := ⟨2, ![4096, 1]⟩
abbrev S16x8x8x4096 : Shape := ⟨4, ![16, 8, 8, 4096]⟩
abbrev S16x8x8x64x64 : Shape := ⟨5, ![16, 8, 8, 64, 64]⟩
abbrev S1x1x1x64x64 : Shape := ⟨5, ![1, 1, 1, 64, 64]⟩
abbrev S16x8x64x8x64 : Shape := ⟨5, ![16, 8, 64, 8, 64]⟩
abbrev S16x8x64x512 : Shape := ⟨4, ![16, 8, 64, 512]⟩
abbrev S8x2x8x64x512 : Shape := ⟨5, ![8, 2, 8, 64, 512]⟩
abbrev S8x8x2x64x512 : Shape := ⟨5, ![8, 8, 2, 64, 512]⟩
abbrev S8x8x128x512 : Shape := ⟨4, ![8, 8, 128, 512]⟩
abbrev S8x2x1x16 : Shape := ⟨4, ![8, 2, 1, 16]⟩
abbrev S8x2x64x16 : Shape := ⟨4, ![8, 2, 64, 16]⟩
abbrev S8x128x16 : Shape := ⟨3, ![8, 128, 16]⟩
abbrev S8x2x16x16 : Shape := ⟨4, ![8, 2, 16, 16]⟩
abbrev S8x32x16 : Shape := ⟨3, ![8, 32, 16]⟩
abbrev S8x1x128x16 : Shape := ⟨4, ![8, 1, 128, 16]⟩
abbrev S8x2x128x16 : Shape := ⟨4, ![8, 2, 128, 16]⟩
abbrev S33024x1024 : Shape := ⟨2, ![33024, 1024]⟩
abbrev S2064x128 : Shape := ⟨2, ![2064, 128]⟩
abbrev S1x8x128x512 : Shape := ⟨4, ![1, 8, 128, 512]⟩
abbrev S1x2x128x16 : Shape := ⟨4, ![1, 2, 128, 16]⟩
abbrev S1x128 : Shape := ⟨2, ![1, 128]⟩
abbrev S16x128 : Shape := ⟨2, ![16, 128]⟩
abbrev S1x1x128x16 : Shape := ⟨4, ![1, 1, 128, 16]⟩
abbrev S128x16 : Shape := ⟨2, ![128, 16]⟩
abbrev S32x128 : Shape := ⟨2, ![32, 128]⟩
abbrev S32x16 : Shape := ⟨2, ![32, 16]⟩
abbrev S1x1x32x16 : Shape := ⟨4, ![1, 1, 32, 16]⟩
abbrev S64x128 : Shape := ⟨2, ![64, 128]⟩
abbrev S128x128 : Shape := ⟨2, ![128, 128]⟩
abbrev S512x128 : Shape := ⟨2, ![512, 128]⟩
abbrev S128x512 : Shape := ⟨2, ![128, 512]⟩
abbrev S1x1x128x512 : Shape := ⟨4, ![1, 1, 128, 512]⟩
abbrev S32 : Shape := ⟨1, ![32]⟩
abbrev S32x1 : Shape := ⟨2, ![32, 1]⟩
abbrev S128 : Shape := ⟨1, ![128]⟩
abbrev S128x1 : Shape := ⟨2, ![128, 1]⟩

abbrev nBuf : Space → Nat
  | .hbm => 44
  | .vmem => 12
  | .smem => 0
  | _ => 0

abbrev bufTy : (tb : Table) → Fin (tcTables nBuf tb) → BufTy
  | .hbm, ⟨0, _⟩ => ⟨S33024x12288, .bf16⟩
  | .hbm, ⟨1, _⟩ => ⟨S16x15x31, .f32⟩
  | .hbm, ⟨2, _⟩ => ⟨S16x16, .f32⟩
  | .hbm, ⟨3, _⟩ => ⟨S8x8, .i32⟩
  | .hbm, ⟨4, _⟩ => ⟨S8x8, .i1⟩
  | .hbm, ⟨5, _⟩ => ⟨S4096, .i32⟩
  | .hbm, ⟨6, _⟩ => ⟨S4096, .i1⟩
  | .hbm, ⟨7, _⟩ => ⟨S64x64, .i1⟩
  | .hbm, ⟨8, _⟩ => ⟨S_, .i32⟩
  | .hbm, ⟨9, _⟩ => ⟨S8x8, .i32⟩
  | .hbm, ⟨10, _⟩ => ⟨S8x8, .i32⟩
  | .hbm, ⟨11, _⟩ => ⟨S8x8, .i32⟩
  | .hbm, ⟨12, _⟩ => ⟨S8x8x1, .i32⟩
  | .hbm, ⟨13, _⟩ => ⟨S16x8x8x31, .f32⟩
  | .hbm, ⟨14, _⟩ => ⟨S_, .i32⟩
  | .hbm, ⟨15, _⟩ => ⟨S4096, .i32⟩
  | .hbm, ⟨16, _⟩ => ⟨S4096, .i32⟩
  | .hbm, ⟨17, _⟩ => ⟨S4096, .i32⟩
  | .hbm, ⟨18, _⟩ => ⟨S4096x1, .i32⟩
  | .hbm, ⟨19, _⟩ => ⟨S16x8x8x4096, .f32⟩
  | .hbm, ⟨20, _⟩ => ⟨S16x8x8x64x64, .f32⟩
  | .hbm, ⟨21, _⟩ => ⟨S1x1x1x64x64, .i1⟩
  | .hbm, ⟨22, _⟩ => ⟨S_, .f32⟩
  | .hbm, ⟨23, _⟩ => ⟨S_, .f32⟩
  | .hbm, ⟨24, _⟩ => ⟨S16x8x8x64x64, .i1⟩
  | .hbm, ⟨25, _⟩ => ⟨S16x8x8x64x64, .f32⟩
  | .hbm, ⟨26, _⟩ => ⟨S16x8x8x64x64, .f32⟩
  | .hbm, ⟨27, _⟩ => ⟨S16x8x64x8x64, .f32⟩
  | .hbm, ⟨28, _⟩ => ⟨S16x8x64x512, .f32⟩
  | .hbm, ⟨29, _⟩ => ⟨S8x2x8x64x512, .f32⟩
  | .hbm, ⟨30, _⟩ => ⟨S8x8x2x64x512, .f32⟩
  | .hbm, ⟨31, _⟩ => ⟨S8x8x128x512, .f32⟩
  | .hbm, ⟨32, _⟩ => ⟨S8x2x1x16, .f32⟩
  | .hbm, ⟨33, _⟩ => ⟨S8x2x64x16, .f32⟩
  | .hbm, ⟨34, _⟩ => ⟨S8x128x16, .f32⟩
  | .hbm, ⟨35, _⟩ => ⟨S8x2x16x16, .f32⟩
  | .hbm, ⟨36, _⟩ => ⟨S8x32x16, .f32⟩
  | .hbm, ⟨37, _⟩ => ⟨S_, .i32⟩
  | .hbm, ⟨38, _⟩ => ⟨S_, .f32⟩
  | .hbm, ⟨39, _⟩ => ⟨S8x128x16, .f32⟩
  | .hbm, ⟨40, _⟩ => ⟨S8x1x128x16, .f32⟩
  | .hbm, ⟨41, _⟩ => ⟨S8x1x128x16, .f32⟩
  | .hbm, ⟨42, _⟩ => ⟨S8x2x128x16, .f32⟩
  | .hbm, ⟨43, _⟩ => ⟨S33024x1024, .bf16⟩
  | .local _ .vmem, ⟨0, _⟩ => ⟨S2064x128, .bf16⟩
  | .local _ .vmem, ⟨1, _⟩ => ⟨S2064x128, .bf16⟩
  | .local _ .vmem, ⟨2, _⟩ => ⟨S2064x128, .bf16⟩
  | .local _ .vmem, ⟨3, _⟩ => ⟨S2064x128, .bf16⟩
  | .local _ .vmem, ⟨4, _⟩ => ⟨S2064x128, .bf16⟩
  | .local _ .vmem, ⟨5, _⟩ => ⟨S2064x128, .bf16⟩
  | .local _ .vmem, ⟨6, _⟩ => ⟨S1x8x128x512, .f32⟩
  | .local _ .vmem, ⟨7, _⟩ => ⟨S1x8x128x512, .f32⟩
  | .local _ .vmem, ⟨8, _⟩ => ⟨S1x2x128x16, .f32⟩
  | .local _ .vmem, ⟨9, _⟩ => ⟨S1x2x128x16, .f32⟩
  | .local _ .vmem, ⟨10, _⟩ => ⟨S2064x128, .bf16⟩
  | .local _ .vmem, ⟨11, _⟩ => ⟨S2064x128, .bf16⟩
  | _, _ => ⟨S33024x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_c_3 : Ref sig .tc := ⟨.hbm, 7, rfl⟩
abbrev main_c_4 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_5 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_6 : Ref sig .tc := ⟨.hbm, 37, rfl⟩
abbrev main_call1_v0 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2064x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2064x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2064x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2x128x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2064x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference.lean ====
abbrev S33024x12288 : Shape := ⟨2, ![33024, 12288]⟩
abbrev S16x15x31 : Shape := ⟨3, ![16, 15, 31]⟩
abbrev S16x16 : Shape := ⟨2, ![16, 16]⟩
abbrev S33024x1024 : Shape := ⟨2, ![33024, 1024]⟩
abbrev S16x2064x16x64 : Shape := ⟨4, ![16, 2064, 16, 64]⟩
abbrev S_ : Shape := ⟨0, ![]⟩
abbrev S16x16x16x64 : Shape := ⟨4, ![16, 16, 16, 64]⟩
abbrev S16x2048x16x64 : Shape := ⟨4, ![16, 2048, 16, 64]⟩
abbrev S16x1x16 : Shape := ⟨3, ![16, 1, 16]⟩
abbrev S16x16x16x16 : Shape := ⟨4, ![16, 16, 16, 16]⟩
abbrev S1x16x1x16 : Shape := ⟨4, ![1, 16, 1, 16]⟩
abbrev S16x16x16 : Shape := ⟨3, ![16, 16, 16]⟩
abbrev S16x16x16x1 : Shape := ⟨4, ![16, 16, 16, 1]⟩
abbrev S16x16x64x16 : Shape := ⟨4, ![16, 16, 64, 16]⟩
abbrev S32 : Shape := ⟨1, ![32]⟩
abbrev S64 : Shape := ⟨1, ![64]⟩
abbrev S1x32 : Shape := ⟨2, ![1, 32]⟩
abbrev S32x1 : Shape := ⟨2, ![32, 1]⟩
abbrev S32x32 : Shape := ⟨2, ![32, 32]⟩
abbrev S1x64 : Shape := ⟨2, ![1, 64]⟩
abbrev S64x1 : Shape := ⟨2, ![64, 1]⟩
abbrev S64x64 : Shape := ⟨2, ![64, 64]⟩
abbrev S32x1x32x1 : Shape := ⟨4, ![32, 1, 32, 1]⟩
abbrev S1x64x1x64 : Shape := ⟨4, ![1, 64, 1, 64]⟩
abbrev S32x64x32x64 : Shape := ⟨4, ![32, 64, 32, 64]⟩
abbrev S2048x2048 : Shape := ⟨2, ![2048, 2048]⟩
abbrev S64x64x1 : Shape := ⟨3, ![64, 64, 1]⟩
abbrev S16x15x64x64 : Shape := ⟨4, ![16, 15, 64, 64]⟩
abbrev S32x32x1 : Shape := ⟨3, ![32, 32, 1]⟩
abbrev S16x32x32x64x64 : Shape := ⟨5, ![16, 32, 32, 64, 64]⟩
abbrev S16x32x64x32x64 : Shape := ⟨5, ![16, 32, 64, 32, 64]⟩
abbrev S16x2048x2048 : Shape := ⟨3, ![16, 2048, 2048]⟩
abbrev S16x16x2048x2048 : Shape := ⟨4, ![16, 16, 2048, 2048]⟩
abbrev S1x16x2048x2048 : Shape := ⟨4, ![1, 16, 2048, 2048]⟩
abbrev S16x16x2048x16 : Shape := ⟨4, ![16, 16, 2048, 16]⟩
abbrev S16x16x2048x2064 : Shape := ⟨4, ![16, 16, 2048, 2064]⟩
abbrev S16x16x2048 : Shape := ⟨3, ![16, 16, 2048]⟩
abbrev S16x16x2048x1 : Shape := ⟨4, ![16, 16, 2048, 1]⟩
abbrev S16x16x64x2048 : Shape := ⟨4, ![16, 16, 64, 2048]⟩

abbrev nBuf : Space → Nat
  | .hbm => 176
  | .vmem => 0
  | .smem => 0
  | _ => 0

abbrev hbmTy0_0 (i : Nat) : BufTy := match i % 128 with
  | 0 => ⟨S33024x12288, .bf16⟩
  | 1 => ⟨S16x15x31, .f32⟩
  | 2 => ⟨S16x16, .f32⟩
  | 3 => ⟨S33024x1024, .bf16⟩
  | 4 => ⟨S33024x1024, .f32⟩
  | 5 => ⟨S16x2064x16x64, .f32⟩
  | 6 => ⟨S_, .f32⟩
  | 7 => ⟨S16x2064x16x64, .f32⟩
  | 8 => ⟨S16x2064x16x64, .f32⟩
  | 9 => ⟨S33024x1024, .bf16⟩
  | 10 => ⟨S33024x1024, .f32⟩
  | 11 => ⟨S16x2064x16x64, .f32⟩
  | 12 => ⟨S33024x1024, .bf16⟩
  | 13 => ⟨S33024x1024, .f32⟩
  | 14 => ⟨S16x2064x16x64, .f32⟩
  | 15 => ⟨S16x16x16x64, .f32⟩
  | 16 => ⟨S16x16x16x64, .f32⟩
  | 17 => ⟨S16x16x16x64, .f32⟩
  | 18 => ⟨S16x2048x16x64, .f32⟩
  | 19 => ⟨S16x2048x16x64, .f32⟩
  | 20 => ⟨S16x2048x16x64, .f32⟩
  | 21 => ⟨S16x1x16, .f32⟩
  | 22 => ⟨S16x16x16x16, .f32⟩
  | 23 => ⟨S1x16x1x16, .f32⟩
  | 24 => ⟨S16x16x16x16, .f32⟩
  | 25 => ⟨S16x16x16x16, .f32⟩
  | 26 => ⟨S_, .f32⟩
  | 27 => ⟨S16x16x16, .f32⟩
  | 28 => ⟨S_, .f32⟩
  | 29 => ⟨S16x16x16, .f32⟩
  | 30 => ⟨S16x16x16, .f32⟩
  | 31 => ⟨S16x16x16x1, .f32⟩
  | 32 => ⟨S16x16x16x16, .f32⟩
  | 33 => ⟨S16x16x16x16, .f32⟩
  | 34 => ⟨S16x16x16x16, .f32⟩
  | 35 => ⟨S_, .f32⟩
  | 36 => ⟨S16x16x16, .f32⟩
  | 37 => ⟨S16x16x16x1, .f32⟩
  | 38 => ⟨S16x16x16x16, .f32⟩
  | 39 => ⟨S16x16x16x16, .f32⟩
  | 40 => ⟨S16x16x64x16, .f32⟩
  | 41 => ⟨S16x16x16x64, .f32⟩
  | 42 => ⟨S32, .i32⟩
  | 43 => ⟨S64, .i32⟩
  | 44 => ⟨S_, .i32⟩
  | 45 => ⟨S32, .i32⟩
  | 46 => ⟨S32, .i32⟩
  | 47 => ⟨S_, .i32⟩
  | 48 => ⟨S_, .i32⟩
  | 49 => ⟨S_, .i32⟩
  | 50 => ⟨S32, .i32⟩
  | 51 => ⟨S32, .i32⟩
  | 52 => ⟨S_, .i32⟩
  | 53 => ⟨S32, .i32⟩
  | 54 => ⟨S32, .i32⟩
  | 55 => ⟨S_, .i32⟩
  | 56 => ⟨S64, .i32⟩
  | 57 => ⟨S64, .i32⟩
  | 58 => ⟨S_, .i32⟩
  | 59 => ⟨S_, .i32⟩
  | 60 => ⟨S_, .i32⟩
  | 61 => ⟨S64, .i32⟩
  | 62 => ⟨S64, .i32⟩
  | 63 => ⟨S_, .i32⟩
  | 64 => ⟨S64, .i32⟩
  | 65 => ⟨S64, .i32⟩
  | 66 => ⟨S1x32, .i32⟩
  | 67 => ⟨S32x1, .i32⟩
  | 68 => ⟨S32x32, .i32⟩
  | 69 => ⟨S32x32, .i32⟩
  | 70 => ⟨S32x32, .i1⟩
  | 71 => ⟨S1x32, .i32⟩
  | 72 => ⟨S32x1, .i32⟩
  | 73 => ⟨S_, .i32⟩
  | 74 => ⟨S32x1, .i32⟩
  | 75 => ⟨S32x1, .i32⟩
  | 76 => ⟨S32x32, .i32⟩
  | 77 => ⟨S32x32, .i32⟩
  | 78 => ⟨S32x32, .i1⟩
  | 79 => ⟨S32x32, .i1⟩
  | 80 => ⟨S1x64, .i32⟩
  | 81 => ⟨S64x1, .i32⟩
  | 82 => ⟨S64x64, .i32⟩
  | 83 => ⟨S64x64, .i32⟩
  | 84 => ⟨S64x64, .i1⟩
  | 85 => ⟨S1x64, .i32⟩
  | 86 => ⟨S64x1, .i32⟩
  | 87 => ⟨S_, .i32⟩
  | 88 => ⟨S64x1, .i32⟩
  | 89 => ⟨S64x1, .i32⟩
  | 90 => ⟨S64x64, .i32⟩
  | 91 => ⟨S64x64, .i32⟩
  | 92 => ⟨S64x64, .i1⟩
  | 93 => ⟨S64x64, .i1⟩
  | 94 => ⟨S32x1x32x1, .i1⟩
  | 95 => ⟨S1x64x1x64, .i1⟩
  | 96 => ⟨S32x64x32x64, .i1⟩
  | 97 => ⟨S32x64x32x64, .i1⟩
  | 98 => ⟨S32x64x32x64, .i1⟩
  | 99 => ⟨S2048x2048, .i1⟩
  | 100 => ⟨S1x32, .i32⟩
  | 101 => ⟨S32x1, .i32⟩
  | 102 => ⟨S32x32, .i32⟩
  | 103 => ⟨S32x32, .i32⟩
  | 104 => ⟨S32x32, .i32⟩
  | 105 => ⟨S_, .i32⟩
  | 106 => ⟨S_, .i32⟩
  | 107 => ⟨S_, .i32⟩
  | 108 => ⟨S32x32, .i32⟩
  | 109 => ⟨S32x32, .i32⟩
  | 110 => ⟨S_, .i32⟩
  | 111 => ⟨S32x32, .i32⟩
  | 112 => ⟨S32x32, .i32⟩
  | 113 => ⟨S_, .i32⟩
  | 114 => ⟨S32x32, .i32⟩
  | 115 => ⟨S32x32, .i32⟩
  | 116 => ⟨S1x64, .i32⟩
  | 117 => ⟨S64x1, .i32⟩
  | 118 => ⟨S64x64, .i32⟩
  | 119 => ⟨S64x64, .i32⟩
  | 120 => ⟨S64x64, .i32⟩
  | 121 => ⟨S_, .i32⟩
  | 122 => ⟨S_, .i32⟩
  | 123 => ⟨S_, .i32⟩
  | 124 => ⟨S64x64, .i32⟩
  | 125 => ⟨S64x64, .i32⟩
  | 126 => ⟨S_, .i32⟩
  | 127 => ⟨S64x64, .i32⟩
  | _ => ⟨S33024x12288, .bf16⟩

abbrev hbmTy0_1 (i : Nat) : BufTy := match i % 128 with
  | 0 => ⟨S64x64, .i32⟩
  | 1 => ⟨S_, .i32⟩
  | 2 => ⟨S64x64, .i32⟩
  | 3 => ⟨S64x64, .i32⟩
  | 4 => ⟨S64x64x1, .i32⟩
  | 5 => ⟨S16x15x64x64, .f32⟩
  | 6 => ⟨S32x32x1, .i32⟩
  | 7 => ⟨S16x32x32x64x64, .f32⟩
  | 8 => ⟨S16x32x64x32x64, .f32⟩
  | 9 => ⟨S16x2048x2048, .f32⟩
  | 10 => ⟨S16x16x2048x2048, .f32⟩
  | 11 => ⟨S1x16x2048x2048, .f32⟩
  | 12 => ⟨S16x16x2048x2048, .f32⟩
  | 13 => ⟨S16x16x2048x2048, .f32⟩
  | 14 => ⟨S_, .f32⟩
  | 15 => ⟨S_, .f32⟩
  | 16 => ⟨S16x16x2048x2048, .i1⟩
  | 17 => ⟨S16x16x2048x2048, .f32⟩
  | 18 => ⟨S16x16x2048x2048, .f32⟩
  | 19 => ⟨S16x16x2048x16, .f32⟩
  | 20 => ⟨S1x16x1x16, .f32⟩
  | 21 => ⟨S16x16x2048x16, .f32⟩
  | 22 => ⟨S16x16x2048x16, .f32⟩
  | 23 => ⟨S16x16x2048x2064, .f32⟩
  | 24 => ⟨S_, .f32⟩
  | 25 => ⟨S16x16x2048, .f32⟩
  | 26 => ⟨S_, .f32⟩
  | 27 => ⟨S16x16x2048, .f32⟩
  | 28 => ⟨S16x16x2048, .f32⟩
  | 29 => ⟨S16x16x2048x1, .f32⟩
  | 30 => ⟨S16x16x2048x2064, .f32⟩
  | 31 => ⟨S16x16x2048x2064, .f32⟩
  | 32 => ⟨S16x16x2048x2064, .f32⟩
  | 33 => ⟨S_, .f32⟩
  | 34 => ⟨S16x16x2048, .f32⟩
  | 35 => ⟨S16x16x2048x1, .f32⟩
  | 36 => ⟨S16x16x2048x2064, .f32⟩
  | 37 => ⟨S16x16x2048x2064, .f32⟩
  | 38 => ⟨S16x16x2048x2048, .f32⟩
  | 39 => ⟨S16x16x64x2048, .f32⟩
  | 40 => ⟨S16x2048x16x64, .f32⟩
  | 41 => ⟨S16x16x2048x16, .f32⟩
  | 42 => ⟨S16x16x64x2048, .f32⟩
  | 43 => ⟨S16x2048x16x64, .f32⟩
  | 44 => ⟨S16x2048x16x64, .f32⟩
  | 45 => ⟨S16x2064x16x64, .f32⟩
  | 46 => ⟨S33024x1024, .f32⟩
  | 47 => ⟨S33024x1024, .bf16⟩
  | _ => ⟨S33024x12288, .bf16⟩

abbrev hbmTy (i : Nat) : BufTy := match i / 128 with
  | 0 => hbmTy0_0 i
  | 1 => hbmTy0_1 i
  | _ => ⟨S33024x12288, .bf16⟩

abbrev bufTy : (tb : Table) → Fin (tcTables nBuf tb) → BufTy
  | .hbm, ⟨i, _⟩ => hbmTy i
  | _, _ => ⟨S33024x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst_0 : Ref sig .tc := ⟨.hbm, 26, rfl⟩
abbrev main_v22 : Ref sig .tc := ⟨.hbm, 27, rfl⟩
abbrev main_cst_1 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_2 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_c : Ref sig .tc := ⟨.hbm, 44, rfl⟩
abbrev main_v37 : Ref sig .tc := ⟨.hbm, 45, rfl⟩
abbrev main_v38 : Ref sig .tc := ⟨.hbm, 46, rfl⟩
abbrev main_c_3 : Ref sig .tc := ⟨.hbm, 47, rfl⟩
abbrev main_c_4 : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_v39 : Ref sig .tc := ⟨.hbm, 54, rfl⟩
abbrev main_c_5 : Ref sig .tc := ⟨.hbm, 55, rfl⟩
abbrev main_v40 : Ref sig .tc := ⟨.hbm, 56, rfl⟩
abbrev main_v41 : Ref sig .tc := ⟨.hbm, 57, rfl⟩
abbrev main_c_6 : Ref sig .tc := ⟨.hbm, 58, rfl⟩
abbrev main_c_7 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_c_8 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_c_9 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_c_10 : Ref sig .tc := ⟨.hbm, 105, rfl⟩
abbrev main_c_11 : Ref sig .tc := ⟨.hbm, 106, rfl⟩
abbrev main_call2_v0 : Ref sig .tc := ⟨.hbm, 107, rfl⟩
abbrev main_call2_v1 : Ref sig .tc := ⟨.hbm, 108, rfl⟩
abbrev main_call2_v2 : Ref sig .tc := ⟨.hbm, 109, rfl⟩
abbrev main_call2_v3 : Ref sig .tc := ⟨.hbm, 110, rfl⟩
abbrev main_call2_v4 : Ref sig .tc := ⟨.hbm, 111, rfl⟩
abbrev main_v80 : Ref sig .tc := ⟨.hbm, 112, rfl⟩
abbrev main_c_12 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_c_13 : Ref sig .tc := ⟨.hbm, 121, rfl⟩
abbrev main_c_14 : Ref sig .tc := ⟨.hbm, 122, rfl⟩
abbrev main_call3_v0 : Ref sig .tc := ⟨.hbm, 123, rfl⟩
abbrev main_call3_v1 : Ref sig .tc := ⟨.hbm, 124, rfl⟩
abbrev main_call3_v2 : Ref sig .tc := ⟨.hbm, 125, rfl⟩
abbrev main_call3_v3 : Ref sig .tc := ⟨.hbm, 126, rfl⟩
abbrev main_call3_v4 : Ref sig .tc := ⟨.hbm, 127, rfl⟩
abbrev main_v88 : Ref sig .tc := ⟨.hbm, 128, rfl⟩
abbrev main_c_15 : Ref sig .tc := ⟨.hbm, 129, rfl⟩
abbrev main_v89 : Ref sig .tc := ⟨.hbm, 130, rfl⟩
abbrev main_v90 : Ref sig .tc := ⟨.hbm, 131, rfl⟩
abbrev main_call4_v0 : Ref sig .tc := ⟨.hbm, 132, rfl⟩
abbrev main_v91 : Ref sig .tc := ⟨.hbm, 133, rfl⟩
abbrev main_call5_v0 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_cst_16 : Ref sig .tc := ⟨.hbm, 142, rfl⟩
abbrev main_call6_v0 : Ref sig .tc := ⟨.hbm, 143, rfl⟩
abbrev main_call6_v1 : Ref sig .tc := ⟨.hbm, 144, rfl⟩
abbrev main_call6_v2 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_cst_17 : Ref sig .tc := ⟨.hbm, 152, rfl⟩
abbrev main_v105 : Ref sig .tc := ⟨.hbm, 153, rfl⟩
abbrev main_cst_18 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_cst_19 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩

abbrev nD : Nat := 1
abbrev τ : Topo := Topo.v7x

variable {F : FTy → Type} [FloatOps F]
-- ==== Kernel2.lean ====
abbrev S33024x2048 : Shape := ⟨2, ![33024, 2048]⟩
abbrev S2048 : Shape := ⟨1, ![2048]⟩
abbrev S2048x5632 : Shape := ⟨2, ![2048, 5632]⟩
abbrev S5632x2048 : Shape := ⟨2, ![5632, 2048]⟩
abbrev S1x2048 : Shape := ⟨2, ![1, 2048]⟩
abbrev S768x2048 : Shape := ⟨2, ![768, 2048]⟩
abbrev S2048x512 : Shape := ⟨2, ![2048, 512]⟩
abbrev S512x2048 : Shape := ⟨2, ![512, 2048]⟩
abbrev S16x2048 : Shape := ⟨2, ![16, 2048]⟩
abbrev S16 : Shape := ⟨1, ![16]⟩
abbrev S16x1 : Shape := ⟨2, ![16, 1]⟩
abbrev S768x512 : Shape := ⟨2, ![768, 512]⟩

abbrev nBuf : Space → Nat
  | .hbm => 7
  | .vmem => 12
  | .smem => 0
  | _ => 0

abbrev bufTy : (tb : Table) → Fin (tcTables nBuf tb) → BufTy
  | .hbm, ⟨0, _⟩ => ⟨S33024x2048, .f32⟩
  | .hbm, ⟨1, _⟩ => ⟨S2048, .f32⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S1x2048, .f32⟩
  | .hbm, ⟨6, _⟩ => ⟨S33024x2048, .f32⟩
  | .local _ .vmem, ⟨0, _⟩ => ⟨S768x2048, .f32⟩
  | .local _ .vmem, ⟨1, _⟩ => ⟨S768x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S768x2048, .f32⟩
  | .local _ .vmem, ⟨10, _⟩ => ⟨S768x2048, .f32⟩
  | .local _ .vmem, ⟨11, _⟩ => ⟨S768x2048, .bf16⟩
  | _, _ => ⟨S33024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![43, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_19 : BitVec 32 := 0#32
  let c48_i32 : BitVec 32 := 48#32
  let v26 : BitVec 32 := Scalar.addi c0_i32_19 c48_i32
  let c1_i32 : BitVec 32 := 1#32
  ⟨c0_i32_19, v26, c1_i32⟩
def k0_mult1 (k0_t1 : Fin k0_t1_loop.trips) : BitVec 32 :=
  let c0_i32_19 : BitVec 32 := 0#32
  let c1_i32 : BitVec 32 := 1#32
  let arg9 : BitVec 32 := Scf.iv c0_i32_19 c1_i32 k0_t1
  let c16_i32 : BitVec 32 := 16#32
  let v29 : BitVec 32 := Scalar.muli arg9 c16_i32
  v29
def k0_off1 (k0_t1 : Fin k0_t1_loop.trips) : Fin 2 → Nat :=
  let c0_i32_19 : BitVec 32 := 0#32
  let c1_i32 : BitVec 32 := 1#32
  let arg9 : BitVec 32 := Scf.iv c0_i32_19 c1_i32 k0_t1
  let c16_i32 : BitVec 32 := 16#32
  let v29 : BitVec 32 := Scalar.muli arg9 c16_i32
  let v30 : BitVec 32 := v29
  let v31 : Index := Scalar.indexCast v30
  let c0_25 : Index := 0#32
  ![v31.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S768x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2.lean ====
abbrev S33024x2048 : Shape := ⟨2, ![33024, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩
abbrev S33024 : Shape := ⟨1, ![33024]⟩
abbrev S33024x1 : Shape := ⟨2, ![33024, 1]⟩
abbrev S1x2048 : Shape := ⟨2, ![1, 2048]⟩
abbrev S33024x5632 : Shape := ⟨2, ![33024, 5632]⟩

abbrev nBuf : Space → Nat
  | .hbm => 38
  | .vmem => 0
  | .smem => 0
  | _ => 0

abbrev bufTy : (tb : Table) → Fin (tcTables nBuf tb) → BufTy
  | .hbm, ⟨0, _⟩ => ⟨S33024x2048, .f32⟩
  | .hbm, ⟨1, _⟩ => ⟨S2048, .f32⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S2048x5632, .f32⟩
  | .hbm, ⟨6, _⟩ => ⟨S2048x5632, .f32⟩
  | .hbm, ⟨7, _⟩ => ⟨S5632x2048, .f32⟩
  | .hbm, ⟨8, _⟩ => ⟨S33024x2048, .f32⟩
  | .hbm, ⟨9, _⟩ => ⟨S_, .f32⟩
  | .hbm, ⟨10, _⟩ => ⟨S33024, .f32⟩
  | .hbm, ⟨11, _⟩ => ⟨S33024x1, .f32⟩
  | .hbm, ⟨12, _⟩ => ⟨S_, .f32⟩
  | .hbm, ⟨13, _⟩ => ⟨S33024x1, .f32⟩
  | .hbm, ⟨14, _⟩ => ⟨S33024x1, .f32⟩
  | .hbm, ⟨15, _⟩ => ⟨S_, .f32⟩
  | .hbm, ⟨16, _⟩ => ⟨S33024x1, .f32⟩
  | .hbm, ⟨17, _⟩ => ⟨S33024x1, .f32⟩
  | .hbm, ⟨18, _⟩ => ⟨S33024x1, .f32⟩
  | .hbm, ⟨19, _⟩ => ⟨S33024x2048, .f32⟩
  | .hbm, ⟨20, _⟩ => ⟨S33024x2048, .f32⟩
  | .hbm, ⟨21, _⟩ => ⟨S1x2048, .f32⟩
  | .hbm, ⟨22, _⟩ => ⟨S33024x2048, .f32⟩
  | .hbm, ⟨23, _⟩ => ⟨S33024x2048, .f32⟩
  | .hbm, ⟨24, _⟩ => ⟨S33024x5632, .f32⟩
  | .hbm, ⟨25, _⟩ => ⟨S33024x5632, .f32⟩
  | .hbm, ⟨26, _⟩ => ⟨S33024x5632, .f32⟩
  | .hbm, ⟨27, _⟩ => ⟨S_, .f32⟩
  | .hbm, ⟨28, _⟩ => ⟨S33024x5632, .f32⟩
  | .hbm, ⟨29, _⟩ => ⟨S33024x5632, .f32⟩
  | .hbm, ⟨30, _⟩ => ⟨S_, .f32⟩
  | .hbm, ⟨31, _⟩ => ⟨S33024x5632, .f32⟩
  | .hbm, ⟨32, _⟩ => ⟨S33024x5632, .f32⟩
  | .hbm, ⟨33, _⟩ => ⟨S33024x5632, .f32⟩
  | .hbm, ⟨34, _⟩ => ⟨S33024x5632, .f32⟩
  | .hbm, ⟨35, _⟩ => ⟨S33024x5632, .f32⟩
  | .hbm, ⟨36, _⟩ => ⟨S33024x2048, .f32⟩
  | .hbm, ⟨37, _⟩ => ⟨S33024x2048, .f32⟩
  | _, _ => ⟨S33024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩

abbrev nD : Nat := 1
abbrev τ : Topo := Topo.v7x

variable {F : FTy → Type} [FloatOps F]
-- ==== Kernel3.lean ====
abbrev S33024x2048 : Shape := ⟨2, ![33024, 2048]⟩
abbrev S2048 : Shape := ⟨1, ![2048]⟩
abbrev S2x2048x12288 : Shape := ⟨3, ![2, 2048, 12288]⟩
abbrev S1x2048 : Shape := ⟨2, ![1, 2048]⟩
abbrev S33024x12288 : Shape := ⟨2, ![33024, 12288]⟩
abbrev S768x2048 : Shape := ⟨2, ![768, 2048]⟩
abbrev S1x2048x2048 : Shape := ⟨3, ![1, 2048, 2048]⟩
abbrev S16x2048 : Shape := ⟨2, ![16, 2048]⟩
abbrev S16 : Shape := ⟨1, ![16]⟩
abbrev S16x1 : Shape := ⟨2, ![16, 1]⟩
abbrev S2048x2048 : Shape := ⟨2, ![2048, 2048]⟩

abbrev nBuf : Space → Nat
  | .hbm => 5
  | .vmem => 8
  | .smem => 0
  | _ => 0

abbrev bufTy : (tb : Table) → Fin (tcTables nBuf tb) → BufTy
  | .hbm, ⟨0, _⟩ => ⟨S33024x2048, .f32⟩
  | .hbm, ⟨1, _⟩ => ⟨S2048, .f32⟩
  | .hbm, ⟨2, _⟩ => ⟨S2x2048x12288, .bf16⟩
  | .hbm, ⟨3, _⟩ => ⟨S1x2048, .f32⟩
  | .hbm, ⟨4, _⟩ => ⟨S33024x12288, .bf16⟩
  | .local _ .vmem, ⟨0, _⟩ => ⟨S768x2048, .f32⟩
  | .local _ .vmem, ⟨1, _⟩ => ⟨S768x2048, .f32⟩
  | .local _ .vmem, ⟨2, _⟩ => ⟨S1x2048, .f32⟩
  | .local _ .vmem, ⟨3, _⟩ => ⟨S1x2048x2048, .bf16⟩
  | .local _ .vmem, ⟨4, _⟩ => ⟨S1x2048x2048, .bf16⟩
  | .local _ .vmem, ⟨5, _⟩ => ⟨S768x2048, .bf16⟩
  | .local _ .vmem, ⟨6, _⟩ => ⟨S768x2048, .bf16⟩
  | .local _ .vmem, ⟨7, _⟩ => ⟨S768x2048, .bf16⟩
  | _, _ => ⟨S33024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![43, 6], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_9 : BitVec 32 := 0#32
  let c48_i32 : BitVec 32 := 48#32
  let v11 : BitVec 32 := Scalar.addi c0_i32_9 c48_i32
  let c1_i32 : BitVec 32 := 1#32
  ⟨c0_i32_9, v11, c1_i32⟩
def k0_mult1 (k0_t1 : Fin k0_t1_loop.trips) : BitVec 32 :=
  let c0_i32_9 : BitVec 32 := 0#32
  let c1_i32 : BitVec 32 := 1#32
  let arg7 : BitVec 32 := Scf.iv c0_i32_9 c1_i32 k0_t1
  let c16_i32 : BitVec 32 := 16#32
  let v12 : BitVec 32 := Scalar.muli arg7 c16_i32
  v12
def k0_off1 (k0_t1 : Fin k0_t1_loop.trips) : Fin 2 → Nat :=
  let c0_i32_9 : BitVec 32 := 0#32
  let c1_i32 : BitVec 32 := 1#32
  let arg7 : BitVec 32 := Scf.iv c0_i32_9 c1_i32 k0_t1
  let c16_i32 : BitVec 32 := 16#32
  let v12 : BitVec 32 := Scalar.muli arg7 c16_i32
  let v13 : BitVec 32 := v12
  let v14 : Index := Scalar.indexCast v13
  let c0_11 : Index := 0#32
  ![v14.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S768x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3.lean ====
abbrev S33024x2048 : Shape := ⟨2, ![33024, 2048]⟩
abbrev S2048 : Shape := ⟨1, ![2048]⟩
abbrev S2x2048x12288 : Shape := ⟨3, ![2, 2048, 12288]⟩
abbrev S_ : Shape := ⟨0, ![]⟩
abbrev S33024 : Shape := ⟨1, ![33024]⟩
abbrev S33024x1 : Shape := ⟨2, ![33024, 1]⟩
abbrev S1x2048 : Shape := ⟨2, ![1, 2048]⟩
abbrev S1x2048x12288 : Shape := ⟨3, ![1, 2048, 12288]⟩
abbrev S2048x12288 : Shape := ⟨2, ![2048, 12288]⟩
abbrev S33024x12288 : Shape := ⟨2, ![33024, 12288]⟩

abbrev nBuf : Space → Nat
  | .hbm => 24
  | .vmem => 0
  | .smem => 0
  | _ => 0

abbrev bufTy : (tb : Table) → Fin (tcTables nBuf tb) → BufTy
  | .hbm, ⟨0, _⟩ => ⟨S33024x2048, .f32⟩
  | .hbm, ⟨1, _⟩ => ⟨S2048, .f32⟩
  | .hbm, ⟨2, _⟩ => ⟨S2x2048x12288, .bf16⟩
  | .hbm, ⟨3, _⟩ => ⟨S33024x2048, .f32⟩
  | .hbm, ⟨4, _⟩ => ⟨S_, .f32⟩
  | .hbm, ⟨5, _⟩ => ⟨S33024, .f32⟩
  | .hbm, ⟨6, _⟩ => ⟨S33024x1, .f32⟩
  | .hbm, ⟨7, _⟩ => ⟨S_, .f32⟩
  | .hbm, ⟨8, _⟩ => ⟨S33024x1, .f32⟩
  | .hbm, ⟨9, _⟩ => ⟨S33024x1, .f32⟩
  | .hbm, ⟨10, _⟩ => ⟨S_, .f32⟩
  | .hbm, ⟨11, _⟩ => ⟨S33024x1, .f32⟩
  | .hbm, ⟨12, _⟩ => ⟨S33024x1, .f32⟩
  | .hbm, ⟨13, _⟩ => ⟨S33024x1, .f32⟩
  | .hbm, ⟨14, _⟩ => ⟨S33024x2048, .f32⟩
  | .hbm, ⟨15, _⟩ => ⟨S33024x2048, .f32⟩
  | .hbm, ⟨16, _⟩ => ⟨S1x2048, .f32⟩
  | .hbm, ⟨17, _⟩ => ⟨S33024x2048, .f32⟩
  | .hbm, ⟨18, _⟩ => ⟨S33024x2048, .f32⟩
  | .hbm, ⟨19, _⟩ => ⟨S1x2048x12288, .bf16⟩
  | .hbm, ⟨20, _⟩ => ⟨S2048x12288, .bf16⟩
  | .hbm, ⟨21, _⟩ => ⟨S2048x12288, .f32⟩
  | .hbm, ⟨22, _⟩ => ⟨S33024x12288, .f32⟩
  | .hbm, ⟨23, _⟩ => ⟨S33024x12288, .bf16⟩
  | _, _ => ⟨S33024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel4.lean ====
abbrev S33024x2048 : Shape := ⟨2, ![33024, 2048]⟩
abbrev S33024x1024 : Shape := ⟨2, ![33024, 1024]⟩
abbrev S33024x512 : Shape := ⟨2, ![33024, 512]⟩
abbrev S33024x12288 : Shape := ⟨2, ![33024, 12288]⟩
abbrev S1024x2048 : Shape := ⟨2, ![1024, 2048]⟩
abbrev S512x2048 : Shape := ⟨2, ![512, 2048]⟩
abbrev S2048x2048 : Shape := ⟨2, ![2048, 2048]⟩
abbrev S256x2048 : Shape := ⟨2, ![256, 2048]⟩
abbrev S256x1024 : Shape := ⟨2, ![256, 1024]⟩
abbrev S256x512 : Shape := ⟨2, ![256, 512]⟩

abbrev nBuf : Space → Nat
  | .hbm => 10
  | .vmem => 20
  | .smem => 0
  | _ => 0

abbrev bufTy : (tb : Table) → Fin (tcTables nBuf tb) → BufTy
  | .hbm, ⟨0, _⟩ => ⟨S33024x2048, .f32⟩
  | .hbm, ⟨1, _⟩ => ⟨S33024x1024, .bf16⟩
  | .hbm, ⟨2, _⟩ => ⟨S33024x512, .bf16⟩
  | .hbm, ⟨3, _⟩ => ⟨S33024x512, .bf16⟩
  | .hbm, ⟨4, _⟩ => ⟨S33024x12288, .bf16⟩
  | .hbm, ⟨5, _⟩ => ⟨S1024x2048, .bf16⟩
  | .hbm, ⟨6, _⟩ => ⟨S512x2048, .bf16⟩
  | .hbm, ⟨7, _⟩ => ⟨S512x2048, .bf16⟩
  | .hbm, ⟨8, _⟩ => ⟨S2048x2048, .bf16⟩
  | .hbm, ⟨9, _⟩ => ⟨S33024x2048, .f32⟩
  | .local _ .vmem, ⟨0, _⟩ => ⟨S256x2048, .f32⟩
  | .local _ .vmem, ⟨1, _⟩ => ⟨S256x2048, .f32⟩
  | .local _ .vmem, ⟨2, _⟩ => ⟨S256x1024, .bf16⟩
  | .local _ .vmem, ⟨3, _⟩ => ⟨S256x1024, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S1024x2048, .bf16⟩
  | .local _ .vmem, ⟨15, _⟩ => ⟨S512x2048, .bf16⟩
  | .local _ .vmem, ⟨16, _⟩ => ⟨S512x2048, .bf16⟩
  | .local _ .vmem, ⟨17, _⟩ => ⟨S2048x2048, .bf16⟩
  | .local _ .vmem, ⟨18, _⟩ => ⟨S256x2048, .f32⟩
  | .local _ .vmem, ⟨19, _⟩ => ⟨S256x2048, .f32⟩
  | _, _ => ⟨S33024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![129, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]

abbrev stage0_8 : Fin 1 → Memref sig .tc .vmem S512x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true]

abbrev stage0_9 : Fin 1 → Memref sig .tc .vmem S512x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, true]

abbrev stage0_10 : Fin 1 → Memref sig .tc .vmem S2048x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, true]

abbrev stage0_11 : Fin 2 → Memref sig .tc .vmem S256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== Reference4.lean ====
abbrev S33024x2048 : Shape := ⟨2, ![33024, 2048]⟩
abbrev S33024x1024 : Shape := ⟨2, ![33024, 1024]⟩
abbrev S33024x512 : Shape := ⟨2, ![33024, 512]⟩
abbrev S33024x12288 : Shape := ⟨2, ![33024, 12288]⟩
abbrev S1024x2048 : Shape := ⟨2, ![1024, 2048]⟩
abbrev S512x2048 : Shape := ⟨2, ![512, 2048]⟩
abbrev S2048x2048 : Shape := ⟨2, ![2048, 2048]⟩
abbrev S_ : Shape := ⟨0, ![]⟩

abbrev nBuf : Space → Nat
  | .hbm => 54
  | .vmem => 0
  | .smem => 0
  | _ => 0

abbrev bufTy : (tb : Table) → Fin (tcTables nBuf tb) → BufTy
  | .hbm, ⟨0, _⟩ => ⟨S33024x2048, .f32⟩
  | .hbm, ⟨1, _⟩ => ⟨S33024x1024, .bf16⟩
  | .hbm, ⟨2, _⟩ => ⟨S33024x512, .bf16⟩
  | .hbm, ⟨3, _⟩ => ⟨S33024x512, .bf16⟩
  | .hbm, ⟨4, _⟩ => ⟨S33024x12288, .bf16⟩
  | .hbm, ⟨5, _⟩ => ⟨S1024x2048, .bf16⟩
  | .hbm, ⟨6, _⟩ => ⟨S512x2048, .bf16⟩
  | .hbm, ⟨7, _⟩ => ⟨S512x2048, .bf16⟩
  | .hbm, ⟨8, _⟩ => ⟨S2048x2048, .bf16⟩
  | .hbm, ⟨9, _⟩ => ⟨S33024x1024, .f32⟩
  | .hbm, ⟨10, _⟩ => ⟨S33024x512, .f32⟩
  | .hbm, ⟨11, _⟩ => ⟨S33024x512, .f32⟩
  | .hbm, ⟨12, _⟩ => ⟨S33024x12288, .f32⟩
  | .hbm, ⟨13, _⟩ => ⟨S1024x2048, .f32⟩
  | .hbm, ⟨14, _⟩ => ⟨S512x2048, .f32⟩
  | .hbm, ⟨15, _⟩ => ⟨S512x2048, .f32⟩
  | .hbm, ⟨16, _⟩ => ⟨S2048x2048, .f32⟩
  | .hbm, ⟨17, _⟩ => ⟨S33024x2048, .f32⟩
  | .hbm, ⟨18, _⟩ => ⟨S33024x2048, .f32⟩
  | .hbm, ⟨19, _⟩ => ⟨S33024x2048, .f32⟩
  | .hbm, ⟨20, _⟩ => ⟨S33024x2048, .f32⟩
  | .hbm, ⟨21, _⟩ => ⟨S33024x2048, .f32⟩
  | .hbm, ⟨22, _⟩ => ⟨S_, .f32⟩
  | .hbm, ⟨23, _⟩ => ⟨S33024x2048, .f32⟩
  | .hbm, ⟨24, _⟩ => ⟨S33024x2048, .f32⟩
  | .hbm, ⟨25, _⟩ => ⟨S_, .f32⟩
  | .hbm, ⟨26, _⟩ => ⟨S33024x2048, .f32⟩
  | .hbm, ⟨27, _⟩ => ⟨S33024x2048, .f32⟩
  | .hbm, ⟨28, _⟩ => ⟨S33024x2048, .f32⟩
  | .hbm, ⟨29, _⟩ => ⟨S33024x2048, .f32⟩
  | .hbm, ⟨30, _⟩ => ⟨S33024x2048, .f32⟩
  | .hbm, ⟨31, _⟩ => ⟨S33024x2048, .f32⟩
  | .hbm, ⟨32, _⟩ => ⟨S_, .f32⟩
  | .hbm, ⟨33, _⟩ => ⟨S33024x2048, .f32⟩
  | .hbm, ⟨34, _⟩ => ⟨S33024x2048, .f32⟩
  | .hbm, ⟨35, _⟩ => ⟨S_, .f32⟩
  | .hbm, ⟨36, _⟩ => ⟨S33024x2048, .f32⟩
  | .hbm, ⟨37, _⟩ => ⟨S33024x2048, .f32⟩
  | .hbm, ⟨38, _⟩ => ⟨S33024x2048, .f32⟩
  | .hbm, ⟨39, _⟩ => ⟨S33024x2048, .f32⟩
  | .hbm, ⟨40, _⟩ => ⟨S33024x2048, .f32⟩
  | .hbm, ⟨41, _⟩ => ⟨S33024x2048, .f32⟩
  | .hbm, ⟨42, _⟩ => ⟨S33024x2048, .f32⟩
  | .hbm, ⟨43, _⟩ => ⟨S_, .f32⟩
  | .hbm, ⟨44, _⟩ => ⟨S33024x2048, .f32⟩
  | .hbm, ⟨45, _⟩ => ⟨S33024x2048, .f32⟩
  | .hbm, ⟨46, _⟩ => ⟨S_, .f32⟩
  | .hbm, ⟨47, _⟩ => ⟨S33024x2048, .f32⟩
  | .hbm, ⟨48, _⟩ => ⟨S33024x2048, .f32⟩
  | .hbm, ⟨49, _⟩ => ⟨S33024x2048, .f32⟩
  | .hbm, ⟨50, _⟩ => ⟨S33024x2048, .f32⟩
  | .hbm, ⟨51, _⟩ => ⟨S33024x2048, .f32⟩
  | .hbm, ⟨52, _⟩ => ⟨S33024x2048, .f32⟩
  | .hbm, ⟨53, _⟩ => ⟨S33024x2048, .f32⟩
  | _, _ => ⟨S33024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]
-- ==== Kernel5.lean ====
abbrev S54272x2048 : Shape := ⟨2, ![54272, 2048]⟩
abbrev S53 : Shape := ⟨1, ![53]⟩
abbrev S8x2048x7168 : Shape := ⟨3, ![8, 2048, 7168]⟩
abbrev S8x7168x2048 : Shape := ⟨3, ![8, 7168, 2048]⟩
abbrev S74752x2048 : Shape := ⟨2, ![74752, 2048]⟩
abbrev S1024x2048 : Shape := ⟨2, ![1024, 2048]⟩
abbrev S1x2048x512 : Shape := ⟨3, ![1, 2048, 512]⟩
abbrev S1 : Shape := ⟨1, ![1]⟩
abbrev S1x512x2048 : Shape := ⟨3, ![1, 512, 2048]⟩
abbrev S2048x512 : Shape := ⟨2, ![2048, 512]⟩
abbrev S1024x512 : Shape := ⟨2, ![1024, 512]⟩
abbrev S512x2048 : Shape := ⟨2, ![512, 2048]⟩
abbrev S512x512 : Shape := ⟨2, ![512, 512]⟩

abbrev nBuf : Space → Nat
  | .hbm => 6
  | .vmem => 11
  | .smem => 2
  | _ => 0

abbrev bufTy : (tb : Table) → Fin (tcTables nBuf tb) → BufTy
  | .hbm, ⟨0, _⟩ => ⟨S54272x2048, .bf16⟩
  | .hbm, ⟨1, _⟩ => ⟨S8x2048x7168, .f32⟩
  | .hbm, ⟨2, _⟩ => ⟨S8x2048x7168, .f32⟩
  | .hbm, ⟨3, _⟩ => ⟨S8x7168x2048, .f32⟩
  | .hbm, ⟨4, _⟩ => ⟨S74752x2048, .bf16⟩
  | .hbm, ⟨5, _⟩ => ⟨S74752x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x512x2048, .f32⟩
  | .local _ .vmem, ⟨7, _⟩ => ⟨S1x512x2048, .f32⟩
  | .local _ .vmem, ⟨8, _⟩ => ⟨S1024x2048, .bf16⟩
  | .local _ .vmem, ⟨9, _⟩ => ⟨S1024x2048, .bf16⟩
  | .local _ .vmem, ⟨10, _⟩ => ⟨S1024x2048, .f32⟩
  | .local _ .smem, ⟨0, _⟩ => ⟨S53, .i32⟩
  | .local _ .smem, ⟨1, _⟩ => ⟨S53, .i32⟩
  | _, _ => ⟨S54272x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![53, 14], ![false, false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond4 (i : grid0.Coords) : BitVec 1 :=
  let arg1 : BitVec 32 := BitVec.ofNat 32 (i 1).val
  let c13_i32 : BitVec 32 := 13#32
  let v11 : BitVec 1 := Scalar.cmpi .eq arg1 c13_i32
  let v12 : BitVec 32 := Scalar.extui v11
  let c0_i32_3 : BitVec 32 := 0#32
  let v13 : BitVec 1 := Scalar.cmpi .ne v12 c0_i32_3
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S53.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S53) ![v0.toNat] S1.size (k0_off1_inb i)) numel1_S1
  let v2 : Index := Scalar.indexCast arg0
  let v3 : BitVec 32 := pf.at 1 (Rect.unit (s := S53) ![v2.toNat] S1.size (k0_off1_inb i)) numel1_S1
  let c0_i32 : BitVec 32 := 0#32
  let v4 : BitVec 1 := Scalar.cmpi .sgt v3 c0_i32
  let c13_i32 : BitVec 32 := 13#32
  let v5 : BitVec 32 := Scalar.select v4 arg1 c13_i32
  let c0_i32_0 : BitVec 32 := 0#32
  let c0_i32_1 : BitVec 32 := 0#32
  ![v1.toNat, c0_i32_0.toNat, v5.toNat]

def cc0_transform_2 (k0_off1_inb : ∀ i : grid0.Coords, ∀ a, (k0_off1 i) a + S1.size a ≤ S53.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S53) ![v0.toNat] S1.size (k0_off1_inb i)) numel1_S1
  let v2 : Index := Scalar.indexCast arg0
  let v3 : BitVec 32 := pf.at 1 (Rect.unit (s := S53) ![v2.toNat] S1.size (k0_off1_inb i)) numel1_S1
  let c0_i32 : BitVec 32 := 0#32
  let v4 : BitVec 1 := Scalar.cmpi .sgt v3 c0_i32
  let c13_i32 : BitVec 32 := 13#32
  let v5 : BitVec 32 := Scalar.select v4 arg1 c13_i32
  let c0_i32_0 : BitVec 32 := 0#32
  let c0_i32_1 : BitVec 32 := 0#32
  ![v1.toNat, c0_i32_0.toNat, v5.toNat]

def cc0_transform_3 (k0_off1_inb : ∀ i : grid0.Coords, ∀ a, (k0_off1 i) a + S1.size a ≤ S53.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S53) ![v0.toNat] S1.size (k0_off1_inb i)) numel1_S1
  let v2 : Index := Scalar.indexCast arg0
  let v3 : BitVec 32 := pf.at 1 (Rect.unit (s := S53) ![v2.toNat] S1.size (k0_off1_inb i)) numel1_S1
  let c0_i32 : BitVec 32 := 0#32
  let v4 : BitVec 1 := Scalar.cmpi .sgt v3 c0_i32
  let c13_i32 : BitVec 32 := 13#32
  let v5 : BitVec 32 := Scalar.select v4 arg1 c13_i32
  let c0_i32_0 : BitVec 32 := 0#32
  let c0_i32_1 : BitVec 32 := 0#32
  ![v1.toNat, v5.toNat, c0_i32_0.toNat]

def cc0_transform_5 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  let c0_i32_0 : BitVec 32 := 0#32
  ![v0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference5.lean ====
abbrev S54272x2048 : Shape := ⟨2, ![54272, 2048]⟩
abbrev S53 : Shape := ⟨1, ![53]⟩
abbrev S8x2048x7168 : Shape := ⟨3, ![8, 2048, 7168]⟩
abbrev S8x7168x2048 : Shape := ⟨3, ![8, 7168, 2048]⟩
abbrev S74752x2048 : Shape := ⟨2, ![74752, 2048]⟩
abbrev S53x1024x2048 : Shape := ⟨3, ![53, 1024, 2048]⟩
abbrev S53x1 : Shape := ⟨2, ![53, 1]⟩
abbrev S53x2048x7168 : Shape := ⟨3, ![53, 2048, 7168]⟩
abbrev S53x7168x2048 : Shape := ⟨3, ![53, 7168, 2048]⟩
abbrev S53x1024x7168 : Shape := ⟨3, ![53, 1024, 7168]⟩
abbrev S_ : Shape := ⟨0, ![]⟩
abbrev S1024 : Shape := ⟨1, ![1024]⟩
abbrev S1x1024 : Shape := ⟨2, ![1, 1024]⟩
abbrev S53x1024 : Shape := ⟨2, ![53, 1024]⟩
abbrev S53x1024x1 : Shape := ⟨3, ![53, 1024, 1]⟩
abbrev S20480x2048 : Shape := ⟨2, ![20480, 2048]⟩

abbrev nBuf : Space → Nat
  | .hbm => 56
  | .vmem => 0
  | .smem => 0
  | _ => 0

abbrev bufTy : (tb : Table) → Fin (tcTables nBuf tb) → BufTy
  | .hbm, ⟨0, _⟩ => ⟨S54272x2048, .bf16⟩
  | .hbm, ⟨1, _⟩ => ⟨S53, .i32⟩
  | .hbm, ⟨2, _⟩ => ⟨S53, .i32⟩
  | .hbm, ⟨3, _⟩ => ⟨S8x2048x7168, .f32⟩
  | .hbm, ⟨4, _⟩ => ⟨S8x2048x7168, .f32⟩
  | .hbm, ⟨5, _⟩ => ⟨S8x7168x2048, .f32⟩
  | .hbm, ⟨6, _⟩ => ⟨S74752x2048, .bf16⟩
  | .hbm, ⟨7, _⟩ => ⟨S54272x2048, .f32⟩
  | .hbm, ⟨8, _⟩ => ⟨S53x1024x2048, .f32⟩
  | .hbm, ⟨9, _⟩ => ⟨S53x1, .i32⟩
  | .hbm, ⟨10, _⟩ => ⟨S53x2048x7168, .f32⟩
  | .hbm, ⟨11, _⟩ => ⟨S53x1, .i32⟩
  | .hbm, ⟨12, _⟩ => ⟨S53x2048x7168, .f32⟩
  | .hbm, ⟨13, _⟩ => ⟨S53x1, .i32⟩
  | .hbm, ⟨14, _⟩ => ⟨S53x7168x2048, .f32⟩
  | .hbm, ⟨15, _⟩ => ⟨S53x1024x7168, .f32⟩
  | .hbm, ⟨16, _⟩ => ⟨S53x1024x7168, .f32⟩
  | .hbm, ⟨17, _⟩ => ⟨S53x1024x7168, .f32⟩
  | .hbm, ⟨18, _⟩ => ⟨S_, .f32⟩
  | .hbm, ⟨19, _⟩ => ⟨S53x1024x7168, .f32⟩
  | .hbm, ⟨20, _⟩ => ⟨S53x1024x7168, .f32⟩
  | .hbm, ⟨21, _⟩ => ⟨S_, .f32⟩
  | .hbm, ⟨22, _⟩ => ⟨S53x1024x7168, .f32⟩
  | .hbm, ⟨23, _⟩ => ⟨S53x1024x7168, .f32⟩
  | .hbm, ⟨24, _⟩ => ⟨S53x1024x7168, .f32⟩
  | .hbm, ⟨25, _⟩ => ⟨S53x1024x7168, .f32⟩
  | .hbm, ⟨26, _⟩ => ⟨S53x1024x7168, .f32⟩
  | .hbm, ⟨27, _⟩ => ⟨S53x1024x2048, .f32⟩
  | .hbm, ⟨28, _⟩ => ⟨S1024, .i32⟩
  | .hbm, ⟨29, _⟩ => ⟨S1x1024, .i32⟩
  | .hbm, ⟨30, _⟩ => ⟨S_, .i32⟩
  | .hbm, ⟨31, _⟩ => ⟨S1x1024, .i32⟩
  | .hbm, ⟨32, _⟩ => ⟨S1x1024, .i1⟩
  | .hbm, ⟨33, _⟩ => ⟨S53x1, .i32⟩
  | .hbm, ⟨34, _⟩ => ⟨S_, .i32⟩
  | .hbm, ⟨35, _⟩ => ⟨S53x1, .i32⟩
  | .hbm, ⟨36, _⟩ => ⟨S53x1, .i1⟩
  | .hbm, ⟨37, _⟩ => ⟨S53x1, .i32⟩
  | .hbm, ⟨38, _⟩ => ⟨S_, .i32⟩
  | .hbm, ⟨39, _⟩ => ⟨S53x1, .i32⟩
  | .hbm, ⟨40, _⟩ => ⟨S53x1, .i1⟩
  | .hbm, ⟨41, _⟩ => ⟨S53x1024, .i1⟩
  | .hbm, ⟨42, _⟩ => ⟨S53x1024, .i1⟩
  | .hbm, ⟨43, _⟩ => ⟨S53x1024, .i1⟩
  | .hbm, ⟨44, _⟩ => ⟨S53x1024, .i1⟩
  | .hbm, ⟨45, _⟩ => ⟨S53x1024, .i1⟩
  | .hbm, ⟨46, _⟩ => ⟨S53x1024x1, .i1⟩
  | .hbm, ⟨47, _⟩ => ⟨S_, .f32⟩
  | .hbm, ⟨48, _⟩ => ⟨S_, .f32⟩
  | .hbm, ⟨49, _⟩ => ⟨S53x1024x2048, .i1⟩
  | .hbm, ⟨50, _⟩ => ⟨S53x1024x2048, .f32⟩
  | .hbm, ⟨51, _⟩ => ⟨S53x1024x2048, .f32⟩
  | .hbm, ⟨52, _⟩ => ⟨S54272x2048, .f32⟩
  | .hbm, ⟨53, _⟩ => ⟨S54272x2048, .bf16⟩
  | .hbm, ⟨54, _⟩ => ⟨S20480x2048, .bf16⟩
  | .hbm, ⟨55, _⟩ => ⟨S74752x2048, .bf16⟩
  | _, _ => ⟨S54272x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_call0_v0 : Ref sig .tc := ⟨.hbm, 9, rfl⟩
abbrev main_v2 : Ref sig .tc := ⟨.hbm, 10, rfl⟩
abbrev main_call1_v0 : Ref sig .tc := ⟨.hbm, 11, rfl⟩
abbrev main_v3 : Ref sig .tc := ⟨.hbm, 12, rfl⟩
abbrev main_call2_v0 : Ref sig .tc := ⟨.hbm, 13, rfl⟩
abbrev main_v4 : Ref sig .tc := ⟨.hbm, 14, rfl⟩
abbrev main_v5 : Ref sig .tc := ⟨.hbm, 15, rfl⟩
abbrev main_call3_v0 : Ref sig .tc := ⟨.hbm, 16, rfl⟩
abbrev main_call3_v1 : Ref sig .tc := ⟨.hbm, 17, rfl⟩
abbrev main_call3_cst : Ref sig .tc := ⟨.hbm, 18, rfl⟩
abbrev main_call3_v2 : Ref sig .tc := ⟨.hbm, 19, rfl⟩
abbrev main_call3_v3 : Ref sig .tc := ⟨.hbm, 20, rfl⟩
abbrev main_call3_cst_0 : Ref sig .tc := ⟨.hbm, 21, rfl⟩
abbrev main_call3_v4 : Ref sig .tc := ⟨.hbm, 22, rfl⟩
abbrev main_call3_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_c : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_c_0 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_c_1 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst : Ref sig .tc := ⟨.hbm, 47, rfl⟩
abbrev main_call4_v0 : Ref sig .tc := ⟨.hbm, 48, rfl⟩
abbrev main_call4_v1 : Ref sig .tc := ⟨.hbm, 49, rfl⟩
abbrev main_call4_v2 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩

abbrev nD : Nat := 1
abbrev τ : Topo := Topo.v7x

variable {F : FTy → Type} [FloatOps F]
-- ==== Kernel6.lean ====
abbrev S33024x2048 : Shape := ⟨2, ![33024, 2048]⟩
abbrev S32768x2048 : Shape := ⟨2, ![32768, 2048]⟩
abbrev S32768x1 : Shape := ⟨2, ![32768, 1]⟩
abbrev S2048 : Shape := ⟨1, ![2048]⟩
abbrev S16x2064x2048 : Shape := ⟨3, ![16, 2064, 2048]⟩
abbrev S1x2048 : Shape := ⟨2, ![1, 2048]⟩
abbrev S16x2048x2048 : Shape := ⟨3, ![16, 2048, 2048]⟩
abbrev S1x256x2048 : Shape := ⟨3, ![1, 256, 2048]⟩
abbrev S256x2048 : Shape := ⟨2, ![256, 2048]⟩
abbrev S256x1 : Shape := ⟨2, ![256, 1]⟩
abbrev S1x16x2048 : Shape := ⟨3, ![1, 16, 2048]⟩
abbrev S16x2048 : Shape := ⟨2, ![16, 2048]⟩
abbrev S16x1 : Shape := ⟨2, ![16, 1]⟩
abbrev S16 : Shape := ⟨1, ![16]⟩

abbrev nBuf : Space → Nat
  | .hbm => 9
  | .vmem => 13
  | .smem => 0
  | _ => 0

abbrev bufTy : (tb : Table) → Fin (tcTables nBuf tb) → BufTy
  | .hbm, ⟨0, _⟩ => ⟨S33024x2048, .f32⟩
  | .hbm, ⟨1, _⟩ => ⟨S32768x2048, .bf16⟩
  | .hbm, ⟨2, _⟩ => ⟨S32768x2048, .bf16⟩
  | .hbm, ⟨3, _⟩ => ⟨S32768x1, .f32⟩
  | .hbm, ⟨4, _⟩ => ⟨S32768x1, .f32⟩
  | .hbm, ⟨5, _⟩ => ⟨S2048, .f32⟩
  | .hbm, ⟨6, _⟩ => ⟨S16x2064x2048, .f32⟩
  | .hbm, ⟨7, _⟩ => ⟨S1x2048, .f32⟩
  | .hbm, ⟨8, _⟩ => ⟨S16x2048x2048, .f32⟩
  | .local _ .vmem, ⟨0, _⟩ => ⟨S1x256x2048, .f32⟩
  | .local _ .vmem, ⟨1, _⟩ => ⟨S1x256x2048, .f32⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x1, .f32⟩
  | .local _ .vmem, ⟨7, _⟩ => ⟨S256x1, .f32⟩
  | .local _ .vmem, ⟨8, _⟩ => ⟨S256x1, .f32⟩
  | .local _ .vmem, ⟨9, _⟩ => ⟨S256x1, .f32⟩
  | .local _ .vmem, ⟨10, _⟩ => ⟨S1x2048, .f32⟩
  | .local _ .vmem, ⟨11, _⟩ => ⟨S1x256x2048, .f32⟩
  | .local _ .vmem, ⟨12, _⟩ => ⟨S1x256x2048, .f32⟩
  | _, _ => ⟨S33024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let c16_i32 : BitVec 32 := 16#32
  let arg1 : BitVec 32 := BitVec.ofNat 32 (i 1).val
  let c256_i32 : BitVec 32 := 256#32
  let v0 : BitVec 32 := Scalar.muli arg1 c256_i32
  let v1 : BitVec 32 := Scalar.addi c16_i32 v0
  v1
@[reducible] def k0_t1_loop : Scf.Loop 32 :=
  let c0_i32 : BitVec 32 := 0#32
  let c16_i32 : BitVec 32 := 16#32
  let v2 : BitVec 32 := Scalar.addi c0_i32 c16_i32
  let c1_i32 : BitVec 32 := 1#32
  ⟨c0_i32, v2, c1_i32⟩
def k0_mult2 (k0_t1 : Fin k0_t1_loop.trips) : BitVec 32 :=
  let c0_i32 : BitVec 32 := 0#32
  let c1_i32 : BitVec 32 := 1#32
  let arg9 : BitVec 32 := Scf.iv c0_i32 c1_i32 k0_t1
  let c16_i32_2 : BitVec 32 := 16#32
  let v3 : BitVec 32 := Scalar.muli arg9 c16_i32_2
  v3
def k0_off1 (k0_t1 : Fin k0_t1_loop.trips) : Fin 3 → Nat :=
  let c0_3 : Index := 0#32
  let c0_i32 : BitVec 32 := 0#32
  let c1_i32 : BitVec 32 := 1#32
  let arg9 : BitVec 32 := Scf.iv c0_i32 c1_i32 k0_t1
  let c16_i32_2 : BitVec 32 := 16#32
  let v3 : BitVec 32 := Scalar.muli arg9 c16_i32_2
  let v4 : BitVec 32 := v3
  let v5 : Index := Scalar.indexCast v4
  let c0_4 : Index := 0#32
  ![0, v5.toNat, 0]
def k0_off2 (k0_t1 : Fin k0_t1_loop.trips) : Fin 2 → Nat :=
  let c0_i32 : BitVec 32 := 0#32
  let c1_i32 : BitVec 32 := 1#32
  let arg9 : BitVec 32 := Scf.iv c0_i32 c1_i32 k0_t1
  let c16_i32_2 : BitVec 32 := 16#32
  let v3 : BitVec 32 := Scalar.muli arg9 c16_i32_2
  let v4 : BitVec 32 := v3
  let v8 : Index := Scalar.indexCast v4
  let c0_5 : Index := 0#32
  ![v8.toNat, 0]
def k0_off3 (k0_t1 : Fin k0_t1_loop.trips) : Fin 2 → Nat :=
  let c0_i32 : BitVec 32 := 0#32
  let c1_i32 : BitVec 32 := 1#32
  let arg9 : BitVec 32 := Scf.iv c0_i32 c1_i32 k0_t1
  let c16_i32_2 : BitVec 32 := 16#32
  let v3 : BitVec 32 := Scalar.muli arg9 c16_i32_2
  let v4 : BitVec 32 := v3
  let v10 : Index := Scalar.indexCast v4
  let c0_6 : Index := 0#32
  ![v10.toNat, 0]
def cc0_transform_0 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c16_i32 : BitVec 32 := 16#32
  let v1 : BitVec 32 := Scalar.addi c16_i32 v0
  let v2 : BitVec 32 := v1
  let c0_i32 : BitVec 32 := 0#32
  let c0_i32_0 : BitVec 32 := 0#32
  ![arg0.toNat, v2.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference6.lean ====
abbrev S33024x2048 : Shape := ⟨2, ![33024, 2048]⟩
abbrev S32768x2048 : Shape := ⟨2, ![32768, 2048]⟩
abbrev S32768x1 : Shape := ⟨2, ![32768, 1]⟩
abbrev S2048 : Shape := ⟨1, ![2048]⟩
abbrev S16x2064x2048 : Shape := ⟨3, ![16, 2064, 2048]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩
abbrev S1x1x2048 : Shape := ⟨3, ![1, 1, 2048]⟩

abbrev nBuf : Space → Nat
  | .hbm => 33
  | .vmem => 0
  | .smem => 0
  | _ => 0

abbrev bufTy : (tb : Table) → Fin (tcTables nBuf tb) → BufTy
  | .hbm, ⟨0, _⟩ => ⟨S33024x2048, .f32⟩
  | .hbm, ⟨1, _⟩ => ⟨S32768x2048, .bf16⟩
  | .hbm, ⟨2, _⟩ => ⟨S32768x2048, .bf16⟩
  | .hbm, ⟨3, _⟩ => ⟨S32768x1, .f32⟩
  | .hbm, ⟨4, _⟩ => ⟨S32768x1, .f32⟩
  | .hbm, ⟨5, _⟩ => ⟨S2048, .f32⟩
  | .hbm, ⟨6, _⟩ => ⟨S32768x2048, .f32⟩
  | .hbm, ⟨7, _⟩ => ⟨S32768x2048, .f32⟩
  | .hbm, ⟨8, _⟩ => ⟨S32768x2048, .f32⟩
  | .hbm, ⟨9, _⟩ => ⟨S32768x2048, .f32⟩
  | .hbm, ⟨10, _⟩ => ⟨S32768x2048, .f32⟩
  | .hbm, ⟨11, _⟩ => ⟨S32768x2048, .f32⟩
  | .hbm, ⟨12, _⟩ => ⟨S32768x2048, .f32⟩
  | .hbm, ⟨13, _⟩ => ⟨S16x2064x2048, .f32⟩
  | .hbm, ⟨14, _⟩ => ⟨S16x2048x2048, .f32⟩
  | .hbm, ⟨15, _⟩ => ⟨S16x2048x2048, .f32⟩
  | .hbm, ⟨16, _⟩ => ⟨S16x2048x2048, .f32⟩
  | .hbm, ⟨17, _⟩ => ⟨S16x2048x2048, .f32⟩
  | .hbm, ⟨18, _⟩ => ⟨S_, .f32⟩
  | .hbm, ⟨19, _⟩ => ⟨S16x2048, .f32⟩
  | .hbm, ⟨20, _⟩ => ⟨S16x2048x1, .f32⟩
  | .hbm, ⟨21, _⟩ => ⟨S_, .f32⟩
  | .hbm, ⟨22, _⟩ => ⟨S16x2048x1, .f32⟩
  | .hbm, ⟨23, _⟩ => ⟨S16x2048x1, .f32⟩
  | .hbm, ⟨24, _⟩ => ⟨S_, .f32⟩
  | .hbm, ⟨25, _⟩ => ⟨S16x2048x1, .f32⟩
  | .hbm, ⟨26, _⟩ => ⟨S16x2048x1, .f32⟩
  | .hbm, ⟨27, _⟩ => ⟨S16x2048x1, .f32⟩
  | .hbm, ⟨28, _⟩ => ⟨S16x2048x2048, .f32⟩
  | .hbm, ⟨29, _⟩ => ⟨S16x2048x2048, .f32⟩
  | .hbm, ⟨30, _⟩ => ⟨S1x1x2048, .f32⟩
  | .hbm, ⟨31, _⟩ => ⟨S16x2048x2048, .f32⟩
  | .hbm, ⟨32, _⟩ => ⟨S16x2048x2048, .f32⟩
  | _, _ => ⟨S33024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Kernel7.lean ====
abbrev S33024x12288 : Shape := ⟨2, ![33024, 12288]⟩
abbrev S3x512 : Shape := ⟨2, ![3, 512]⟩
abbrev S33024x512 : Shape := ⟨2, ![33024, 512]⟩
abbrev S2064x512 : Shape := ⟨2, ![2064, 512]⟩
abbrev S1x512 : Shape := ⟨2, ![1, 512]⟩

abbrev nBuf : Space → Nat
  | .hbm => 3
  | .vmem => 9
  | .smem => 0
  | _ => 0

abbrev bufTy : (tb : Table) → Fin (tcTables nBuf tb) → BufTy
  | .hbm, ⟨0, _⟩ => ⟨S33024x12288, .bf16⟩
  | .hbm, ⟨1, _⟩ => ⟨S3x512, .f32⟩
  | .hbm, ⟨2, _⟩ => ⟨S33024x512, .bf16⟩
  | .local _ .vmem, ⟨0, _⟩ => ⟨S2064x512, .bf16⟩
  | .local _ .vmem, ⟨1, _⟩ => ⟨S2064x512, .bf16⟩
  | .local _ .vmem, ⟨2, _⟩ => ⟨S2064x512, .bf16⟩
  | .local _ .vmem, ⟨3, _⟩ => ⟨S2064x512, .bf16⟩
  | .local _ .vmem, ⟨4, _⟩ => ⟨S2064x512, .bf16⟩
  | .local _ .vmem, ⟨5, _⟩ => ⟨S2064x512, .bf16⟩
  | .local _ .vmem, ⟨6, _⟩ => ⟨S3x512, .f32⟩
  | .local _ .vmem, ⟨7, _⟩ => ⟨S2064x512, .bf16⟩
  | .local _ .vmem, ⟨8, _⟩ => ⟨S2064x512, .bf16⟩
  | _, _ => ⟨S33024x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2064x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2064x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2064x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S3x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S2064x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference7.lean ====
abbrev S33024x12288 : Shape := ⟨2, ![33024, 12288]⟩
abbrev S3x512 : Shape := ⟨2, ![3, 512]⟩
abbrev S33024x512 : Shape := ⟨2, ![33024, 512]⟩
abbrev S16x2064x512 : Shape := ⟨3, ![16, 2064, 512]⟩
abbrev S_ : Shape := ⟨0, ![]⟩
abbrev S16x2066x512 : Shape := ⟨3, ![16, 2066, 512]⟩
abbrev S1x512 : Shape := ⟨2, ![1, 512]⟩
abbrev S512 : Shape := ⟨1, ![512]⟩
abbrev S1x1x512 : Shape := ⟨3, ![1, 1, 512]⟩

abbrev nBuf : Space → Nat
  | .hbm => 38
  | .vmem => 0
  | .smem => 0
  | _ => 0

abbrev bufTy : (tb : Table) → Fin (tcTables nBuf tb) → BufTy
  | .hbm, ⟨0, _⟩ => ⟨S33024x12288, .bf16⟩
  | .hbm, ⟨1, _⟩ => ⟨S3x512, .f32⟩
  | .hbm, ⟨2, _⟩ => ⟨S33024x512, .bf16⟩
  | .hbm, ⟨3, _⟩ => ⟨S33024x512, .f32⟩
  | .hbm, ⟨4, _⟩ => ⟨S16x2064x512, .f32⟩
  | .hbm, ⟨5, _⟩ => ⟨S33024x512, .bf16⟩
  | .hbm, ⟨6, _⟩ => ⟨S33024x512, .f32⟩
  | .hbm, ⟨7, _⟩ => ⟨S16x2064x512, .f32⟩
  | .hbm, ⟨8, _⟩ => ⟨S33024x512, .bf16⟩
  | .hbm, ⟨9, _⟩ => ⟨S33024x512, .f32⟩
  | .hbm, ⟨10, _⟩ => ⟨S16x2064x512, .f32⟩
  | .hbm, ⟨11, _⟩ => ⟨S16x2064x512, .f32⟩
  | .hbm, ⟨12, _⟩ => ⟨S_, .i32⟩
  | .hbm, ⟨13, _⟩ => ⟨S_, .f32⟩
  | .hbm, ⟨14, _⟩ => ⟨S16x2066x512, .f32⟩
  | .hbm, ⟨15, _⟩ => ⟨S16x2064x512, .f32⟩
  | .hbm, ⟨16, _⟩ => ⟨S1x512, .f32⟩
  | .hbm, ⟨17, _⟩ => ⟨S512, .f32⟩
  | .hbm, ⟨18, _⟩ => ⟨S1x1x512, .f32⟩
  | .hbm, ⟨19, _⟩ => ⟨S16x2064x512, .f32⟩
  | .hbm, ⟨20, _⟩ => ⟨S16x2064x512, .f32⟩
  | .hbm, ⟨21, _⟩ => ⟨S16x2064x512, .f32⟩
  | .hbm, ⟨22, _⟩ => ⟨S1x512, .f32⟩
  | .hbm, ⟨23, _⟩ => ⟨S512, .f32⟩
  | .hbm, ⟨24, _⟩ => ⟨S1x1x512, .f32⟩
  | .hbm, ⟨25, _⟩ => ⟨S16x2064x512, .f32⟩
  | .hbm, ⟨26, _⟩ => ⟨S16x2064x512, .f32⟩
  | .hbm, ⟨27, _⟩ => ⟨S16x2064x512, .f32⟩
  | .hbm, ⟨28, _⟩ => ⟨S16x2064x512, .f32⟩
  | .hbm, ⟨29, _⟩ => ⟨S1x512, .f32⟩
  | .hbm, ⟨30, _⟩ => ⟨S512, .f32⟩
  | .hbm, ⟨31, _⟩ => ⟨S1x1x512, .f32⟩
  | .hbm, ⟨32, _⟩ => ⟨S16x2064x512, .f32⟩
  | .hbm, ⟨33, _⟩ => ⟨S16x2064x512, .f32⟩
  | .hbm, ⟨34, _⟩ => ⟨S16x2064x512, .f32⟩
  | .hbm, ⟨35, _⟩ => ⟨S16x2064x512, .f32⟩
  | .hbm, ⟨36, _⟩ => ⟨S33024x512, .f32⟩
  | .hbm, ⟨37, _⟩ => ⟨S33024x512, .bf16⟩
  | _, _ => ⟨S33024x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_c : Ref sig .tc := ⟨.hbm, 12, rfl⟩
abbrev main_call0_v0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩

abbrev nD : Nat := 1
abbrev τ : Topo := Topo.v7x

variable {F : FTy → Type} [FloatOps F]
-- ==== Proof.Stages.lean ====
/- The reference program of the attention in stages: scores, window, bias, softmax, weighted sums. -/
module
public import proofs.«01_k».proof.Proof.Gen.ReferenceIdeal.Run
public import Idealize.ShloMosaic.Lib.Pipeline.ValueKit

@[expose] public section

set_option maxRecDepth 16384

noncomputable section

namespace Cert.ReferenceIdeal.Attn

open Cert.ReferenceIdeal Cert.ReferenceIdeal.Gen Idealize.ShloMosaic Idealize.ShloMosaic.TcCoe Idealize.SL.Sem

/-- The scaled queries, by example, position and head. -/
def qAll (P : FVec Ideal S33024x12288 .bf16) : FVec Ideal S16x2064x16x64 .f32 :=
  mulf (shapeCast _ (extf .f32 (extractStridedSlice S33024x1024 ![0, 0] P slices_S33024x12288_S33024x1024_0_0) bitsLt_bf16_f32) shapeCasts_S33024x1024_S16x2064x16x64) (broadcastInDim S16x2064x16x64 ![] bcast_S_S16x2064x16x64 (constant S_ .f32 0x3E000000#32))

/-- The keys. -/
def kAll (P : FVec Ideal S33024x12288 .bf16) : FVec Ideal S16x2064x16x64 .f32 :=
  shapeCast _ (extf .f32 (extractStridedSlice S33024x1024 ![0, 1024] P slices_S33024x12288_S33024x1024_0_1024) bitsLt_bf16_f32) shapeCasts_S33024x1024_S16x2064x16x64

/-- The values. -/
def vAll (P : FVec Ideal S33024x12288 .bf16) : FVec Ideal S16x2064x16x64 .f32 :=
  shapeCast _ (extf .f32 (extractStridedSlice S33024x1024 ![0, 2048] P slices_S33024x12288_S33024x1024_0_2048) bitsLt_bf16_f32) shapeCasts_S33024x1024_S16x2064x16x64

/-- The prefix's queries. -/
def qPre (P : FVec Ideal S33024x12288 .bf16) : FVec Ideal S16x16x16x64 .f32 :=
  extractStridedSlice S16x16x16x64 ![0, 0, 0, 0] (qAll P) slices_S16x2064x16x64_S16x16x16x64_0_0_0_0

/-- The prefix's keys. -/
def kPre (P : FVec Ideal S33024x12288 .bf16) : FVec Ideal S16x16x16x64 .f32 :=
  extractStridedSlice S16x16x16x64 ![0, 0, 0, 0] (kAll P) slices_S16x2064x16x64_S16x16x16x64_0_0_0_0

/-- The prefix's values. -/
def vPre (P : FVec Ideal S33024x12288 .bf16) : FVec Ideal S16x16x16x64 .f32 :=
  extractStridedSlice S16x16x16x64 ![0, 0, 0, 0] (vAll P) slices_S16x2064x16x64_S16x16x16x64_0_0_0_0

/-- The grid's queries. -/
def qGrid (P : FVec Ideal S33024x12288 .bf16) : FVec Ideal S16x2048x16x64 .f32 :=
  extractStridedSlice S16x2048x16x64 ![0, 16, 0, 0] (qAll P) slices_S16x2064x16x64_S16x2048x16x64_0_16_0_0

/-- The grid's keys. -/
def kGrid (P : FVec Ideal S33024x12288 .bf16) : FVec Ideal S16x2048x16x64 .f32 :=
  extractStridedSlice S16x2048x16x64 ![0, 16, 0, 0] (kAll P) slices_S16x2064x16x64_S16x2048x16x64_0_16_0_0

/-- The grid's values. -/
def vGrid (P : FVec Ideal S33024x12288 .bf16) : FVec Ideal S16x2048x16x64 .f32 :=
  extractStridedSlice S16x2048x16x64 ![0, 16, 0, 0] (vAll P) slices_S16x2064x16x64_S16x2048x16x64_0_16_0_0

/-- The prefix keys' bias, by head and key. -/
def biasRow (M : FVec Ideal S16x16 .f32) : FVec Ideal S1x16x1x16 .f32 :=
  broadcastInDim S1x16x1x16 ![1, 2, 3] bcast_S16x1x16_S1x16x1x16_1_2_3 (broadcastInDim S16x1x16 ![0, 2] bcast_S16x16_S16x1x16_0_2 M)

/-- The prefix's scores against the prefix. -/
def sPre (P : FVec Ideal S33024x12288 .bf16) (M : FVec Ideal S16x16 .f32) : FVec Ideal S16x16x16x16 .f32 :=
  addf (Host.dotGeneral dot_S16x16x16x64_S16x16x16x64_S16x16x16x16_3_3_1_1_02_02 none (qPre P) (kPre P)) (broadcastInDim S16x16x16x16 ![0, 1, 2, 3] bcast_S1x16x1x16_S16x16x16x16_0_1_2_3 (biasRow M))

/-- Their exponentials, less the row's maximum. -/
def ePre (P : FVec Ideal S33024x12288 .bf16) (M : FVec Ideal S16x16 .f32) : FVec Ideal S16x16x16x16 .f32 :=
  Host.exp (subf (sPre P M) (broadcastInDim S16x16x16x16 ![0, 1, 2, 3] bcast_S16x16x16x1_S16x16x16x16_0_1_2_3 (broadcastInDim S16x16x16x1 ![0, 1, 2] bcast_S16x16x16_S16x16x16x1_0_1_2 (maximumf (broadcastInDim S16x16x16 ![] bcast_S_S16x16x16 (constant S_ .f32 0xFF800000#32)) (Host.reduce FloatOps.maximumf (sPre P M) (constant S_ .f32 0xFF800000#32) reducesTo_S16x16x16x16_S16x16x16_d3 h_S_)))))

/-- The prefix's results. -/
def oPre (P : FVec Ideal S33024x12288 .bf16) (M : FVec Ideal S16x16 .f32) : FVec Ideal S16x16x16x64 .f32 :=
  transpose S16x16x16x64 [0, 3, 1, 2] (Host.dotGeneral dot_S16x16x16x64_S16x16x16x16_S16x16x64x16_1_3_3_2_02_01 none (vPre P) (Host.divf (ePre P M) (broadcastInDim S16x16x16x16 ![0, 1, 2, 3] bcast_S16x16x16x1_S16x16x16x16_0_1_2_3 (broadcastInDim S16x16x16x1 ![0, 1, 2] bcast_S16x16x16_S16x16x16x1_0_1_2 (Host.reduceAdd (ePre P M) (constant S_ .f32 0x00000000#32) reducesTo_S16x16x16x16_S16x16x16_d3 h_S_))))) transposes_S16x16x64x16_S16x16x16x64_0_3_1_2

/-- Which grid rows are in the window of a grid row. -/
def rowMask  : IVec S32x32 1 :=
  andi (cmpi .sge (broadcastInDim S32x32 ![0, 1] bcast_S1x32_S32x32_0_1 (broadcastInDim S1x32 ![1] bcast_S32_S1x32_1 (iotaInDim S32 32 0))) (broadcastInDim S32x32 ![0, 1] bcast_S32x1_S32x32_0_1 (broadcastInDim S32x1 ![0] bcast_S32_S32x1_0 (minsi (broadcastInDim S32 ![] bcast_S_S32 (id (constantI S_ 32 24#32))) (maxsi (broadcastInDim S32 ![] bcast_S_S32 (id (constantI S_ 32 0#32))) (subi (iotaInDim S32 32 0) (broadcastInDim S32 ![] bcast_S_S32 (constantI S_ 32 4#32)))))))) (cmpi .slt (broadcastInDim S32x32 ![0, 1] bcast_S1x32_S32x32_0_1 (broadcastInDim S1x32 ![1] bcast_S32_S1x32_1 (iotaInDim S32 32 0))) (broadcastInDim S32x32 ![0, 1] bcast_S32x1_S32x32_0_1 (addi (broadcastInDim S32x1 ![0] bcast_S32_S32x1_0 (minsi (broadcastInDim S32 ![] bcast_S_S32 (id (constantI S_ 32 24#32))) (maxsi (broadcastInDim S32 ![] bcast_S_S32 (id (constantI S_ 32 0#32))) (subi (iotaInDim S32 32 0) (broadcastInDim S32 ![] bcast_S_S32 (constantI S_ 32 4#32)))))) (broadcastInDim S32x1 ![] bcast_S_S32x1 (constantI S_ 32 8#32)))))

/-- Which grid columns are in the window of a grid column. -/
def colMask  : IVec S64x64 1 :=
  andi (cmpi .sge (broadcastInDim S64x64 ![0, 1] bcast_S1x64_S64x64_0_1 (broadcastInDim S1x64 ![1] bcast_S64_S1x64_1 (iotaInDim S64 32 0))) (broadcastInDim S64x64 ![0, 1] bcast_S64x1_S64x64_0_1 (broadcastInDim S64x1 ![0] bcast_S64_S64x1_0 (minsi (broadcastInDim S64 ![] bcast_S_S64 (id (constantI S_ 32 48#32))) (maxsi (broadcastInDim S64 ![] bcast_S_S64 (id (constantI S_ 32 0#32))) (subi (iotaInDim S64 32 0) (broadcastInDim S64 ![] bcast_S_S64 (constantI S_ 32 8#32)))))))) (cmpi .slt (broadcastInDim S64x64 ![0, 1] bcast_S1x64_S64x64_0_1 (broadcastInDim S1x64 ![1] bcast_S64_S1x64_1 (iotaInDim S64 32 0))) (broadcastInDim S64x64 ![0, 1] bcast_S64x1_S64x64_0_1 (addi (broadcastInDim S64x1 ![0] bcast_S64_S64x1_0 (minsi (broadcastInDim S64 ![] bcast_S_S64 (id (constantI S_ 32 48#32))) (maxsi (broadcastInDim S64 ![] bcast_S_S64 (id (constantI S_ 32 0#32))) (subi (iotaInDim S64 32 0) (broadcastInDim S64 ![] bcast_S_S64 (constantI S_ 32 8#32)))))) (broadcastInDim S64x1 ![] bcast_S_S64x1 (constantI S_ 32 16#32)))))

/-- Which grid keys are in the window of a grid query. -/
def mask  : IVec S16x16x2048x2048 1 :=
  broadcastInDim S16x16x2048x2048 ![2, 3] bcast_S2048x2048_S16x16x2048x2048_2_3 (shapeCast _ (andi (broadcastInDim S32x64x32x64 ![0, 1, 2, 3] bcast_S32x1x32x1_S32x64x32x64_0_1_2_3 (broadcastInDim S32x1x32x1 ![0, 2] bcast_S32x32_S32x1x32x1_0_2 rowMask)) (broadcastInDim S32x64x32x64 ![0, 1, 2, 3] bcast_S1x64x1x64_S32x64x32x64_0_1_2_3 (broadcastInDim S1x64x1x64 ![1, 3] bcast_S64x64_S1x64x1x64_1_3 colMask))) shapeCasts_S32x64x32x64_S2048x2048)

/-- The column offsets. -/
def colIdx  : IVec S64x64x1 32 :=
  broadcastInDim S64x64x1 ![0, 1] bcast_S64x64_S64x64x1_0_1 (addi (minsi (broadcastInDim S64x64 ![] bcast_S_S64x64 (id (constantI S_ 32 15#32))) (maxsi (broadcastInDim S64x64 ![] bcast_S_S64x64 (id (constantI S_ 32 4294967281#32))) (subi (broadcastInDim S64x64 ![0, 1] bcast_S1x64_S64x64_0_1 (broadcastInDim S1x64 ![1] bcast_S64_S1x64_1 (iotaInDim S64 32 0))) (broadcastInDim S64x64 ![0, 1] bcast_S64x1_S64x64_0_1 (broadcastInDim S64x1 ![0] bcast_S64_S64x1_0 (iotaInDim S64 32 0)))))) (broadcastInDim S64x64 ![] bcast_S_S64x64 (constantI S_ 32 15#32)))

/-- The row offsets. -/
def rowIdx  : IVec S32x32x1 32 :=
  broadcastInDim S32x32x1 ![0, 1] bcast_S32x32_S32x32x1_0_1 (addi (minsi (broadcastInDim S32x32 ![] bcast_S_S32x32 (id (constantI S_ 32 7#32))) (maxsi (broadcastInDim S32x32 ![] bcast_S_S32x32 (id (constantI S_ 32 4294967289#32))) (subi (broadcastInDim S32x32 ![0, 1] bcast_S1x32_S32x32_0_1 (broadcastInDim S1x32 ![1] bcast_S32_S1x32_1 (iotaInDim S32 32 0))) (broadcastInDim S32x32 ![0, 1] bcast_S32x1_S32x32_0_1 (broadcastInDim S32x1 ![0] bcast_S32_S32x1_0 (iotaInDim S32 32 0)))))) (broadcastInDim S32x32 ![] bcast_S_S32x32 (constantI S_ 32 7#32)))

/-- The bias of each grid query for each grid key. -/
def biasGrid (B : FVec Ideal S16x15x31 .f32) : FVec Ideal S16x2048x2048 .f32 :=
  shapeCast _ (transpose S16x32x64x32x64 [0, 1, 3, 2, 4] (Host.gather gather_S16x15x64x64_S32x32x1_S16x32x32x64x64_034_1_n_n_1_2_1616464 (Host.gather gather_S16x15x31_S64x64x1_S16x15x64x64_01_2_n_n_2_2_16151 B colIdx) rowIdx) transposes_S16x32x32x64x64_S16x32x64x32x64_0_1_3_2_4) shapeCasts_S16x32x64x32x64_S16x2048x2048

/-- The grid's scores against the grid. -/
def sGrid (P : FVec Ideal S33024x12288 .bf16) (B : FVec Ideal S16x15x31 .f32) : FVec Ideal S16x16x2048x2048 .f32 :=
  select mask (addf (Host.dotGeneral dot_S16x2048x16x64_S16x2048x16x64_S16x16x2048x2048_3_3_1_1_02_02 none (qGrid P) (kGrid P)) (broadcastInDim S16x16x2048x2048 ![0, 1, 2, 3] bcast_S1x16x2048x2048_S16x16x2048x2048_0_1_2_3 (broadcastInDim S1x16x2048x2048 ![1, 2, 3] bcast_S16x2048x2048_S1x16x2048x2048_1_2_3 (biasGrid B)))) (broadcastInDim S16x16x2048x2048 ![] bcast_S_S16x16x2048x2048 (id (constant S_ .f32 0xFF800000#32)))

/-- The grid's scores against the prefix. -/
def sMeta (P : FVec Ideal S33024x12288 .bf16) (M : FVec Ideal S16x16 .f32) : FVec Ideal S16x16x2048x16 .f32 :=
  addf (Host.dotGeneral dot_S16x2048x16x64_S16x16x16x64_S16x16x2048x16_3_3_1_1_02_02 none (qGrid P) (kPre P)) (broadcastInDim S16x16x2048x16 ![0, 1, 2, 3] bcast_S1x16x1x16_S16x16x2048x16_0_1_2_3 (biasRow M))

/-- The scores of the grid, joined. -/
def sAll (P : FVec Ideal S33024x12288 .bf16) (B : FVec Ideal S16x15x31 .f32) (M : FVec Ideal S16x16 .f32) : FVec Ideal S16x16x2048x2064 .f32 :=
  concatenate S16x16x2048x2064 3 [⟨S16x16x2048x2048, (sGrid P B)⟩, ⟨S16x16x2048x16, (sMeta P M)⟩] concatenates_S16x16x2048x2048_S16x16x2048x16_S16x16x2048x2064_d3

/-- Their exponentials, less the row's maximum. -/
def eAll (P : FVec Ideal S33024x12288 .bf16) (B : FVec Ideal S16x15x31 .f32) (M : FVec Ideal S16x16 .f32) : FVec Ideal S16x16x2048x2064 .f32 :=
  Host.exp (subf (sAll P B M) (broadcastInDim S16x16x2048x2064 ![0, 1, 2, 3] bcast_S16x16x2048x1_S16x16x2048x2064_0_1_2_3 (broadcastInDim S16x16x2048x1 ![0, 1, 2] bcast_S16x16x2048_S16x16x2048x1_0_1_2 (maximumf (broadcastInDim S16x16x2048 ![] bcast_S_S16x16x2048 (constant S_ .f32 0xFF800000#32)) (Host.reduce FloatOps.maximumf (sAll P B M) (constant S_ .f32 0xFF800000#32) reducesTo_S16x16x2048x2064_S16x16x2048_d3 h_S_)))))

/-- Their softmax. -/
def pAll (P : FVec Ideal S33024x12288 .bf16) (B : FVec Ideal S16x15x31 .f32) (M : FVec Ideal S16x16 .f32) : FVec Ideal S16x16x2048x2064 .f32 :=
  Host.divf (eAll P B M) (broadcastInDim S16x16x2048x2064 ![0, 1, 2, 3] bcast_S16x16x2048x1_S16x16x2048x2064_0_1_2_3 (broadcastInDim S16x16x2048x1 ![0, 1, 2] bcast_S16x16x2048_S16x16x2048x1_0_1_2 (Host.reduceAdd (eAll P B M) (constant S_ .f32 0x00000000#32) reducesTo_S16x16x2048x2064_S16x16x2048_d3 h_S_)))

/-- The grid's results. -/
def oGrid (P : FVec Ideal S33024x12288 .bf16) (B : FVec Ideal S16x15x31 .f32) (M : FVec Ideal S16x16 .f32) : FVec Ideal S16x2048x16x64 .f32 :=
  addf (transpose S16x2048x16x64 [0, 3, 1, 2] (Host.dotGeneral dot_S16x2048x16x64_S16x16x2048x2048_S16x16x64x2048_1_3_3_2_02_01 none (vGrid P) (extractStridedSlice S16x16x2048x2048 ![0, 0, 0, 0] (pAll P B M) slices_S16x16x2048x2064_S16x16x2048x2048_0_0_0_0)) transposes_S16x16x64x2048_S16x2048x16x64_0_3_1_2) (transpose S16x2048x16x64 [0, 3, 1, 2] (Host.dotGeneral dot_S16x16x16x64_S16x16x2048x16_S16x16x64x2048_1_3_3_2_02_01 none (vPre P) (extractStridedSlice S16x16x2048x16 ![0, 0, 0, 2048] (pAll P B M) slices_S16x16x2048x2064_S16x16x2048x16_0_0_0_2048)) transposes_S16x16x64x2048_S16x2048x16x64_0_3_1_2)

/-- The reference's result. -/
def result (P : FVec Ideal S33024x12288 .bf16) (B : FVec Ideal S16x15x31 .f32) (M : FVec Ideal S16x16 .f32) : FVec Ideal S33024x1024 .bf16 :=
  truncf .bf16 (shapeCast _ (concatenate S16x2064x16x64 1 [⟨S16x16x16x64, (oPre P M)⟩, ⟨S16x2048x16x64, (oGrid P B M)⟩] concatenates_S16x16x16x64_S16x2048x16x64_S16x2064x16x64_d1) shapeCasts_S16x2064x16x64_S33024x1024) bitsLt_bf16_f32

/-- The run's result is these stages composed. -/
theorem res_eq (m : (ℓ : Loc nD τ sig) → Buf (Elt Ideal) ℓ) (c : Dev nD) :
    Value.res_main_v125 m c = result (m ((c.tc : Thread nD τ).loc main_arg0)) (m ((c.tc : Thread nD τ).loc main_arg1)) (m ((c.tc : Thread nD τ).loc main_arg2)) := by
  sl_kernel_rfl

end Cert.ReferenceIdeal.Attn
-- ==== Proof.Soft.lean ====
/- The softmax arithmetic over the extended reals, apart from any program: the weighted mean taken after the sum
   (what the kernel computes, over a band of 512 keys) is the mean with normalised weights (what the reference
   computes, over all 2048 keys, those outside the window at minus infinity). -/
module
public import Idealize.ShloMosaic.PureOps
public import Idealize.ShloMosaic.Lib.Pipeline.ValueKit

@[expose] public section

set_option maxRecDepth 16384

noncomputable section

namespace Cert.Soft

open Idealize.ShloMosaic

theorem ninf : Ideal.ofBits .f32 0xFF800000#32 = (⊥ : EReal) := by simp [Ideal.ofBits, Ideal.ieee]
theorem pinf : Ideal.ofBits .f32 0x7F800000#32 = (⊤ : EReal) := by simp [Ideal.ofBits, Ideal.ieee]
theorem eighth32 : Ideal.ofBits .f32 0x3E000000#32 = ((1 / 8 : ℝ) : EReal) := by
  simp [Ideal.ofBits, Ideal.ieee, -EReal.coe_mul]; norm_num
theorem eighth16 : Ideal.ofBits .bf16 0x3E00#16 = ((1 / 8 : ℝ) : EReal) := by
  simp [Ideal.ofBits, Ideal.ieee, -EReal.coe_mul]; norm_num

/-- A value that is no infinity. -/
def Fin' (x : EReal) : Prop := x ≠ ⊤ ∧ x ≠ ⊥

theorem Fin'.coe {x : EReal} (h : Fin' x) : ∃ r : ℝ, x = r := ⟨x.toReal, (EReal.coe_toReal h.1 h.2).symm⟩
theorem fin_coe (r : ℝ) : Fin' (r : EReal) := ⟨EReal.coe_ne_top r, EReal.coe_ne_bot r⟩
theorem Fin'.add {x y : EReal} (h : Fin' x) (h' : Fin' y) : Fin' (x + y) := by
  obtain ⟨a, rfl⟩ := h.coe; obtain ⟨b, rfl⟩ := h'.coe; exact fin_coe (a + b)
theorem Fin'.mul {x y : EReal} (h : Fin' x) (h' : Fin' y) : Fin' (x * y) := by
  obtain ⟨a, rfl⟩ := h.coe; obtain ⟨b, rfl⟩ := h'.coe; rw [← EReal.coe_mul]; exact fin_coe (a * b)
theorem Fin'.sum {ι : Type*} (s : Finset ι) (f : ι → EReal) (h : ∀ i, Fin' (f i)) : Fin' (∑ i ∈ s, f i) := by
  classical
  induction s using Finset.induction_on with
  | empty => simpa using fin_coe 0
  | insert a s ha ih => rw [Finset.sum_insert ha]; exact (h a).add ih

/-- The maximum of a family, from minus infinity. -/
abbrev fmax {n : ℕ} (f : Fin n → EReal) : EReal := Finset.univ.fold max (⊥ : EReal) f

theorem fmax_le {n : ℕ} (f : Fin n → EReal) (c : EReal) : fmax f ≤ c ↔ ∀ i, f i ≤ c := by
  rw [fmax, Finset.fold_max_le]; simp

theorem fmax_lt_top {n : ℕ} (f : Fin n → EReal) (h : ∀ i, f i ≠ ⊤) : fmax f < ⊤ := by
  rw [fmax, Finset.fold_max_lt]; exact ⟨bot_lt_top, fun i _ => lt_top_iff_ne_top.mpr (h i)⟩

/-- The exponential of a score below plus infinity, less a finite number: a nonnegative real. -/
theorem exp_real {x M : EReal} (hx : x ≠ ⊤) (hM : Fin' M) : ∃ r : ℝ, 0 ≤ r ∧ Ideal.exp (x - M) = r := by
  obtain ⟨b, rfl⟩ := hM.coe
  induction x with
  | bot => exact ⟨0, le_refl _, by rw [EReal.bot_sub]; rfl⟩
  | top => exact absurd rfl hx
  | coe a => exact ⟨Real.exp (a - b), (Real.exp_pos _).le, by rw [← EReal.coe_sub]; rfl⟩

theorem exp_pos {x M : EReal} (hx : Fin' x) (hM : Fin' M) : 0 < Ideal.exp (x - M) := by
  obtain ⟨b, rfl⟩ := hM.coe; obtain ⟨a, rfl⟩ := hx.coe
  rw [← EReal.coe_sub]
  exact EReal.coe_pos.mpr (Real.exp_pos (a - b))

theorem exp_bot {M : EReal} : Ideal.exp (⊥ - M) = 0 := by rw [EReal.bot_sub]; rfl

theorem sum_real {n : ℕ} (f : Fin n → EReal) (h : ∀ i, ∃ r : ℝ, 0 ≤ r ∧ f i = r) :
    ∃ r : ℝ, 0 ≤ r ∧ ∑ i, f i = r := by
  choose g hg hf using h
  refine ⟨∑ i, g i, Finset.sum_nonneg fun i _ => hg i, ?_⟩
  have : ∀ s : Finset (Fin n), ∑ i ∈ s, f i = ((∑ i ∈ s, g i : ℝ) : EReal) := by
    intro s
    induction s using Finset.induction_on with
    | empty => simp
    | insert a s ha ih => rw [Finset.sum_insert ha, Finset.sum_insert ha, ih, hf, EReal.coe_add]
  exact this _

theorem div_add {D : EReal} (h0 : 0 < D) (ht : D ≠ ⊤) (x y : EReal) :
    Ideal.div (x + y) D = Ideal.div x D + Ideal.div y D := by
  obtain ⟨r, rfl⟩ := Fin'.coe (x := D) ⟨ht, (bot_lt_of_lt h0).ne'⟩
  have hr : 0 < r := EReal.coe_pos.mp h0
  rw [Ideal.div_coe hr.ne', Ideal.div_coe hr.ne', Ideal.div_coe hr.ne']
  exact EReal.right_distrib_of_nonneg_of_ne_top (EReal.coe_nonneg.mpr (by positivity)) (EReal.coe_ne_top _) _ _

theorem div_mul {D : EReal} (h0 : 0 < D) (ht : D ≠ ⊤) (a v : EReal) : Ideal.div (a * v) D = Ideal.div a D * v := by
  obtain ⟨r, rfl⟩ := Fin'.coe (x := D) ⟨ht, (bot_lt_of_lt h0).ne'⟩
  have hr : 0 < r := EReal.coe_pos.mp h0
  rw [Ideal.div_coe hr.ne', Ideal.div_coe hr.ne', mul_right_comm]

theorem div_zero_left {D : EReal} (h0 : 0 < D) : Ideal.div 0 D = 0 := by
  rw [Ideal.div, if_neg h0.ne', zero_mul]

/-- Dividing a weighted sum is weighting by the divided weights. -/
theorem div_sum {D : EReal} (h0 : 0 < D) (ht : D ≠ ⊤) {n : ℕ} (a v : Fin n → EReal) :
    Ideal.div (∑ i, a i * v i) D = ∑ i, Ideal.div (a i) D * v i := by
  have : ∀ s : Finset (Fin n), Ideal.div (∑ i ∈ s, a i * v i) D = ∑ i ∈ s, Ideal.div (a i) D * v i := by
    intro s
    induction s using Finset.induction_on with
    | empty => simp [div_zero_left h0]
    | insert b s hb ih => rw [Finset.sum_insert hb, Finset.sum_insert hb, div_add h0 ht, ih, div_mul h0 ht]
  exact this _

/-- A sum over 2048 places of what vanishes outside a band of 512 is the sum over the band. -/
theorem sum_band (F : Fin 2048 → EReal) (off : ℕ) (hoff : off + 512 ≤ 2048)
    (h : ∀ k : Fin 2048, (k.val < off ∨ off + 512 ≤ k.val) → F k = 0) :
    ∑ j : Fin 512, F ⟨off + j.val, by omega⟩ = ∑ k, F k := by
  have hinj : Function.Injective fun j : Fin 512 => (⟨off + j.val, by omega⟩ : Fin 2048) := by
    intro a b hab; have := congrArg Fin.val hab; exact Fin.ext (by simpa using this)
  rw [← Finset.sum_image (s := Finset.univ) (g := fun j : Fin 512 => (⟨off + j.val, by omega⟩ : Fin 2048)) (f := F) (hinj.injOn)]
  refine Finset.sum_subset (Finset.subset_univ _) fun k _ hk => h k ?_
  by_contra hc
  push Not at hc
  exact hk (Finset.mem_image.mpr ⟨⟨k.val - off, by omega⟩, Finset.mem_univ _, Fin.ext (by show off + (k.val - off) = k.val; omega)⟩)

/-- One query of the prefix as the kernel computes it. -/
def kerMeta (s v : Fin 16 → EReal) : EReal :=
  Ideal.div (∑ j, Ideal.exp (s j - fmax s) * v j) (∑ j, Ideal.exp (s j - fmax s))

/-- One query of the prefix as the reference computes it. -/
def refMeta (s v : Fin 16 → EReal) : EReal :=
  ∑ j, Ideal.div (Ideal.exp (s j - fmax s)) (∑ j, Ideal.exp (s j - fmax s)) * v j

/-- One grid query as the kernel computes it: the prefix's keys, then the band's. -/
def kerGrid (sm vm : Fin 16 → EReal) (sg vg : Fin 512 → EReal) : EReal :=
  Ideal.div (∑ j, Ideal.exp (sm j - max (fmax sm) (fmax sg)) * vm j + ∑ j, Ideal.exp (sg j - max (fmax sm) (fmax sg)) * vg j)
    (∑ j, Ideal.exp (sm j - max (fmax sm) (fmax sg)) + ∑ j, Ideal.exp (sg j - max (fmax sm) (fmax sg)))

/-- The scores of a grid query, the grid's keys first. -/
def joined (sg : Fin 2048 → EReal) (sm : Fin 16 → EReal) (k : Fin 2064) : EReal :=
  if h : k.val < 2048 then sg ⟨k.val, h⟩ else sm ⟨k.val - 2048, by omega⟩

/-- One grid query as the reference computes it. -/
def refGrid (sg vg : Fin 2048 → EReal) (sm vm : Fin 16 → EReal) : EReal :=
  ∑ k, Ideal.div (Ideal.exp (sg k - fmax (joined sg sm))) (∑ k, Ideal.exp (joined sg sm k - fmax (joined sg sm))) * vg k
    + ∑ j, Ideal.div (Ideal.exp (sm j - fmax (joined sg sm))) (∑ k, Ideal.exp (joined sg sm k - fmax (joined sg sm))) * vm j

theorem fmax_fin {n : ℕ} (s : Fin (n + 1) → EReal) (h : ∀ j, Fin' (s j)) : Fin' (fmax s) :=
  ⟨(fmax_lt_top s fun j => (h j).1).ne, ((bot_lt_iff_ne_bot.mpr (h 0).2).trans_le ((fmax_le s _).mp le_rfl 0)).ne'⟩

theorem meta_eq (s v : Fin 16 → EReal) (h : ∀ j, Fin' (s j)) : kerMeta s v = refMeta s v := by
  have hM := fmax_fin s h
  obtain ⟨r, hr, hD⟩ := sum_real (fun j => Ideal.exp (s j - fmax s)) fun j => exp_real (h j).1 hM
  have h0 : 0 < ∑ j, Ideal.exp (s j - fmax s) := by
    refine (exp_pos (h 0) hM).trans_le (Finset.single_le_sum (f := fun j => Ideal.exp (s j - fmax s)) (fun i _ => ?_) (Finset.mem_univ 0))
    obtain ⟨q, hq, e⟩ := exp_real (h i).1 hM
    rw [e]; exact EReal.coe_nonneg.mpr hq
  exact div_sum h0 (by rw [hD]; exact EReal.coe_ne_top r) _ _

theorem grid_eq (sg vg : Fin 2048 → EReal) (sm vm : Fin 16 → EReal) (off : ℕ) (hoff : off + 512 ≤ 2048)
    (hm : ∀ j, Fin' (sm j)) (hg : ∀ k, sg k ≠ ⊤)
    (hout : ∀ k : Fin 2048, (k.val < off ∨ off + 512 ≤ k.val) → sg k = ⊥) :
    kerGrid sm vm (fun j => sg ⟨off + j.val, by omega⟩) (fun j => vg ⟨off + j.val, by omega⟩) = refGrid sg vg sm vm := by
  have hJg : ∀ k : Fin 2048, joined sg sm ⟨k.val, by omega⟩ = sg k := fun k => by
    unfold joined; rw [dif_pos k.isLt]
  have hJm : ∀ j : Fin 16, joined sg sm ⟨2048 + j.val, by omega⟩ = sm j := fun j => by
    unfold joined; rw [dif_neg (by show ¬ 2048 + j.val < 2048; omega)]; exact congrArg sm (Fin.ext (by show 2048 + j.val - 2048 = j.val; omega))
  have hMeq : max (fmax sm) (fmax fun j : Fin 512 => sg ⟨off + j.val, by omega⟩) = fmax (joined sg sm) := by
    refine eq_of_forall_ge_iff fun c => ?_
    rw [max_le_iff, fmax_le, fmax_le, fmax_le]
    constructor
    · rintro ⟨h1, h2⟩ k
      unfold joined
      split
      · rename_i hk
        by_cases hb : k.val < off ∨ off + 512 ≤ k.val
        · rw [hout ⟨k.val, hk⟩ hb]; exact bot_le
        · push Not at hb
          have := h2 ⟨k.val - off, by omega⟩
          rwa [show (⟨off + (⟨k.val - off, by omega⟩ : Fin 512).val, by show off + (k.val - off) < 2048; omega⟩ : Fin 2048) = ⟨k.val, hk⟩ from
            Fin.ext (by show off + (k.val - off) = k.val; omega)] at this
      · exact h1 _
    · intro h
      exact ⟨fun j => hJm j ▸ h _, fun j => hJg ⟨off + j.val, by omega⟩ ▸ h _⟩
  unfold kerGrid refGrid
  rw [hMeq]
  set M := fmax (joined sg sm) with hMdef
  have hJt : ∀ k, joined sg sm k ≠ ⊤ := by
    intro k; unfold joined; split
    · exact hg _
    · exact (hm _).1
  have hM : Fin' M := ⟨(fmax_lt_top _ hJt).ne,
    ((bot_lt_iff_ne_bot.mpr (hm 0).2).trans_le (hJm 0 ▸ (fmax_le (joined sg sm) _).mp le_rfl _)).ne'⟩
  have hDeq : ∑ k, Ideal.exp (joined sg sm k - M)
      = ∑ j, Ideal.exp (sm j - M) + ∑ j : Fin 512, Ideal.exp (sg ⟨off + j.val, by omega⟩ - M) := by
    rw [sum_band (fun k => Ideal.exp (sg k - M)) off hoff fun k hk => by rw [hout k hk, exp_bot]]
    rw [show (∑ k : Fin 2064, Ideal.exp (joined sg sm k - M)) = ∑ k : Fin (2048 + 16), Ideal.exp (joined sg sm k - M) from rfl,
      Fin.sum_univ_add, add_comm]
    refine congrArg₂ (· + ·) (Finset.sum_congr rfl fun j _ => ?_) (Finset.sum_congr rfl fun k _ => ?_)
    · exact congrArg (fun x => Ideal.exp (x - M)) (hJm j)
    · exact congrArg (fun x => Ideal.exp (x - M)) (hJg k)
  rw [← hDeq]
  obtain ⟨r, hr, hD⟩ := sum_real (fun k => Ideal.exp (joined sg sm k - M)) fun k => exp_real (hJt k) hM
  have h0 : 0 < ∑ k, Ideal.exp (joined sg sm k - M) := by
    refine (hJm 0 ▸ exp_pos (hm 0) hM : 0 < Ideal.exp (joined sg sm ⟨2048 + (0 : Fin 16).val, by decide⟩ - M)).trans_le
      (Finset.single_le_sum (f := fun k => Ideal.exp (joined sg sm k - M)) (fun i _ => ?_) (Finset.mem_univ _))
    obtain ⟨q, hq, e⟩ := exp_real (hJt i) hM
    rw [e]; exact EReal.coe_nonneg.mpr hq
  have ht : ∑ k, Ideal.exp (joined sg sm k - M) ≠ ⊤ := by rw [hD]; exact EReal.coe_ne_top r
  rw [div_add h0 ht, div_sum h0 ht, div_sum h0 ht, add_comm]
  congr 1
  exact sum_band (fun k => Ideal.div (Ideal.exp (sg k - M)) _ * vg k) off hoff fun k hk => by
    rw [hout k hk, exp_bot, div_zero_left h0, zero_mul]

end Cert.Soft
-- ==== Proof.Unit.lean ====
/- One block of queries of the attention kernel: what its stores hold, entry by entry. Two heads share the 128
   columns of a block; the queries are stacked twice, each time with the other head's columns zeroed. -/
module
public import proofs.«01_k».proof.Proof.Gen.KernelIdeal.Value
public import Idealize.ShloMosaic.Lib.Pipeline.ValueKit
public import proofs.«01_k».proof.Proof.Soft

@[expose] public section

set_option maxRecDepth 16384

noncomputable section

namespace Cert.KernelIdeal.Value

open Cert.Soft Cert.KernelIdeal Cert.KernelIdeal.Gen Idealize.ShloMosaic Idealize.ShloMosaic.TcCoe Idealize.SL.Sem

/-- The scores of one block of 64 queries (two heads stacked, 128 rows) against 512 grid keys. -/
def sGrid (q : FVec Ideal S64x128 .bf16) (k : FVec Ideal S512x128 .bf16) (tb : FVec Ideal S1x1x128x512 .f32) : FVec Ideal S128x512 .f32 :=
  k0_pay6 (k0_pay5 q) k tb

/-- The scores of the same rows against the 16 prefix keys. -/
def sMeta (q : FVec Ideal S64x128 .bf16) (km : FVec Ideal S16x128 .bf16) (mb : FVec Ideal S1x1x128x16 .f32) : FVec Ideal S128x16 .f32 :=
  k0_pay7 km (k0_pay3 mb) (k0_pay5 q)

/-- What one block of 64 grid queries stores, from its scores. -/
def fromScores (sg : FVec Ideal S128x512 .f32) (sm : FVec Ideal S128x16 .f32) (v : FVec Ideal S512x128 .bf16) (vm : FVec Ideal S16x128 .bf16) : FVec Ideal S64x128 .bf16 :=
  k0_pay32 k0_pay2 vm (k0_pay18 sg sm (k0_pay26 sg (k0_pay25 sm)) (broadcastTo S128x16 (k0_pay26 sg (k0_pay25 sm)) broadcasts_S128x1_S128x16))
    (k0_pay19 sg (k0_pay26 sg (k0_pay25 sm))) (k0_pay20 sm (broadcastTo S128x16 (k0_pay26 sg (k0_pay25 sm)) broadcasts_S128x1_S128x16)) v

/-- The scores of the prefix's queries (two heads stacked, 32 rows) against the prefix keys. -/
def sPrefix (q : FVec Ideal S16x128 .bf16) (km : FVec Ideal S16x128 .bf16) (mb : FVec Ideal S1x1x32x16 .f32) : FVec Ideal S32x16 .f32 :=
  k0_pay4 km q mb

/-- What the prefix's block stores, from its scores. -/
def fromPrefix (s : FVec Ideal S32x16 .f32) (vm : FVec Ideal S16x128 .bf16) : FVec Ideal S16x128 .bf16 :=
  k0_pay21 k0_pay2 vm (k0_pay9 s) (k0_pay10 s)

theorem lane_lt : ∀ x : Fin 128, IntOp.cmpi .slt (BitVec.ofNat 32 x.val) 64#32 = if x.val < 64 then 1#1 else 0#1 := by
  decide +kernel

/-- The kernel's choice by column: the first head's columns are those below 64. -/
theorem sel_lane {α : Type} (n : ℕ) (h : n < 128) (a b : α) :
    Scalar.select (IntOp.cmpi .slt (BitVec.ofNat 32 n) 64#32) a b = if n < 64 then a else b := by
  rw [lane_lt ⟨n, h⟩]
  by_cases hn : n < 64
  · rw [if_pos hn, if_pos (show (⟨n, h⟩ : Fin 128).val < 64 from hn)]; rfl
  · rw [if_neg hn, if_neg (show ¬ (⟨n, h⟩ : Fin 128).val < 64 from hn)]; rfl

/-- A sum over 128 columns of what vanishes outside head `e`'s half is the sum over that half. -/
theorem half_sum (e : Fin 2) (F : Fin 128 → EReal) (h : ∀ x : Fin 128, x.val / 64 ≠ e.val → F x = 0) :
    ∑ x, F x = ∑ d : Fin 64, F ⟨64 * e.val + d.val, by omega⟩ := by
  rw [show (∑ x : Fin 128, F x) = ∑ x : Fin (64 + 64), F x from rfl, Fin.sum_univ_add]
  rcases (by omega : e.val = 0 ∨ e.val = 1) with he | he
  · rw [Finset.sum_eq_zero (f := fun i : Fin 64 => F (Fin.natAdd 64 i)) fun i _ => h _ (by rw [he]; show (64 + i.val) / 64 ≠ 0; omega), add_zero]
    exact Finset.sum_congr rfl fun i _ => congrArg F (Fin.ext (by show i.val = 64 * e.val + i.val; omega))
  · rw [Finset.sum_eq_zero (f := fun i : Fin 64 => F (Fin.castAdd 64 i)) fun i _ => h _ (by rw [he]; show i.val / 64 ≠ 1; omega), zero_add]
    exact Finset.sum_congr rfl fun i _ => congrArg F (Fin.ext (by show 64 + i.val = 64 * e.val + i.val; omega))

/-- One dot product of a stacked row: only the row's own head contributes. -/
theorem head_dot (e : Fin 2) (q k : Fin 128 → EReal) (w : EReal) :
    (∑ x : Fin 128, (if (x.val < 64) = (e.val = 0) then q x * w else 0) * k x)
      = ∑ d : Fin 64, q ⟨64 * e.val + d.val, by omega⟩ * w * k ⟨64 * e.val + d.val, by omega⟩ := by
  rw [half_sum e]
  · refine Finset.sum_congr rfl fun d _ => ?_
    rw [if_pos (by simp only [eq_iff_iff]; omega)]
  · intro x hx
    rw [if_neg (by simp only [eq_iff_iff]; omega), zero_mul]

/-- The stacked queries: row `c` of head `e` keeps its own head's columns and is zero at the others. -/
theorem stacked (e : Fin 2) (x : Fin 128) (p : Prop) [Decidable p] (hp : p ↔ e.val = 0) (a : p → EReal) (b : ¬ p → EReal) (z : EReal)
    (ha : ∀ h, a h = z) (hb : ∀ h, b h = z) :
    (if h : p then Scalar.select (IntOp.cmpi .slt (BitVec.ofNat 32 x.val) 64#32) (a h) 0
      else Scalar.select (IntOp.cmpi .slt (BitVec.ofNat 32 x.val) 64#32) 0 (b h))
      = if (x.val < 64) = (e.val = 0) then z else 0 := by
  by_cases h : p
  · rw [dif_pos h, sel_lane _ x.isLt, ha h]
    simp only [hp.mp h, eq_iff_iff, iff_true]
  · rw [dif_neg h, sel_lane _ x.isLt, hb h]
    have he : ¬ e.val = 0 := fun he => h (hp.mpr he)
    simp only [he, eq_iff_iff, iff_false, ite_not]

theorem sGrid_at (q : FVec Ideal S64x128 .bf16) (k : FVec Ideal S512x128 .bf16) (tb : FVec Ideal S1x1x128x512 .f32) (e : Fin 2) (c : Fin 64) (j : Fin 512) :
    sGrid q k tb (ix2 ⟨64 * e.val + c.val, by omega⟩ j) = (∑ d : Fin 64, q (ix2 c ⟨64 * e.val + d.val, by omega⟩) * Ideal.ofBits .bf16 0x3E00#16 * k (ix2 j ⟨64 * e.val + d.val, by omega⟩))
      + tb (ix4 0 0 ⟨64 * e.val + c.val, by omega⟩ j) := by
  pointwise [sGrid, k0_pay6, k0_pay5, k0_pay2]
  rw [← head_dot e (fun x => q (ix2 c x)) (fun x => k (ix2 j x))]
  refine congrArg (· + _) (Finset.sum_congr rfl fun x _ => congrArg (· * _) ?_)
  exact stacked e x (64 * e.val + c.val < 64) (by omega) (fun h => q (ix2 ⟨64 * e.val + c.val, h⟩ x) * _)
    (fun h => q (ix2 ⟨64 * e.val + c.val - 64, by omega⟩ x) * _) (q (ix2 c x) * _)
    (fun h => congrArg (fun r => q (ix2 r x) * _) (Fin.ext (by show 64 * e.val + c.val = c.val; omega)))
    (fun h => congrArg (fun r => q (ix2 r x) * _) (Fin.ext (by show 64 * e.val + c.val - 64 = c.val; omega)))

theorem sMeta_at (q : FVec Ideal S64x128 .bf16) (km : FVec Ideal S16x128 .bf16) (mb : FVec Ideal S1x1x128x16 .f32) (e : Fin 2) (c : Fin 64) (j : Fin 16) :
    sMeta q km mb (ix2 ⟨64 * e.val + c.val, by omega⟩ j) = (∑ d : Fin 64, q (ix2 c ⟨64 * e.val + d.val, by omega⟩) * Ideal.ofBits .bf16 0x3E00#16 * km (ix2 j ⟨64 * e.val + d.val, by omega⟩))
      + mb (ix4 0 0 ⟨64 * e.val + c.val, by omega⟩ j) := by
  pointwise [sMeta, k0_pay7, k0_pay3, k0_pay5, k0_pay2]
  rw [← head_dot e (fun x => q (ix2 c x)) (fun x => km (ix2 j x))]
  refine congrArg (· + _) (Finset.sum_congr rfl fun x _ => congrArg (· * _) ?_)
  exact stacked e x (64 * e.val + c.val < 64) (by omega) (fun h => q (ix2 ⟨64 * e.val + c.val, h⟩ x) * _)
    (fun h => q (ix2 ⟨64 * e.val + c.val - 64, by omega⟩ x) * _) (q (ix2 c x) * _)
    (fun h => congrArg (fun r => q (ix2 r x) * _) (Fin.ext (by show 64 * e.val + c.val = c.val; omega)))
    (fun h => congrArg (fun r => q (ix2 r x) * _) (Fin.ext (by show 64 * e.val + c.val - 64 = c.val; omega)))

theorem sPrefix_at (q : FVec Ideal S16x128 .bf16) (km : FVec Ideal S16x128 .bf16) (mb : FVec Ideal S1x1x32x16 .f32) (e : Fin 2) (c : Fin 16) (j : Fin 16) :
    sPrefix q km mb (ix2 ⟨16 * e.val + c.val, by omega⟩ j) = (∑ d : Fin 64, q (ix2 c ⟨64 * e.val + d.val, by omega⟩) * Ideal.ofBits .bf16 0x3E00#16 * km (ix2 j ⟨64 * e.val + d.val, by omega⟩))
      + mb (ix4 0 0 ⟨16 * e.val + c.val, by omega⟩ j) := by
  pointwise [sPrefix, k0_pay4, k0_pay2]
  rw [← head_dot e (fun x => q (ix2 c x)) (fun x => km (ix2 j x))]
  refine congrArg (· + _) (Finset.sum_congr rfl fun x _ => congrArg (· * _) ?_)
  exact stacked e x (16 * e.val + c.val < 16) (by omega) (fun h => q (ix2 ⟨16 * e.val + c.val, h⟩ x) * _)
    (fun h => q (ix2 ⟨16 * e.val + c.val - 16, by omega⟩ x) * _) (q (ix2 c x) * _)
    (fun h => congrArg (fun r => q (ix2 r x) * _) (Fin.ext (by show 16 * e.val + c.val = c.val; omega)))
    (fun h => congrArg (fun r => q (ix2 r x) * _) (Fin.ext (by show 16 * e.val + c.val - 16 = c.val; omega)))

theorem fromScores_at (sg : FVec Ideal S128x512 .f32) (sm : FVec Ideal S128x16 .f32) (v : FVec Ideal S512x128 .bf16) (vm : FVec Ideal S16x128 .bf16) (e : Fin 2) (c : Fin 64) (d : Fin 64) :
    fromScores sg sm v vm (ix2 c ⟨64 * e.val + d.val, by omega⟩)
      = kerGrid (fun j => sm (ix2 ⟨64 * e.val + c.val, by omega⟩ j)) (fun j => vm (ix2 j ⟨64 * e.val + d.val, by omega⟩))
          (fun j => sg (ix2 ⟨64 * e.val + c.val, by omega⟩ j)) (fun j => v (ix2 j ⟨64 * e.val + d.val, by omega⟩)) := by
  pointwise [fromScores, k0_pay32, k0_pay2, k0_pay18, k0_pay26, k0_pay25, k0_pay19, k0_pay20, k0_pay16, k0_pay17]
  rw [sel_lane _ (by omega), ninf]
  rcases (by omega : e.val = 0 ∨ e.val = 1) with he | he
  · rw [if_pos (by omega)]
    have hr : (⟨c.val, by omega⟩ : Fin 128) = ⟨64 * e.val + c.val, by omega⟩ := Fin.ext (by show c.val = 64 * e.val + c.val; omega)
    simp only [hr]; rfl
  · rw [if_neg (by omega)]
    have hr : (⟨64 + c.val, by omega⟩ : Fin 128) = ⟨64 * e.val + c.val, by omega⟩ := Fin.ext (by show 64 + c.val = 64 * e.val + c.val; omega)
    simp only [hr]; rfl

theorem fromPrefix_at (s : FVec Ideal S32x16 .f32) (vm : FVec Ideal S16x128 .bf16) (e : Fin 2) (c : Fin 16) (d : Fin 64) :
    fromPrefix s vm (ix2 c ⟨64 * e.val + d.val, by omega⟩)
      = kerMeta (fun j => s (ix2 ⟨16 * e.val + c.val, by omega⟩ j)) (fun j => vm (ix2 j ⟨64 * e.val + d.val, by omega⟩)) := by
  pointwise [fromPrefix, k0_pay21, k0_pay2, k0_pay9, k0_pay10, k0_pay8]
  rw [sel_lane _ (by omega), ninf]
  rcases (by omega : e.val = 0 ∨ e.val = 1) with he | he
  · rw [if_pos (by omega)]
    have hr : (⟨c.val, by omega⟩ : Fin 32) = ⟨16 * e.val + c.val, by omega⟩ := Fin.ext (by show c.val = 16 * e.val + c.val; omega)
    simp only [hr]; rfl
  · rw [if_neg (by omega)]
    have hr : (⟨16 + c.val, by omega⟩ : Fin 32) = ⟨16 * e.val + c.val, by omega⟩ := Fin.ext (by show 16 + c.val = 16 * e.val + c.val; omega)
    simp only [hr]; rfl

end Cert.KernelIdeal.Value
-- ==== Proof.Block.lean ====
/- One grid point's block of the attention kernel: every row of the block, from the blocks of queries, keys, values
   and the two tables. -/
module
public import proofs.«01_k».proof.Proof.Unit
import all proofs.«01_k».proof.Proof.Gen.KernelIdeal.Frame.RunA

@[expose] public section

set_option maxRecDepth 16384

noncomputable section

namespace Cert.KernelIdeal.Value

open Cert.Soft Cert.KernelIdeal Cert.KernelIdeal.Gen Idealize.ShloMosaic Idealize.ShloMosaic.TcCoe Idealize.SL.Sem

/-- The first grid row of the window of rows of grid row `r`. -/
def firstRow (r : ℕ) : ℕ := min (r - 4) 24

theorem firstRow_le (r : ℕ) : firstRow r ≤ 24 := by unfold firstRow; omega

/-- The scaled product of a query with a key, over the 64 columns of head `e` of a pair. -/
def dotAt (x0 x1 : Vec Ideal S2064x128 .bf16) (e : Fin 2) (a b : Fin 2064) : EReal :=
  ∑ d : Fin 64, (x0 (ix2 a ⟨64 * e.val + d.val, by omega⟩) : EReal) * Ideal.ofBits .bf16 0x3E00#16 * (x1 (ix2 b ⟨64 * e.val + d.val, by omega⟩) : EReal)

/-- A prefix query's row. -/
def blockMeta (x0 x1 x2 : Vec Ideal S2064x128 .bf16) (x4 : Vec Ideal S1x2x128x16 .f32) (c : Fin 16) (e : Fin 2) (d : Fin 64) : EReal :=
  kerMeta (fun j => dotAt x0 x1 e ⟨c.val, by omega⟩ ⟨j.val, by omega⟩ + x4 (ix4 0 1 ⟨16 * e.val + c.val, by omega⟩ j))
    (fun j => x2 (ix2 ⟨j.val, by omega⟩ ⟨64 * e.val + d.val, by omega⟩))

/-- A grid query's row: grid row `r`, grid column `c`. -/
def blockGrid (x0 x1 x2 : Vec Ideal S2064x128 .bf16) (x3 : Vec Ideal S1x8x128x512 .f32) (x4 : Vec Ideal S1x2x128x16 .f32)
    (r : Fin 32) (c : Fin 64) (e : Fin 2) (d : Fin 64) : EReal :=
  kerGrid (fun j => dotAt x0 x1 e ⟨16 + 64 * r.val + c.val, by omega⟩ ⟨j.val, by omega⟩ + x4 (ix4 0 0 ⟨64 * e.val + c.val, by omega⟩ j))
    (fun j => x2 (ix2 ⟨j.val, by omega⟩ ⟨64 * e.val + d.val, by omega⟩))
    (fun j => dotAt x0 x1 e ⟨16 + 64 * r.val + c.val, by omega⟩ ⟨16 + 64 * firstRow r.val + j.val, by have := firstRow_le r.val; omega⟩
      + x3 (ix4 0 ⟨r.val - firstRow r.val, by unfold firstRow; omega⟩ ⟨64 * e.val + c.val, by omega⟩ j))
    (fun j => x2 (ix2 ⟨16 + 64 * firstRow r.val + j.val, by have := firstRow_le r.val; omega⟩ ⟨64 * e.val + d.val, by omega⟩))

/-- The stored block of grid row `r`, as the kernel's own operations on the loaded pieces. -/
def unit (x0 x1 x2 : Vec Ideal S2064x128 .bf16) (x3 : Vec Ideal S1x8x128x512 .f32) (x4 : Vec Ideal S1x2x128x16 .f32)
    (q0 k0 typ : ℕ) (hq : ∀ i, ![q0, 0] i + ![64, 128] i ≤ S2064x128.size i) (hk : ∀ i, ![k0, 0] i + ![512, 128] i ≤ S2064x128.size i)
    (ht : ∀ i, ![0, typ, 0, 0] i + ![1, 1, 128, 512] i ≤ S1x8x128x512.size i) : FVec Ideal S64x128 .bf16 :=
  fromScores
    (sGrid (View.ld x0 (Rect.unit ![q0, 0] ![64, 128] hq)) (View.ld x1 (Rect.unit ![k0, 0] ![512, 128] hk)) (View.ld x3 (Rect.unit ![0, typ, 0, 0] ![1, 1, 128, 512] ht)))
    (sMeta (View.ld x0 (Rect.unit ![q0, 0] ![64, 128] hq)) (View.ld x1 (Rect.unit ![0, 0] ![16, 128] inb_S2064x128_S16x128_0_0))
      (View.ld x4 (Rect.unit ![0, 0, 0, 0] ![1, 1, 128, 16] inb_S1x2x128x16_S1x1x128x16_0_0_0_0)))
    (View.ld x2 (Rect.unit ![k0, 0] ![512, 128] hk)) (View.ld x2 (Rect.unit ![0, 0] ![16, 128] inb_S2064x128_S16x128_0_0))

theorem inbQ (r : Fin 32) : ∀ i, ![16 + 64 * r.val, 0] i + ![64, 128] i ≤ S2064x128.size i := by
  intro i; fin_cases i
  · show 16 + 64 * r.val + 64 ≤ 2064; omega
  · show 0 + 128 ≤ 128; omega
theorem inbK (r : Fin 32) : ∀ i, ![16 + 64 * firstRow r.val, 0] i + ![512, 128] i ≤ S2064x128.size i := by
  have := firstRow_le r.val
  intro i; fin_cases i
  · show 16 + 64 * firstRow r.val + 512 ≤ 2064; omega
  · show 0 + 128 ≤ 128; omega
theorem inbT (r : Fin 32) : ∀ i, ![0, r.val - firstRow r.val, 0, 0] i + ![1, 1, 128, 512] i ≤ S1x8x128x512.size i := by
  intro i; fin_cases i
  · show 0 + 1 ≤ 1; omega
  · show r.val - firstRow r.val + 1 ≤ 8; unfold firstRow; omega
  · show 0 + 128 ≤ 128; omega
  · show 0 + 512 ≤ 512; omega

/-- The stored block of the prefix. -/
def prefixUnit (x0 x1 x2 : Vec Ideal S2064x128 .bf16) (x4 : Vec Ideal S1x2x128x16 .f32) : FVec Ideal S16x128 .bf16 :=
  fromPrefix (sPrefix (View.ld x0 (Rect.unit ![0, 0] ![16, 128] inb_S2064x128_S16x128_0_0)) (View.ld x1 (Rect.unit ![0, 0] ![16, 128] inb_S2064x128_S16x128_0_0))
      (View.ld x4 (Rect.unit ![0, 1, 0, 0] ![1, 1, 32, 16] inb_S1x2x128x16_S1x1x32x16_0_1_0_0)))
    (View.ld x2 (Rect.unit ![0, 0] ![16, 128] inb_S2064x128_S16x128_0_0))

/-- The block of grid row `r`, where it is stored. -/
def rowPiece (x0 x1 x2 : Vec Ideal S2064x128 .bf16) (x3 : Vec Ideal S1x8x128x512 .f32) (x4 : Vec Ideal S1x2x128x16 .f32) (r : Fin 32) :
    View.Piece (Elt Ideal) S2064x128 .bf16 :=
  ⟨Rect.unit ![16 + 64 * r.val, 0] ![64, 128] (inbQ r),
    unit x0 x1 x2 x3 x4 (16 + 64 * r.val) (16 + 64 * firstRow r.val) (r.val - firstRow r.val) (inbQ r) (inbK r) (inbT r)⟩

/-- The prefix's block, where it is stored. -/
def prefixPiece (x0 x1 x2 : Vec Ideal S2064x128 .bf16) (x4 : Vec Ideal S1x2x128x16 .f32) : View.Piece (Elt Ideal) S2064x128 .bf16 :=
  ⟨Rect.unit ![0, 0] ![16, 128] inb_S2064x128_S16x128_0_0, prefixUnit x0 x1 x2 x4⟩

/-- The point's output block is the 32 grid rows' blocks and the prefix's, each at its place. -/
theorem out_eq (c : Dev nD) (i : grid0.Coords) (a2 a3 a4 a5 a6 a7 h2 h3 h4 h5 h6 h7) (x0 x1 x2 : Vec Ideal S2064x128 .bf16) (x3 : Vec Ideal S1x8x128x512 .f32) (x4 : Vec Ideal S1x2x128x16 .f32) :
    out0_A_5 (F := Ideal) c i a2 h2 a3 h3 a4 h4 a5 h5 a6 h6 a7 h7 x0 x1 x2 x3 x4
      = View.canon ((List.ofFn fun k : Fin 32 => rowPiece x0 x1 x2 x3 x4 ⟨31 - k.val, by omega⟩) ++ [prefixPiece x0 x1 x2 x4]) := by
  frame_out
  refine congrArg View.canon ?_
  sl_kernel_rfl

/-- A load of rows of a block of 128 columns. -/
theorem ld_rows (x : Vec Ideal S2064x128 .bf16) (o n : ℕ) (hr : ∀ i, ![o, 0] i + ![n, 128] i ≤ S2064x128.size i) (a : Fin n) (l : Fin 128) (b : Fin 2064)
    (hb : b.val = o + a.val) : View.ld x (Rect.unit ![o, 0] ![n, 128] hr) (ix2 a l) = x (ix2 b l) := by
  refine View.ld_unit_apply_of _ _ _ _ _ _ fun i => ?_
  fin_cases i
  · exact hb
  · exact (Nat.zero_add _).symm

theorem unit_at (x0 x1 x2 : Vec Ideal S2064x128 .bf16) (x3 : Vec Ideal S1x8x128x512 .f32) (x4 : Vec Ideal S1x2x128x16 .f32) (r : Fin 32)
    (c : Fin 64) (e : Fin 2) (d : Fin 64) :
    unit x0 x1 x2 x3 x4 (16 + 64 * r.val) (16 + 64 * firstRow r.val) (r.val - firstRow r.val) (inbQ r) (inbK r) (inbT r) (ix2 c ⟨64 * e.val + d.val, by omega⟩)
      = blockGrid x0 x1 x2 x3 x4 r c e d := by
  have hf := firstRow_le r.val
  have hQ : ∀ l, View.ld x0 (Rect.unit ![16 + 64 * r.val, 0] ![64, 128] (inbQ r)) (ix2 c l) = x0 (ix2 ⟨16 + 64 * r.val + c.val, by omega⟩ l) :=
    fun l => ld_rows x0 _ _ (inbQ r) c l _ rfl
  have hK : ∀ (x : Vec Ideal S2064x128 .bf16) (j : Fin 512) l, View.ld x (Rect.unit ![16 + 64 * firstRow r.val, 0] ![512, 128] (inbK r)) (ix2 j l)
      = x (ix2 ⟨16 + 64 * firstRow r.val + j.val, by omega⟩ l) := fun x j l => ld_rows x _ _ (inbK r) j l _ rfl
  have hP : ∀ (x : Vec Ideal S2064x128 .bf16) (j : Fin 16) l, View.ld x (Rect.unit ![0, 0] ![16, 128] inb_S2064x128_S16x128_0_0) (ix2 j l)
      = x (ix2 ⟨j.val, by omega⟩ l) := fun x j l => ld_rows x _ _ inb_S2064x128_S16x128_0_0 j l _ (Nat.zero_add _).symm
  have hT : ∀ (a : Fin 128) (j : Fin 512), View.ld x3 (Rect.unit ![0, r.val - firstRow r.val, 0, 0] ![1, 1, 128, 512] (inbT r)) (ix4 0 0 a j)
      = x3 (ix4 0 ⟨r.val - firstRow r.val, by unfold firstRow; omega⟩ a j) := fun a j => by
    refine View.ld_unit_apply_of _ _ _ _ _ _ fun i => ?_
    fin_cases i
    · rfl
    · rfl
    · exact (Nat.zero_add _).symm
    · exact (Nat.zero_add _).symm
  have hM : ∀ (a : Fin 128) (j : Fin 16), View.ld x4 (Rect.unit ![0, 0, 0, 0] ![1, 1, 128, 16] inb_S1x2x128x16_S1x1x128x16_0_0_0_0) (ix4 0 0 a j)
      = x4 (ix4 0 0 a j) := fun a j => by
    refine View.ld_unit_apply_of _ _ _ _ _ _ fun i => ?_
    fin_cases i
    · rfl
    · rfl
    · exact (Nat.zero_add _).symm
    · exact (Nat.zero_add _).symm
  unfold unit blockGrid
  rw [fromScores_at]
  congr 1
  · funext j
    rw [sMeta_at, hM]
    refine congrArg (· + _) (Finset.sum_congr rfl fun l _ => ?_)
    rw [hQ, hP]
  · funext j; exact hP x2 j _
  · funext j
    rw [sGrid_at, hT]
    refine congrArg (· + _) (Finset.sum_congr rfl fun l _ => ?_)
    rw [hQ, hK]
  · funext j; exact hK x2 j _

theorem prefixUnit_at (x0 x1 x2 : Vec Ideal S2064x128 .bf16) (x4 : Vec Ideal S1x2x128x16 .f32) (c : Fin 16) (e : Fin 2) (d : Fin 64) :
    prefixUnit x0 x1 x2 x4 (ix2 c ⟨64 * e.val + d.val, by omega⟩) = blockMeta x0 x1 x2 x4 c e d := by
  have hP : ∀ (x : Vec Ideal S2064x128 .bf16) (j : Fin 16) l, View.ld x (Rect.unit ![0, 0] ![16, 128] inb_S2064x128_S16x128_0_0) (ix2 j l)
      = x (ix2 ⟨j.val, by omega⟩ l) := fun x j l => ld_rows x _ _ inb_S2064x128_S16x128_0_0 j l _ (Nat.zero_add _).symm
  have hM : ∀ (a : Fin 32) (j : Fin 16), View.ld x4 (Rect.unit ![0, 1, 0, 0] ![1, 1, 32, 16] inb_S1x2x128x16_S1x1x32x16_0_1_0_0) (ix4 0 0 a j)
      = x4 (ix4 0 1 ⟨a.val, by omega⟩ j) := fun a j => by
    refine View.ld_unit_apply_of _ _ _ _ _ _ fun i => ?_
    fin_cases i
    · rfl
    · rfl
    · exact (Nat.zero_add _).symm
    · exact (Nat.zero_add _).symm
  unfold prefixUnit blockMeta
  rw [fromPrefix_at]
  congr 1
  · funext j
    rw [sPrefix_at, hM]
    refine congrArg (· + _) (Finset.sum_congr rfl fun l _ => ?_)
    rw [hP, hP]
  · funext j; exact hP x2 j _

/-- The whole block: rows below 16 are the prefix's, the others the grid's. -/
def blockOut (x0 x1 x2 : Vec Ideal S2064x128 .bf16) (x3 : Vec Ideal S1x8x128x512 .f32) (x4 : Vec Ideal S1x2x128x16 .f32) (ρ : Fin 2064) (e : Fin 2) (d : Fin 64) : EReal :=
  if h : ρ.val < 16 then blockMeta x0 x1 x2 x4 ⟨ρ.val, h⟩ e d
  else blockGrid x0 x1 x2 x3 x4 ⟨(ρ.val - 16) / 64, by omega⟩ ⟨(ρ.val - 16) % 64, by omega⟩ e d

/-- The head and the column within the head of a column of the block. -/
theorem col_split (l : Fin 128) : ∃ (e : Fin 2) (d : Fin 64), l = ⟨64 * e.val + d.val, by omega⟩ :=
  ⟨⟨l.val / 64, by omega⟩, ⟨l.val % 64, by omega⟩, Fin.ext (by show l.val = 64 * (l.val / 64) + l.val % 64; omega)⟩

theorem blockOut_row (x0 x1 x2 : Vec Ideal S2064x128 .bf16) (x3 : Vec Ideal S1x8x128x512 .f32) (x4 : Vec Ideal S1x2x128x16 .f32) (ρ : Fin 2064) (e e' : Fin 2) (d d' : Fin 64)
    (r : Fin 32) (c : Fin 64) (h : ρ.val = 16 + 64 * r.val + c.val) (he : e = e') (hd : d = d') :
    blockOut x0 x1 x2 x3 x4 ρ e d = blockGrid x0 x1 x2 x3 x4 r c e' d' := by
  subst he hd
  unfold blockOut
  rw [dif_neg (by omega), show (⟨(ρ.val - 16) / 64, by omega⟩ : Fin 32) = r from Fin.ext (by show (ρ.val - 16) / 64 = r.val; omega),
    show (⟨(ρ.val - 16) % 64, by omega⟩ : Fin 64) = c from Fin.ext (by show (ρ.val - 16) % 64 = c.val; omega)]

theorem blockOut_prefix (x0 x1 x2 : Vec Ideal S2064x128 .bf16) (x3 : Vec Ideal S1x8x128x512 .f32) (x4 : Vec Ideal S1x2x128x16 .f32) (ρ : Fin 2064) (e e' : Fin 2) (d d' : Fin 64)
    (c : Fin 16) (h : ρ.val = c.val) (he : e = e') (hd : d = d') :
    blockOut x0 x1 x2 x3 x4 ρ e d = blockMeta x0 x1 x2 x4 c e' d' := by
  subst he hd
  unfold blockOut
  rw [dif_pos (by omega), show (⟨ρ.val, by omega⟩ : Fin 16) = c from Fin.ext h]

theorem out_at (c : Dev nD) (i : grid0.Coords) (a2 a3 a4 a5 a6 a7 h2 h3 h4 h5 h6 h7) (x0 x1 x2 : Vec Ideal S2064x128 .bf16) (x3 : Vec Ideal S1x8x128x512 .f32) (x4 : Vec Ideal S1x2x128x16 .f32)
    (ρ : Fin 2064) (e : Fin 2) (d : Fin 64) :
    out0_A_5 (F := Ideal) c i a2 h2 a3 h3 a4 h4 a5 h5 a6 h6 a7 h7 x0 x1 x2 x3 x4 (ix2 ρ ⟨64 * e.val + d.val, by omega⟩)
      = blockOut x0 x1 x2 x3 x4 ρ e d := by
  rw [out_eq]
  refine (View.canon_apply_of_pieces (Val := Elt Ideal) (e := .bf16) (fun y : S2064x128.Idx => blockOut x0 x1 x2 x3 x4 (y 0)
    ⟨(y 1).val / 64, by have : (y 1).val < 128 := (y 1).isLt; omega⟩ ⟨(y 1).val % 64, by omega⟩) _ ?_ _ ?_).trans ?_
  · intro p hp x
    rcases List.mem_append.mp hp with hp | hp
    · obtain ⟨k, rfl⟩ := (List.mem_ofFn' _ _).mp hp
      change S64x128.Idx at x
      obtain ⟨cc, l, rfl⟩ : ∃ (cc : Fin 64) (l : Fin 128), x = ix2 cc l := ⟨x 0, x 1, by funext a; fin_cases a <;> rfl⟩
      obtain ⟨e', d', rfl⟩ := col_split l
      refine (unit_at x0 x1 x2 x3 x4 ⟨31 - k.val, by omega⟩ cc e' d').trans ?_
      have h0 : ((rowPiece x0 x1 x2 x3 x4 ⟨31 - k.val, by omega⟩).1.emb (ix2 cc ⟨64 * e'.val + d'.val, by omega⟩) 0).val = 16 + 64 * (31 - k.val) + cc.val :=
        ValueKit.rect_emb_unit_val _ _ (inbQ ⟨31 - k.val, by omega⟩) _ _
      have h1 : ((rowPiece x0 x1 x2 x3 x4 ⟨31 - k.val, by omega⟩).1.emb (ix2 cc ⟨64 * e'.val + d'.val, by omega⟩) 1).val = 64 * e'.val + d'.val :=
        (ValueKit.rect_emb_unit_val _ _ (inbQ ⟨31 - k.val, by omega⟩) _ _).trans (Nat.zero_add _)
      refine (blockOut_row x0 x1 x2 x3 x4 _ _ _ _ _ ⟨31 - k.val, by omega⟩ cc h0 (Fin.ext ?_) (Fin.ext ?_)).symm
      · show (_ : ℕ) / 64 = _; rw [h1]; omega
      · show (_ : ℕ) % 64 = _; rw [h1]; omega
    · obtain rfl := List.mem_singleton.mp hp
      change S16x128.Idx at x
      obtain ⟨cc, l, rfl⟩ : ∃ (cc : Fin 16) (l : Fin 128), x = ix2 cc l := ⟨x 0, x 1, by funext a; fin_cases a <;> rfl⟩
      obtain ⟨e', d', rfl⟩ := col_split l
      refine (prefixUnit_at x0 x1 x2 x4 cc e' d').trans ?_
      have h0 : ((prefixPiece x0 x1 x2 x4).1.emb (ix2 cc ⟨64 * e'.val + d'.val, by omega⟩) 0).val = cc.val :=
        (ValueKit.rect_emb_unit_val _ _ inb_S2064x128_S16x128_0_0 _ _).trans (Nat.zero_add _)
      have h1 : ((prefixPiece x0 x1 x2 x4).1.emb (ix2 cc ⟨64 * e'.val + d'.val, by omega⟩) 1).val = 64 * e'.val + d'.val :=
        (ValueKit.rect_emb_unit_val _ _ inb_S2064x128_S16x128_0_0 _ _).trans (Nat.zero_add _)
      refine (blockOut_prefix x0 x1 x2 x3 x4 _ _ _ _ _ cc h0 (Fin.ext ?_) (Fin.ext ?_)).symm
      · show (_ : ℕ) / 64 = _; rw [h1]; omega
      · show (_ : ℕ) % 64 = _; rw [h1]; omega
  · exact View.cover_of_tiledBy _ ![16, 128] (by sl_kernel_rfl) _
  · show blockOut x0 x1 x2 x3 x4 ρ ⟨(64 * e.val + d.val) / 64, _⟩ ⟨(64 * e.val + d.val) % 64, _⟩ = _
    congr 1
    · exact Fin.ext (by show (64 * e.val + d.val) / 64 = e.val; omega)
    · exact Fin.ext (by show (64 * e.val + d.val) % 64 = d.val; omega)

end Cert.KernelIdeal.Value
-- ==== Proof.Gathers.lean ====
/- The four gathers of the bias table along one axis, read at an index, and the constants they read. -/
module
public import proofs.«01_k».proof.Proof.Block
public import proofs.«01_k».proof.Proof.Gen.ReferenceIdeal.Run

@[expose] public section

set_option maxRecDepth 16384

noncomputable section

namespace Cert.Attn

open Idealize.ShloMosaic

/-- An axis no start index moves is read at the result's own coordinate. -/
theorem operandIdx_keep {s si t : Shape} (d : GatherDims s si t) {w : ℕ} (j : t.Idx) (idx : IVec si w) (a : Fin s.rank)
    (h1 : a ∉ d.startIndexMap) (h2 : a ∉ d.operandBatchingDims) : (d.operandIdx j idx a).val = d.offCoord j a := by
  show d.start j idx a + d.batchCoord j a + d.offCoord j a = _
  rw [GatherDims.batchCoord_eq_zero _ _ _ h2]
  unfold GatherDims.start
  rw [dif_neg h1, Nat.zero_add]

/-- A collapsed axis a start index moves is read at that start index, clamped. -/
theorem operandIdx_start {s si t : Shape} (d : GatherDims s si t) {w : ℕ} (j : t.Idx) (idx : IVec si w) (a : Fin s.rank)
    (h1 : a ∈ d.startIndexMap) (h2 : a ∉ d.operandBatchingDims) (h3 : a ∈ d.collapsedSliceDims) (k : si.Idx)
    (hk : d.siIdx j ⟨d.startIndexMap.idxOf a, List.idxOf_lt_length_iff.2 h1⟩ = k) :
    (d.operandIdx j idx a).val = min (idx k).toInt.toNat (s.size a - d.sliceSizes a) := by
  show d.start j idx a + d.batchCoord j a + d.offCoord j a = _
  rw [GatherDims.batchCoord_eq_zero _ _ _ h2, GatherDims.offCoord_eq_zero _ _ _ fun h => ((d.mem_sKept _).mp h).1 h3]
  unfold GatherDims.start
  rw [dif_pos h1, hk, Nat.add_zero]

theorem gatherRows_at (x : FVec Ideal Cert.KernelIdeal.S16x15x31 .f32) (idx : IVec Cert.KernelIdeal.S8x8x1 32) (h : Fin 16) (a b : Fin 8) (d : Fin 31) :
    Host.gather Cert.KernelIdeal.gather_S16x15x31_S8x8x1_S16x8x8x31_03_1_n_n_1_2_16131 x idx (ix4 h a b d)
      = x (ix3 h ⟨min (idx (ix3 a b 0)).toInt.toNat 14, by omega⟩ d) := by
  refine congrArg x (funext fun ax => ?_)
  fin_cases ax
  · exact Fin.ext ((operandIdx_keep Cert.KernelIdeal.gather_S16x15x31_S8x8x1_S16x8x8x31_03_1_n_n_1_2_16131 _ idx 0 (by decide) (by decide)).trans rfl)
  · exact Fin.ext (operandIdx_start Cert.KernelIdeal.gather_S16x15x31_S8x8x1_S16x8x8x31_03_1_n_n_1_2_16131 _ idx 1 (by decide) (by decide) (by decide) (ix3 a b 0) (by funext q; fin_cases q <;> rfl))
  · exact Fin.ext ((operandIdx_keep Cert.KernelIdeal.gather_S16x15x31_S8x8x1_S16x8x8x31_03_1_n_n_1_2_16131 _ idx 2 (by decide) (by decide)).trans rfl)

theorem gatherCols_at (x : FVec Ideal Cert.KernelIdeal.S16x8x8x31 .f32) (idx : IVec Cert.KernelIdeal.S4096x1 32) (h : Fin 16) (a b : Fin 8) (d : Fin 4096) :
    Host.gather Cert.KernelIdeal.gather_S16x8x8x31_S4096x1_S16x8x8x4096_012_3_n_n_3_1_16881 x idx (ix4 h a b d)
      = x (ix4 h a b ⟨min (idx (ix2 d 0)).toInt.toNat 30, by omega⟩) := by
  refine congrArg x (funext fun ax => ?_)
  fin_cases ax
  · exact Fin.ext ((operandIdx_keep Cert.KernelIdeal.gather_S16x8x8x31_S4096x1_S16x8x8x4096_012_3_n_n_3_1_16881 _ idx 0 (by decide) (by decide)).trans rfl)
  · exact Fin.ext ((operandIdx_keep Cert.KernelIdeal.gather_S16x8x8x31_S4096x1_S16x8x8x4096_012_3_n_n_3_1_16881 _ idx 1 (by decide) (by decide)).trans rfl)
  · exact Fin.ext ((operandIdx_keep Cert.KernelIdeal.gather_S16x8x8x31_S4096x1_S16x8x8x4096_012_3_n_n_3_1_16881 _ idx 2 (by decide) (by decide)).trans rfl)
  · exact Fin.ext (operandIdx_start Cert.KernelIdeal.gather_S16x8x8x31_S4096x1_S16x8x8x4096_012_3_n_n_3_1_16881 _ idx 3 (by decide) (by decide) (by decide) (ix2 d 0) (by funext q; fin_cases q <;> rfl))

theorem refCols_at (x : FVec Ideal Cert.ReferenceIdeal.S16x15x31 .f32) (idx : IVec Cert.ReferenceIdeal.S64x64x1 32) (h : Fin 16) (a : Fin 15) (b d : Fin 64) :
    Host.gather Cert.ReferenceIdeal.gather_S16x15x31_S64x64x1_S16x15x64x64_01_2_n_n_2_2_16151 x idx (ix4 h a b d)
      = x (ix3 h a ⟨min (idx (ix3 b d 0)).toInt.toNat 30, by omega⟩) := by
  refine congrArg x (funext fun ax => ?_)
  fin_cases ax
  · exact Fin.ext ((operandIdx_keep Cert.ReferenceIdeal.gather_S16x15x31_S64x64x1_S16x15x64x64_01_2_n_n_2_2_16151 _ idx 0 (by decide) (by decide)).trans rfl)
  · exact Fin.ext ((operandIdx_keep Cert.ReferenceIdeal.gather_S16x15x31_S64x64x1_S16x15x64x64_01_2_n_n_2_2_16151 _ idx 1 (by decide) (by decide)).trans rfl)
  · exact Fin.ext (operandIdx_start Cert.ReferenceIdeal.gather_S16x15x31_S64x64x1_S16x15x64x64_01_2_n_n_2_2_16151 _ idx 2 (by decide) (by decide) (by decide) (ix3 b d 0) (by funext q; fin_cases q <;> rfl))

theorem refRows_at (x : FVec Ideal Cert.ReferenceIdeal.S16x15x64x64 .f32) (idx : IVec Cert.ReferenceIdeal.S32x32x1 32) (h : Fin 16) (r r' : Fin 32) (a b : Fin 64) :
    Host.gather Cert.ReferenceIdeal.gather_S16x15x64x64_S32x32x1_S16x32x32x64x64_034_1_n_n_1_2_1616464 x idx (ix5 h r r' a b)
      = x (ix4 h ⟨min (idx (ix3 r r' 0)).toInt.toNat 14, by omega⟩ a b) := by
  refine congrArg x (funext fun ax => ?_)
  fin_cases ax
  · exact Fin.ext ((operandIdx_keep Cert.ReferenceIdeal.gather_S16x15x64x64_S32x32x1_S16x32x32x64x64_034_1_n_n_1_2_1616464 _ idx 0 (by decide) (by decide)).trans rfl)
  · exact Fin.ext (operandIdx_start Cert.ReferenceIdeal.gather_S16x15x64x64_S32x32x1_S16x32x32x64x64_034_1_n_n_1_2_1616464 _ idx 1 (by decide) (by decide) (by decide) (ix3 r r' 0) (by funext q; fin_cases q <;> rfl))
  · exact Fin.ext ((operandIdx_keep Cert.ReferenceIdeal.gather_S16x15x64x64_S32x32x1_S16x32x32x64x64_034_1_n_n_1_2_1616464 _ idx 2 (by decide) (by decide)).trans rfl)
  · exact Fin.ext ((operandIdx_keep Cert.ReferenceIdeal.gather_S16x15x64x64_S32x32x1_S16x32x32x64x64_034_1_n_n_1_2_1616464 _ idx 3 (by decide) (by decide)).trans rfl)

end Cert.Attn
-- ==== Proof.Consts.lean ====
/- The integer constants of the kernel's bias table: row offsets, column offsets, and the window of columns. -/
module
public import proofs.«01_k».proof.Proof.Gathers

@[expose] public section

set_option maxRecDepth 16384

noncomputable section

namespace Cert.KernelIdeal.Value

open Cert.KernelIdeal Cert.KernelIdeal.Gen Idealize.ShloMosaic Idealize.ShloMosaic.TcCoe

/-- The first grid column of the window of columns of grid column `c`. -/
def firstCol (c : ℕ) : ℕ := min (c - 8) 48

/-- The column offset's place in the bias table. -/
def colOff (c c' : ℕ) : ℕ := min (c' + 15 - c) 30

theorem lit0_eq : ∀ a b : Fin 8, min (Scalar.select (α := BitVec 32) 0#1 (lit0 (S8x8.rowMajor (ix2 a b)) + 15#32) (lit0 (S8x8.rowMajor (ix2 a b)))).toInt.toNat 14 = b.val + 7 - a.val := by
  decide +kernel
theorem lit1_eq : ∀ c c' : Fin 64, min (Scalar.select (α := BitVec 32) 0#1 (lit1 (S4096.rowMajor (ix1 ⟨c.val * 64 + c'.val, by omega⟩)) + 31#32) (lit1 (S4096.rowMajor (ix1 ⟨c.val * 64 + c'.val, by omega⟩)))).toInt.toNat 30 = colOff c.val c'.val := by
  decide +kernel
theorem lit2_eq : ∀ c c' : Fin 64, lit2 (S64x64.rowMajor (ix2 c c')) = if firstCol c.val ≤ c'.val ∧ c'.val < firstCol c.val + 16 then 1#1 else 0#1 := by
  decide +kernel

end Cert.KernelIdeal.Value
-- ==== Proof.Table.lean ====
/- The two tables the host hands the attention kernel, entry by entry: the bias of the window (minus infinity at the
   grid columns outside it) and the prefix keys' bias. -/
module
public import proofs.«01_k».proof.Proof.Consts

@[expose] public section

set_option maxRecDepth 16384

noncomputable section

namespace Cert.KernelIdeal.Value

open Cert.Soft Cert.Attn Cert.KernelIdeal Cert.KernelIdeal.Gen Idealize.ShloMosaic Idealize.ShloMosaic.TcCoe Idealize.SL.Sem

/-- The bias of a query at grid column `q` for a key at grid column `q'`, `o` rows along the table: minus infinity outside the window of columns. -/
def biasAt (b : FVec Ideal S16x15x31 .f32) (h : Fin 16) (o : Fin 15) (q q' : Fin 64) : EReal :=
  if firstCol q.val ≤ q'.val ∧ q'.val < firstCol q.val + 16 then b (ix3 h o ⟨colOff q.val q'.val, by unfold colOff; omega⟩) else ⊥

/-- The masked entry, its three coordinates given by equations. -/
theorem select_table (b : FVec Ideal S16x15x31 .f32) (P : Prop) [Decidable P] (h h' : Fin 16) (r r' : Fin 15) (s s' : Fin 31)
    (eh : h = h') (er : r = r') (es : s = s') :
    Scalar.select (if P then 1#1 else 0#1) (b (ix3 h r s)) (⊥ : EReal) = if P then (b (ix3 h' r' s') : EReal) else ⊥ := by
  subst eh er es
  by_cases hP : P
  · rw [if_pos hP, if_pos hP]; rfl
  · rw [if_neg hP, if_neg hP]; rfl

theorem table_at (m : (ℓ : Loc nD τ sig) → Buf (Elt Ideal) ℓ) (c : Dev nD) (p : Fin 8) (t : Fin 8) (e : Fin 2) (q : Fin 64) (i : Fin 8) (q' : Fin 64) :
    (V (F := Ideal) m c main_v17 : FVec Ideal S8x8x128x512 .f32) (ix4 p t ⟨64 * e.val + q.val, by omega⟩ ⟨64 * i.val + q'.val, by omega⟩)
      = biasAt (m ((c : Thread nD τ).loc main_arg1)) ⟨2 * p.val + e.val, by omega⟩ ⟨i.val + 7 - t.val, by omega⟩ q q' := by
  dsimp only [V]
  simp only [hostOps0, hostOps0_1, hostOps0_2, hostOps0_3, hostOps0_4, List.flatten_cons, List.flatten_nil, List.append_nil, List.cons_append, List.nil_append]
  entry_read
  pointwise
  dsimp only [StableHlo.TRef.toBuf, StableHlo.TRef.ofBuf]
  simp only [cast_eq, eq_mpr_eq_cast]
  pointwise
  rw [gatherCols_at, gatherRows_at]
  refine Eq.trans (congrArg₂ (fun z w => Scalar.select z _ w) (lit2_eq q q') ninf) ?_
  have hr : (⟨min ((broadcastInDim S8x8x1 ![0, 1] bcast_S8x8_S8x8x1_0_1
            (select (constantI S8x8 1 0#1)
              (addi (fun i => lit0 (S8x8.rowMajor i)) (broadcastInDim S8x8 ![] bcast_S_S8x8 (constantI S_ 32 15#32)))
              fun i => lit0 (S8x8.rowMajor i))) (ix3 t i 0)).toInt.toNat 14, by omega⟩ : Fin 15) = ⟨i.val + 7 - t.val, by omega⟩ := by
    refine Fin.ext ((?_ : _ = _).trans (lit0_eq t i))
    pointwise
  have hc : (⟨min ((broadcastInDim S4096x1 ![0] bcast_S4096_S4096x1_0
          (select (constantI S4096 1 0#1)
            (addi (fun i => lit1 (S4096.rowMajor i)) (broadcastInDim S4096 ![] bcast_S_S4096 (constantI S_ 32 31#32)))
            fun i => lit1 (S4096.rowMajor i))) (ix2 ⟨q.val * 64 + q'.val, by omega⟩ 0)).toInt.toNat 30, by omega⟩ : Fin 31) = ⟨colOff q.val q'.val, by unfold colOff; omega⟩ := by
    refine Fin.ext ((?_ : _ = _).trans (lit1_eq q q'))
    pointwise
  exact select_table (m ((c : Thread nD τ).loc main_arg1)) _ _ _ _ _ _ _ (Fin.ext (by show p.val * 2 + e.val = 2 * p.val + e.val; omega)) hr hc

theorem bias_at (m : (ℓ : Loc nD τ sig) → Buf (Elt Ideal) ℓ) (c : Dev nD) (p : Fin 8) (e : Fin 2) (q : Fin 64) (j : Fin 16) :
    (V (F := Ideal) m c main_v26 : FVec Ideal S8x2x128x16 .f32) (ix4 p 0 ⟨64 * e.val + q.val, by omega⟩ j)
      = (m ((c : Thread nD τ).loc main_arg2) : FVec Ideal S16x16 .f32) (ix2 ⟨2 * p.val + e.val, by omega⟩ j) := by
  dsimp only [V]
  simp only [hostOps0, hostOps0_1, hostOps0_2, hostOps0_3, hostOps0_4, List.flatten_cons, List.flatten_nil, List.append_nil, List.cons_append, List.nil_append]
  entry_read
  pointwise
  exact congrArg (fun r => (m ((c : Thread nD τ).loc main_arg2) : FVec Ideal S16x16 .f32) (ix2 r j)) (Fin.ext (by show p.val * 2 + (64 * e.val + q.val) / 64 = 2 * p.val + e.val; omega))

theorem biasPrefix_at (m : (ℓ : Loc nD τ sig) → Buf (Elt Ideal) ℓ) (c : Dev nD) (p : Fin 8) (e : Fin 2) (q : Fin 16) (j : Fin 16) :
    (V (F := Ideal) m c main_v26 : FVec Ideal S8x2x128x16 .f32) (ix4 p 1 ⟨16 * e.val + q.val, by omega⟩ j)
      = (m ((c : Thread nD τ).loc main_arg2) : FVec Ideal S16x16 .f32) (ix2 ⟨2 * p.val + e.val, by omega⟩ j) := by
  dsimp only [V]
  simp only [hostOps0, hostOps0_1, hostOps0_2, hostOps0_3, hostOps0_4, List.flatten_cons, List.flatten_nil, List.append_nil, List.cons_append, List.nil_append]
  entry_read
  pointwise
  dsimp only [StableHlo.TRef.toBuf, StableHlo.TRef.ofBuf]
  simp only [cast_eq, eq_mpr_eq_cast]
  pointwise
  rw [dif_pos (by omega)]
  exact congrArg (fun r => (m ((c : Thread nD τ).loc main_arg2) : FVec Ideal S16x16 .f32) (ix2 r j)) (Fin.ext (by show p.val * 2 + (16 * e.val + q.val) / 16 = 2 * p.val + e.val; omega))

end Cert.KernelIdeal.Value
-- ==== Proof.Ref.lean ====
/- The stages of the reference read at an index. -/
module
public import proofs.«01_k».proof.Proof.Stages
public import proofs.«01_k».proof.Proof.Table

@[expose] public section

set_option maxRecDepth 16384

noncomputable section

namespace Cert.ReferenceIdeal.Attn

open Cert.Soft Cert.Attn Cert.KernelIdeal.Value Cert.ReferenceIdeal Cert.ReferenceIdeal.Gen Idealize.ShloMosaic Idealize.ShloMosaic.TcCoe Idealize.SL.Sem

variable (P : FVec Ideal S33024x12288 .bf16) (B : FVec Ideal S16x15x31 .f32) (M : FVec Ideal S16x16 .f32)

/-- The entry of one projection, `o` columns in: example, position, head, column of the head. -/
def proj (o : Fin 3) (b : Fin 16) (ρ : Fin 2064) (h : Fin 16) (d : Fin 64) : EReal :=
  P (ix2 ⟨b.val * 2064 + ρ.val, by omega⟩ ⟨1024 * o.val + (h.val * 64 + d.val), by omega⟩)

theorem qAll_at (b : Fin 16) (ρ : Fin 2064) (h : Fin 16) (d : Fin 64) :
    qAll P (ix4 b ρ h d) = proj P 0 b ρ h d * ((1 / 8 : ℝ) : EReal) := by
  unfold qAll proj
  pointwise
  refine congrArg₂ (· * ·) (congrArg P (congrArg (ix2 _) (Fin.ext ?_))) eighth32
  simp

theorem kAll_at (b : Fin 16) (ρ : Fin 2064) (h : Fin 16) (d : Fin 64) :
    kAll P (ix4 b ρ h d) = proj P 1 b ρ h d := by
  unfold kAll
  pointwise
  rfl

theorem vAll_at (b : Fin 16) (ρ : Fin 2064) (h : Fin 16) (d : Fin 64) :
    vAll P (ix4 b ρ h d) = proj P 2 b ρ h d := by
  unfold vAll
  pointwise
  rfl

/-- The score of one position for another, before any bias. -/
def score (b h : Fin 16) (i j : Fin 2064) : EReal :=
  ∑ d : Fin 64, proj P 0 b i h d * ((1 / 8 : ℝ) : EReal) * proj P 1 b j h d

/-- The place of a prefix position. -/
def pre (i : Fin 16) : Fin 2064 := ⟨i.val, by omega⟩
/-- The place of a grid position. -/
def grd (k : Fin 2048) : Fin 2064 := ⟨16 + k.val, by omega⟩

theorem qPre_at (b i h : Fin 16) (d : Fin 64) : qPre P (ix4 b i h d) = proj P 0 b (pre i) h d * ((1 / 8 : ℝ) : EReal) := by
  refine Eq.trans ?_ (qAll_at P b (pre i) h d)
  unfold qPre pre
  pointwise
theorem kPre_at (b i h : Fin 16) (d : Fin 64) : kPre P (ix4 b i h d) = proj P 1 b (pre i) h d := by
  refine Eq.trans ?_ (kAll_at P b (pre i) h d)
  unfold kPre pre
  pointwise
theorem vPre_at (b i h : Fin 16) (d : Fin 64) : vPre P (ix4 b i h d) = proj P 2 b (pre i) h d := by
  refine Eq.trans ?_ (vAll_at P b (pre i) h d)
  unfold vPre pre
  pointwise
theorem qGrid_at (b : Fin 16) (k : Fin 2048) (h : Fin 16) (d : Fin 64) : qGrid P (ix4 b k h d) = proj P 0 b (grd k) h d * ((1 / 8 : ℝ) : EReal) := by
  refine Eq.trans ?_ (qAll_at P b (grd k) h d)
  unfold qGrid grd
  pointwise
theorem kGrid_at (b : Fin 16) (k : Fin 2048) (h : Fin 16) (d : Fin 64) : kGrid P (ix4 b k h d) = proj P 1 b (grd k) h d := by
  refine Eq.trans ?_ (kAll_at P b (grd k) h d)
  unfold kGrid grd
  pointwise
theorem vGrid_at (b : Fin 16) (k : Fin 2048) (h : Fin 16) (d : Fin 64) : vGrid P (ix4 b k h d) = proj P 2 b (grd k) h d := by
  refine Eq.trans ?_ (vAll_at P b (grd k) h d)
  unfold vGrid grd
  pointwise

theorem sPre_at (b h i j : Fin 16) :
    sPre P M (ix4 b h i j) = score P b h (pre i) (pre j) + M (ix2 h j) := by
  unfold sPre biasRow score
  pointwise
  exact congrArg (· + _) (Finset.sum_congr rfl fun d _ => congrArg₂ (· * ·) (qPre_at P b i h d) (kPre_at P b j h d))

theorem sMeta_at (b h : Fin 16) (k : Fin 2048) (j : Fin 16) :
    sMeta P M (ix4 b h k j) = score P b h (grd k) (pre j) + M (ix2 h j) := by
  unfold sMeta biasRow score
  pointwise
  exact congrArg (· + _) (Finset.sum_congr rfl fun d _ => congrArg₂ (· * ·) (qGrid_at P b k h d) (kPre_at P b j h d))

theorem rowMask_at (r r' : Fin 32) :
    rowMask (ix2 r r') = if firstRow r.val ≤ r'.val ∧ r'.val < firstRow r.val + 8 then 1#1 else 0#1 := by
  unfold rowMask
  pointwise
  revert r r'
  decide +kernel

theorem colMask_at (q q' : Fin 64) :
    colMask (ix2 q q') = if firstCol q.val ≤ q'.val ∧ q'.val < firstCol q.val + 16 then 1#1 else 0#1 := by
  unfold colMask
  pointwise
  revert q q'
  decide +kernel

theorem colIdx_at (q q' : Fin 64) : min (colIdx (ix3 q q' 0)).toInt.toNat 30 = colOff q.val q'.val := by
  unfold colIdx
  pointwise
  revert q q'
  decide +kernel

theorem rowIdx_at (r r' : Fin 32) : min (rowIdx (ix3 r r' 0)).toInt.toNat 14 = min (r'.val + 7 - r.val) 14 := by
  unfold rowIdx
  pointwise
  revert r r'
  decide +kernel

/-- The place in the grid of a row and a column. -/
def cell (r : Fin 32) (q : Fin 64) : Fin 2048 := ⟨r.val * 64 + q.val, by omega⟩

theorem mask_at (b h : Fin 16) (r r' : Fin 32) (q q' : Fin 64) :
    mask (ix4 b h (cell r q) (cell r' q')) = IntOp.andi (rowMask (ix2 r r')) (colMask (ix2 q q')) := by
  unfold mask cell
  pointwise

theorem biasGrid_at (h : Fin 16) (r r' : Fin 32) (q q' : Fin 64) :
    biasGrid B (ix3 h (cell r q) (cell r' q')) = B (ix3 h ⟨min (r'.val + 7 - r.val) 14, by omega⟩ ⟨colOff q.val q'.val, by unfold colOff; omega⟩) := by
  unfold biasGrid cell
  pointwise
  rw [refRows_at, refCols_at]
  exact congrArg₂ (fun u w => B (ix3 h u w)) (Fin.ext (rowIdx_at r r')) (Fin.ext (colIdx_at q q'))

/-- A score under the window's two masks. -/
theorem masked (A C : Prop) [Decidable A] [Decidable C] (s x : EReal) :
    Scalar.select (IntOp.andi (if A then 1#1 else 0#1) (if C then 1#1 else 0#1)) (s + x) ⊥ = if A then s + (if C then x else ⊥) else ⊥ := by
  by_cases hA : A <;> by_cases hC : C <;> simp only [hA, hC, if_true, if_false] <;> first | rfl | exact (EReal.add_bot s).symm

theorem sGrid_at (b h : Fin 16) (r r' : Fin 32) (q q' : Fin 64) :
    sGrid P B (ix4 b h (cell r q) (cell r' q'))
      = if firstRow r.val ≤ r'.val ∧ r'.val < firstRow r.val + 8 then
          score P b h (grd (cell r q)) (grd (cell r' q')) + biasAt B h ⟨min (r'.val + 7 - r.val) 14, by omega⟩ q q'
        else ⊥ := by
  unfold sGrid score
  pointwise
  refine Eq.trans ?_ (masked _ (firstCol q.val ≤ q'.val ∧ q'.val < firstCol q.val + 16) _ _)
  refine congr (congrArg₂ Scalar.select ?_ (congrArg₂ (· + ·) (Finset.sum_congr rfl fun d _ => congrArg₂ (· * ·) (qGrid_at P b _ h d) (kGrid_at P b _ h d)) (biasGrid_at B h r r' q q'))) ninf
  exact (mask_at b h r r' q q').trans (congrArg₂ IntOp.andi (rowMask_at r r') (colMask_at q q'))

end Cert.ReferenceIdeal.Attn
-- ==== Proof.RefSoft.lean ====
/- The reference's softmax and its results, read at an index. -/
module
public import proofs.«01_k».proof.Proof.Ref

@[expose] public section

set_option maxRecDepth 16384

noncomputable section

namespace Cert.ReferenceIdeal.Attn

open Cert.Soft Cert.Attn Cert.KernelIdeal.Value Cert.ReferenceIdeal Cert.ReferenceIdeal.Gen Idealize.ShloMosaic Idealize.ShloMosaic.TcCoe Idealize.SL.Sem

variable (P : FVec Ideal S33024x12288 .bf16) (B : FVec Ideal S16x15x31 .f32) (M : FVec Ideal S16x16 .f32)

theorem joined_grid (sg : Fin 2048 → EReal) (sm : Fin 16 → EReal) (k : Fin 2048) (hk : k.val < 2064) : joined sg sm ⟨k.val, hk⟩ = sg k := by
  unfold joined
  exact dif_pos k.isLt

theorem joined_pre (sg : Fin 2048 → EReal) (sm : Fin 16 → EReal) (j : Fin 16) (hj : 2048 + j.val < 2064) : joined sg sm ⟨2048 + j.val, hj⟩ = sm j := by
  unfold joined
  exact (dif_neg (show ¬ 2048 + j.val < 2048 by omega)).trans (congrArg sm (Fin.ext (show 2048 + j.val - 2048 = j.val by omega)))

/-- The maximum along the last of four axes. -/
theorem rowMax_at {n0 n1 n2 n3 : ℕ} (x : FVec Ideal ⟨4, ![n0, n1, n2, n3]⟩ .f32) (h : Shape.ReducesTo ⟨4, ![n0, n1, n2, n3]⟩ [3] ⟨3, ![n0, n1, n2]⟩)
    (hu : 0 < S_.numel) (i : Fin n0) (j : Fin n1) (k : Fin n2) :
    Host.reduce FloatOps.maximumf x (constant S_ .f32 0xFF800000#32) h hu (ix3 i j k) = fmax fun l => x (ix4 i j k l) := by
  pointwise
  rw [ninf]

theorem ePre_at (b h i j : Fin 16) :
    ePre P M (ix4 b h i j) = Ideal.exp (sPre P M (ix4 b h i j) - fmax fun j => sPre P M (ix4 b h i j)) := by
  have hr := rowMax_at (sPre P M) reducesTo_S16x16x16x16_S16x16x16_d3 h_S_ b h i
  unfold ePre
  generalize Host.reduce FloatOps.maximumf (sPre P M) (constant S_ .f32 0xFF800000#32) reducesTo_S16x16x16x16_S16x16x16_d3 h_S_ = R at hr ⊢
  pointwise
  rw [ninf, bot_sup_eq, hr]

theorem shifted_at (b h : Fin 16) (k : Fin 2048) (j : Fin 2064) (R : FVec Ideal S16x16x2048 .f32) (X : FVec Ideal S16x16x2048x2064 .f32) :
    Host.exp (subf X (broadcastInDim S16x16x2048x2064 ![0, 1, 2, 3] bcast_S16x16x2048x1_S16x16x2048x2064_0_1_2_3 (broadcastInDim S16x16x2048x1 ![0, 1, 2] bcast_S16x16x2048_S16x16x2048x1_0_1_2
      (maximumf (broadcastInDim S16x16x2048 ![] bcast_S_S16x16x2048 (constant S_ .f32 0xFF800000#32)) R)))) (ix4 b h k j) = Ideal.exp (X (ix4 b h k j) - R (ix3 b h k)) := by
  pointwise
  rw [ninf, bot_sup_eq]

theorem eAll_at (b h : Fin 16) (k : Fin 2048) (j : Fin 2064) :
    eAll P B M (ix4 b h k j) = Ideal.exp (sAll P B M (ix4 b h k j) - fmax fun j => sAll P B M (ix4 b h k j)) :=
  (shifted_at b h k j _ (sAll P B M)).trans
    (congrArg (fun z => Ideal.exp (sAll P B M (ix4 b h k j) - z)) (rowMax_at (sAll P B M) reducesTo_S16x16x2048x2064_S16x16x2048_d3 h_S_ b h k))

theorem pAll_at (b h : Fin 16) (k : Fin 2048) (j : Fin 2064) :
    pAll P B M (ix4 b h k j) = Ideal.div (eAll P B M (ix4 b h k j)) (∑ j, eAll P B M (ix4 b h k j)) := by
  unfold pAll
  pointwise

theorem sAll_at (b h : Fin 16) (k : Fin 2048) (j : Fin 2064) :
    sAll P B M (ix4 b h k j) = joined (fun j => sGrid P B (ix4 b h k j)) (fun j => sMeta P M (ix4 b h k j)) j := by
  unfold sAll joined
  pointwise

theorem oPre_at (b h i : Fin 16) (d : Fin 64) :
    oPre P M (ix4 b i h d) = refMeta (fun j => sPre P M (ix4 b h i j)) (fun j => vPre P (ix4 b j h d)) := by
  unfold oPre refMeta
  pointwise
  refine Finset.sum_congr rfl fun j _ => (mul_comm _ _).trans ?_
  simp only [ePre_at]

theorem oGrid_at (b h : Fin 16) (k : Fin 2048) (d : Fin 64) :
    oGrid P B M (ix4 b k h d) = refGrid (fun j => sGrid P B (ix4 b h k j)) (fun j => vGrid P (ix4 b j h d)) (fun j => sMeta P M (ix4 b h k j)) (fun j => vPre P (ix4 b j h d)) := by
  have hs : (fun j => sAll P B M (ix4 b h k j)) = joined (fun j => sGrid P B (ix4 b h k j)) (fun j => sMeta P M (ix4 b h k j)) := funext (sAll_at P B M b h k)
  have hp : ∀ j, pAll P B M (ix4 b h k j) = Ideal.div (Ideal.exp (joined (fun j => sGrid P B (ix4 b h k j)) (fun j => sMeta P M (ix4 b h k j)) j
      - fmax (joined (fun j => sGrid P B (ix4 b h k j)) fun j => sMeta P M (ix4 b h k j))))
      (∑ l, Ideal.exp (joined (fun j => sGrid P B (ix4 b h k j)) (fun j => sMeta P M (ix4 b h k j)) l
        - fmax (joined (fun j => sGrid P B (ix4 b h k j)) fun j => sMeta P M (ix4 b h k j)))) := fun j => by
    simp only [pAll_at, eAll_at, hs, sAll_at]
  unfold oGrid refGrid
  pointwise
  refine congrArg₂ (· + ·) (Finset.sum_congr rfl fun j _ => ?_) (Finset.sum_congr rfl fun j _ => ?_)
  · refine (mul_comm _ _).trans (congrArg (· * _) ((hp _).trans ?_))
    rw [joined_grid]
  · refine (mul_comm _ _).trans (congrArg (· * _) ((hp _).trans ?_))
    rw [joined_pre]

theorem result_pre (b : Fin 16) (i : Fin 16) (h : Fin 16) (d : Fin 64) :
    result P B M (ix2 ⟨b.val * 2064 + i.val, by omega⟩ ⟨h.val * 64 + d.val, by omega⟩)
      = refMeta (fun j => sPre P M (ix4 b h i j)) (fun j => vPre P (ix4 b j h d)) := by
  refine Eq.trans ?_ (oPre_at P M b h i d)
  unfold result
  pointwise
  exact (dif_pos (show (b.val * 2064 + i.val) % 2064 < 16 by omega)).trans
    (congrArg (fun i => oPre P M (ix4 b i h d)) (Fin.ext (show (b.val * 2064 + i.val) % 2064 = i.val by omega)))

theorem result_grid (b : Fin 16) (k : Fin 2048) (h : Fin 16) (d : Fin 64) :
    result P B M (ix2 ⟨b.val * 2064 + (16 + k.val), by omega⟩ ⟨h.val * 64 + d.val, by omega⟩)
      = refGrid (fun j => sGrid P B (ix4 b h k j)) (fun j => vGrid P (ix4 b j h d)) (fun j => sMeta P M (ix4 b h k j)) (fun j => vPre P (ix4 b j h d)) := by
  refine Eq.trans ?_ (oGrid_at P B M b h k d)
  unfold result
  pointwise
  exact (dif_neg (show ¬ (b.val * 2064 + (16 + k.val)) % 2064 < 16 by omega)).trans
    (congrArg (fun i => oGrid P B M (ix4 b i h d)) (Fin.ext (show (b.val * 2064 + (16 + k.val)) % 2064 - 16 = k.val by omega)))

end Cert.ReferenceIdeal.Attn
-- ==== Proof.Core.lean ====
/- One block of the kernel against the reference's result, the block's inputs known entry by entry. -/
module
public import proofs.«01_k».proof.Proof.RefSoft

@[expose] public section

set_option maxRecDepth 16384

noncomputable section

namespace Cert.Attn

open Cert.Soft Cert.KernelIdeal.Value Cert.ReferenceIdeal.Attn Idealize.ShloMosaic Idealize.ShloMosaic.TcCoe Idealize.SL.Sem

variable (P : FVec Ideal Cert.ReferenceIdeal.S33024x12288 .bf16) (B : FVec Ideal Cert.ReferenceIdeal.S16x15x31 .f32) (M : FVec Ideal Cert.ReferenceIdeal.S16x16 .f32)

/-- The head of a pair. -/
def head (p : Fin 8) (e : Fin 2) : Fin 16 := ⟨2 * p.val + e.val, by omega⟩

/-- The inputs of a block (example `b`, pair of heads `p`), entry by entry. -/
structure Inputs (b : Fin 16) (p : Fin 8) (x0 x1 x2 : Vec Ideal Cert.KernelIdeal.S2064x128 .bf16) (x3 : Vec Ideal Cert.KernelIdeal.S1x8x128x512 .f32)
    (x4 : Vec Ideal Cert.KernelIdeal.S1x2x128x16 .f32) : Prop where
  q : ∀ (ρ : Fin 2064) (e : Fin 2) (d : Fin 64), x0 (ix2 ρ ⟨64 * e.val + d.val, by omega⟩) = proj P 0 b ρ (head p e) d
  k : ∀ (ρ : Fin 2064) (e : Fin 2) (d : Fin 64), x1 (ix2 ρ ⟨64 * e.val + d.val, by omega⟩) = proj P 1 b ρ (head p e) d
  v : ∀ (ρ : Fin 2064) (e : Fin 2) (d : Fin 64), x2 (ix2 ρ ⟨64 * e.val + d.val, by omega⟩) = proj P 2 b ρ (head p e) d
  table : ∀ (t : Fin 8) (e : Fin 2) (c : Fin 64) (i : Fin 8) (c' : Fin 64),
    x3 (ix4 0 t ⟨64 * e.val + c.val, by omega⟩ ⟨64 * i.val + c'.val, by omega⟩) = biasAt B (head p e) ⟨i.val + 7 - t.val, by omega⟩ c c'
  bias : ∀ (e : Fin 2) (c : Fin 64) (j : Fin 16), x4 (ix4 0 0 ⟨64 * e.val + c.val, by omega⟩ j) = M (ix2 (head p e) j)
  biasPre : ∀ (e : Fin 2) (c j : Fin 16), x4 (ix4 0 1 ⟨16 * e.val + c.val, by omega⟩ j) = M (ix2 (head p e) j)

theorem score_fin (hP : ∀ i, Fin' (P i)) (b h : Fin 16) (i j : Fin 2064) : Fin' (score P b h i j) :=
  Fin'.sum _ _ fun _ => Fin'.mul (Fin'.mul (hP _) (fin_coe _)) (hP _)

section
variable {P B M} {b : Fin 16} {p : Fin 8} {x0 x1 x2 : Vec Ideal Cert.KernelIdeal.S2064x128 .bf16} {x3 : Vec Ideal Cert.KernelIdeal.S1x8x128x512 .f32}
  {x4 : Vec Ideal Cert.KernelIdeal.S1x2x128x16 .f32} (H : Inputs P B M b p x0 x1 x2 x3 x4)
include H

theorem dot_eq (e : Fin 2) (i j : Fin 2064) : dotAt x0 x1 e i j = score P b (head p e) i j :=
  Finset.sum_congr rfl fun d _ => congrArg₂ (· * ·) (congrArg₂ (· * ·) (H.q i e d) eighth16) (H.k j e d)

theorem meta_at (hP : ∀ i, Fin' (P i)) (hM : ∀ i, Fin' (M i)) (c : Fin 16) (e : Fin 2) (d : Fin 64) :
    blockMeta x0 x1 x2 x4 c e d = refMeta (fun j => sPre P M (ix4 b (head p e) c j)) (fun j => vPre P (ix4 b j (head p e) d)) := by
  have hs : (fun j : Fin 16 => dotAt x0 x1 e ⟨c.val, by omega⟩ ⟨j.val, by omega⟩ + x4 (ix4 0 1 ⟨16 * e.val + c.val, by omega⟩ j))
      = fun j => sPre P M (ix4 b (head p e) c j) :=
    funext fun j => (congrArg₂ (· + ·) (dot_eq H e _ _) (H.biasPre e c j)).trans (sPre_at P M b (head p e) c j).symm
  have hv : (fun j : Fin 16 => x2 (ix2 ⟨j.val, by omega⟩ ⟨64 * e.val + d.val, by omega⟩)) = fun j => vPre P (ix4 b j (head p e) d) :=
    funext fun j => (H.v _ e d).trans (vPre_at P b j (head p e) d).symm
  refine (congrArg₂ kerMeta hs hv).trans (meta_eq _ _ fun j => ?_)
  rw [sPre_at]
  exact Fin'.add (score_fin P hP _ _ _ _) (hM _)

theorem band_at (r : Fin 32) (c : Fin 64) (e : Fin 2) (j : Fin 512) :
    dotAt x0 x1 e ⟨16 + 64 * r.val + c.val, by omega⟩ ⟨16 + 64 * firstRow r.val + j.val, by have := firstRow_le r.val; omega⟩
      + x3 (ix4 0 ⟨r.val - firstRow r.val, by unfold firstRow; omega⟩ ⟨64 * e.val + c.val, by omega⟩ j)
      = sGrid P B (ix4 b (head p e) (cell r c) ⟨64 * firstRow r.val + j.val, by have := firstRow_le r.val; omega⟩) := by
  have hf := firstRow_le r.val
  have hr : firstRow r.val ≤ r.val ∧ r.val - firstRow r.val ≤ 7 := by unfold firstRow; omega
  obtain ⟨i, c', rfl⟩ : ∃ (i : Fin 8) (c' : Fin 64), j = ⟨64 * i.val + c'.val, by omega⟩ :=
    ⟨⟨j.val / 64, by omega⟩, ⟨j.val % 64, by omega⟩, Fin.ext (by show j.val = 64 * (j.val / 64) + j.val % 64; omega)⟩
  have hc : (⟨64 * firstRow r.val + (64 * i.val + c'.val), by omega⟩ : Fin 2048) = cell ⟨firstRow r.val + i.val, by omega⟩ c' :=
    Fin.ext (by show 64 * firstRow r.val + (64 * i.val + c'.val) = (firstRow r.val + i.val) * 64 + c'.val; omega)
  refine Eq.trans ?_ (congrArg (fun k => sGrid P B (ix4 b (head p e) (cell r c) k)) hc).symm
  refine Eq.trans ?_ (sGrid_at P B b (head p e) r ⟨firstRow r.val + i.val, by omega⟩ c c').symm
  refine Eq.trans ?_ (if_pos (⟨by show firstRow r.val ≤ firstRow r.val + i.val; omega, by show firstRow r.val + i.val < firstRow r.val + 8; omega⟩ :
    firstRow r.val ≤ firstRow r.val + i.val ∧ firstRow r.val + i.val < firstRow r.val + 8)).symm
  refine congrArg₂ (· + ·) ((dot_eq H e _ _).trans (congrArg₂ (score P b (head p e)) (Fin.ext ?_) (Fin.ext ?_)))
    ((H.table _ e c i c').trans (congrArg (fun o => biasAt B (head p e) o c c') (Fin.ext ?_)))
  · show 16 + 64 * r.val + c.val = 16 + (r.val * 64 + c.val); omega
  · show 16 + 64 * firstRow r.val + (64 * i.val + c'.val) = 16 + ((firstRow r.val + i.val) * 64 + c'.val); omega
  · show i.val + 7 - (r.val - firstRow r.val) = min (firstRow r.val + i.val + 7 - r.val) 14; omega

theorem grid_at (hP : ∀ i, Fin' (P i)) (hB : ∀ i, Fin' (B i)) (hM : ∀ i, Fin' (M i)) (r : Fin 32) (c : Fin 64) (e : Fin 2) (d : Fin 64) :
    blockGrid x0 x1 x2 x3 x4 r c e d
      = refGrid (fun j => sGrid P B (ix4 b (head p e) (cell r c) j)) (fun j => vGrid P (ix4 b j (head p e) d))
          (fun j => sMeta P M (ix4 b (head p e) (cell r c) j)) (fun j => vPre P (ix4 b j (head p e) d)) := by
  have hf := firstRow_le r.val
  have hs : (fun j : Fin 16 => dotAt x0 x1 e ⟨16 + 64 * r.val + c.val, by omega⟩ ⟨j.val, by omega⟩ + x4 (ix4 0 0 ⟨64 * e.val + c.val, by omega⟩ j))
      = fun j => sMeta P M (ix4 b (head p e) (cell r c) j) :=
    funext fun j => (congrArg₂ (· + ·) ((dot_eq H e _ _).trans (congrArg (fun i => score P b (head p e) i (pre j))
      (Fin.ext (by show 16 + 64 * r.val + c.val = 16 + (r.val * 64 + c.val); omega)))) (H.bias e c j)).trans (sMeta_at P M b (head p e) (cell r c) j).symm
  have hv : (fun j : Fin 16 => x2 (ix2 ⟨j.val, by omega⟩ ⟨64 * e.val + d.val, by omega⟩)) = fun j => vPre P (ix4 b j (head p e) d) :=
    funext fun j => (H.v _ e d).trans (vPre_at P b j (head p e) d).symm
  have hsg := funext (band_at H r c e)
  have hvg : (fun j : Fin 512 => x2 (ix2 ⟨16 + 64 * firstRow r.val + j.val, by omega⟩ ⟨64 * e.val + d.val, by omega⟩))
      = fun j => vGrid P (ix4 b ⟨64 * firstRow r.val + j.val, by omega⟩ (head p e) d) :=
    funext fun j => (H.v _ e d).trans ((congrArg (fun i => proj P 2 b i (head p e) d)
      (Fin.ext (by show 16 + 64 * firstRow r.val + j.val = 16 + (64 * firstRow r.val + j.val); omega))).trans (vGrid_at P b _ (head p e) d).symm)
  have hk : ∀ k : Fin 2048, k = cell ⟨k.val / 64, by omega⟩ ⟨k.val % 64, by omega⟩ := fun k =>
    Fin.ext (by show k.val = k.val / 64 * 64 + k.val % 64; omega)
  refine (congr (congr (congrArg₂ kerGrid hs hv) hsg) hvg).trans (grid_eq (fun j => sGrid P B (ix4 b (head p e) (cell r c) j)) (fun j => vGrid P (ix4 b j (head p e) d))
    _ _ (64 * firstRow r.val) (by omega) (fun j => ?_) (fun k => ?_) fun k h => ?_)
  · rw [Cert.ReferenceIdeal.Attn.sMeta_at]
    exact Fin'.add (score_fin P hP _ _ _ _) (hM _)
  · show sGrid P B (ix4 b (head p e) (cell r c) k) ≠ ⊤
    rw [hk k, Cert.ReferenceIdeal.Attn.sGrid_at]
    split
    · refine EReal.add_ne_top (score_fin P hP _ _ _ _).1 ?_
      unfold biasAt
      split
      · exact (hB _).1
      · exact bot_ne_top
    · exact bot_ne_top
  · show sGrid P B (ix4 b (head p e) (cell r c) k) = ⊥
    rw [hk k, Cert.ReferenceIdeal.Attn.sGrid_at]
    refine if_neg fun hh => ?_
    have h1 : firstRow r.val ≤ k.val / 64 := hh.1
    have h2 : k.val / 64 < firstRow r.val + 8 := hh.2
    omega

/-- A block of the kernel is the reference's result there. -/
theorem block_eq (hP : ∀ i, Fin' (P i)) (hB : ∀ i, Fin' (B i)) (hM : ∀ i, Fin' (M i)) (ρ : Fin 2064) (e : Fin 2) (d : Fin 64) :
    blockOut x0 x1 x2 x3 x4 ρ e d = result P B M (ix2 ⟨b.val * 2064 + ρ.val, by omega⟩ ⟨(head p e).val * 64 + d.val, by omega⟩) := by
  by_cases h : ρ.val < 16
  · exact (blockOut_prefix x0 x1 x2 x3 x4 ρ e e d d ⟨ρ.val, h⟩ rfl rfl rfl).trans
      ((meta_at H hP hM ⟨ρ.val, h⟩ e d).trans (result_pre P B M b ⟨ρ.val, h⟩ (head p e) d).symm)
  · have hr : ρ.val = 16 + 64 * ((ρ.val - 16) / 64) + (ρ.val - 16) % 64 := by omega
    refine (blockOut_row x0 x1 x2 x3 x4 ρ e e d d ⟨(ρ.val - 16) / 64, by omega⟩ ⟨(ρ.val - 16) % 64, by omega⟩ hr rfl rfl).trans
      ((grid_at H hP hB hM _ _ e d).trans ((result_grid P B M b (cell ⟨(ρ.val - 16) / 64, by omega⟩ ⟨(ρ.val - 16) % 64, by omega⟩) (head p e) d).symm.trans
        (congrArg (fun i => result P B M (ix2 i ⟨(head p e).val * 64 + d.val, by omega⟩)) (Fin.ext ?_))))
    show b.val * 2064 + (16 + ((ρ.val - 16) / 64 * 64 + (ρ.val - 16) % 64)) = b.val * 2064 + ρ.val
    omega

end

end Cert.Attn
-- ==== Proof.Final.lean ====
/- The kernel's result after the run: the reference's, of the same arguments. -/
module
public import proofs.«01_k».proof.Proof.Core
public import proofs.«01_k».proof.Proof.Gen.KernelIdeal.Value

@[expose] public section

set_option maxRecDepth 16384

noncomputable section

namespace Cert.KernelIdeal.Value

open Cert.Soft Cert.Attn Cert.KernelIdeal Cert.KernelIdeal.Gen Idealize.ShloMosaic Idealize.ShloMosaic.TcCoe Idealize.SL.Sem
open Idealize.ShloMosaic.Pipeline (Dat)

/-- The pair of heads of a grid point. -/
def pairOf (t : Fin cfg0.N) : Fin 8 := grid0.coords t 0
/-- The example of a grid point. -/
def exampleOf (t : Fin cfg0.N) : Fin 16 := grid0.coords t 1

theorem idx : ∀ t : Fin cfg0.N,
    win0_0.index t = ![(exampleOf t).val, (pairOf t).val] ∧ win0_1.index t = ![(exampleOf t).val, 8 + (pairOf t).val]
    ∧ win0_2.index t = ![(exampleOf t).val, 16 + (pairOf t).val] ∧ win0_3.index t = ![(pairOf t).val, 0, 0, 0]
    ∧ win0_4.index t = ![(pairOf t).val, 0, 0, 0] ∧ win0_5.index t = ![(exampleOf t).val, (pairOf t).val] :=
  (by decide +kernel : ∀ t : Fin grid0.N, _)

variable (m : (ℓ : Loc nD τ sig) → Buf (Elt Ideal) ℓ) (c : Dev nD)

theorem q_at (t : Fin cfg0.N) (ρ : Fin 2064) (e : Fin 2) (d : Fin 64) :
    (iblk m c 0 t : FVec Ideal S2064x128 .bf16) (ix2 ρ ⟨64 * e.val + d.val, by omega⟩)
      = Cert.ReferenceIdeal.Attn.proj (m ((c : Thread nD τ).loc main_arg0)) 0 (exampleOf t) ρ (head (pairOf t) e) d := by
  unfold Cert.ReferenceIdeal.Attn.proj head
  blk_ext [iblk, V, idx t]

theorem k_at (t : Fin cfg0.N) (ρ : Fin 2064) (e : Fin 2) (d : Fin 64) :
    (iblk m c 1 t : FVec Ideal S2064x128 .bf16) (ix2 ρ ⟨64 * e.val + d.val, by omega⟩)
      = Cert.ReferenceIdeal.Attn.proj (m ((c : Thread nD τ).loc main_arg0)) 1 (exampleOf t) ρ (head (pairOf t) e) d := by
  unfold Cert.ReferenceIdeal.Attn.proj head
  blk_ext [iblk, V, idx t]

theorem v_at (t : Fin cfg0.N) (ρ : Fin 2064) (e : Fin 2) (d : Fin 64) :
    (iblk m c 2 t : FVec Ideal S2064x128 .bf16) (ix2 ρ ⟨64 * e.val + d.val, by omega⟩)
      = Cert.ReferenceIdeal.Attn.proj (m ((c : Thread nD τ).loc main_arg0)) 2 (exampleOf t) ρ (head (pairOf t) e) d := by
  unfold Cert.ReferenceIdeal.Attn.proj head
  blk_ext [iblk, V, idx t]

theorem tableRead (X : FVec Ideal S8x8x128x512 .f32) (t : Fin cfg0.N) (a : Fin 8) (b : Fin 128) (d : Fin 512) :
    View.read (Elt Ideal) ((cfg0.win 3).blk t).view X (ix4 0 a b d) = X (ix4 (pairOf t) a b d) := by
  blk_ext [idx t]

theorem biasRead (X : FVec Ideal S8x2x128x16 .f32) (t : Fin cfg0.N) (a : Fin 2) (b : Fin 128) (d : Fin 16) :
    View.read (Elt Ideal) ((cfg0.win 4).blk t).view X (ix4 0 a b d) = X (ix4 (pairOf t) a b d) := by
  blk_ext [idx t]

theorem tableBlk_at (t : Fin cfg0.N) (a : Fin 8) (b : Fin 128) (d : Fin 512) :
    (iblk m c 3 t : FVec Ideal S1x8x128x512 .f32) (ix4 0 a b d) = (V (F := Ideal) m c main_v17 : FVec Ideal S8x8x128x512 .f32) (ix4 (pairOf t) a b d) := by
  unfold iblk
  exact tableRead (V (F := Ideal) m c main_v17) t a b d

theorem biasBlk_at (t : Fin cfg0.N) (a : Fin 2) (b : Fin 128) (d : Fin 16) :
    (iblk m c 4 t : FVec Ideal S1x2x128x16 .f32) (ix4 0 a b d) = (V (F := Ideal) m c main_v26 : FVec Ideal S8x2x128x16 .f32) (ix4 (pairOf t) a b d) := by
  unfold iblk
  exact biasRead (V (F := Ideal) m c main_v26) t a b d

theorem inputs (t : Fin cfg0.N) :
    Inputs (m ((c : Thread nD τ).loc main_arg0)) (m ((c : Thread nD τ).loc main_arg1)) (m ((c : Thread nD τ).loc main_arg2)) (exampleOf t) (pairOf t)
      (iblk m c 0 t) (iblk m c 1 t) (iblk m c 2 t) (iblk m c 3 t) (iblk m c 4 t) where
  q := q_at m c t
  k := k_at m c t
  v := v_at m c t
  table a e q i q' := (tableBlk_at m c t a _ _).trans (table_at m c (pairOf t) a e q i q')
  bias e q j := (biasBlk_at m c t 0 _ j).trans (bias_at m c (pairOf t) e q j)
  biasPre e q j := (biasBlk_at m c t 1 _ j).trans (biasPrefix_at m c (pairOf t) e q j)

/-- What a grid point leaves in its output block. -/
theorem point (hP : ∀ i, Fin' ((m ((c : Thread nD τ).loc main_arg0) : FVec Ideal S33024x12288 .bf16) i))
    (hB : ∀ i, Fin' ((m ((c : Thread nD τ).loc main_arg1) : FVec Ideal S16x15x31 .f32) i))
    (hM : ∀ i, Fin' ((m ((c : Thread nD τ).loc main_arg2) : FVec Ideal S16x16 .f32) i))
    (t : Fin cfg0.N) (ρ : Fin 2064) (e : Fin 2) (d : Fin 64) :
    (outsAt0 m c t : FVec Ideal S2064x128 .bf16) (ix2 ρ ⟨64 * e.val + d.val, by omega⟩)
      = Cert.ReferenceIdeal.Attn.result (m ((c : Thread nD τ).loc main_arg0)) (m ((c : Thread nD τ).loc main_arg1)) (m ((c : Thread nD τ).loc main_arg2))
          (ix2 ⟨(exampleOf t).val * 2064 + ρ.val, by omega⟩ ⟨(head (pairOf t) e).val * 64 + d.val, by omega⟩) :=
  (out_at c (grid0.coords t) (ms0_0 t) (ms0_1 t) (ms0_2 t) (ms0_3 t) (ms0_4 t) (ms0_5 t) (hs0_0 t) (hs0_1 t) (hs0_2 t) (hs0_3 t) (hs0_4 t) (hs0_5 t)
    (iblk m c 0 t) (iblk m c 1 t) (iblk m c 2 t) (iblk m c 3 t) (iblk m c 4 t) ρ e d).trans (block_eq (inputs m c t) hP hB hM ρ e d)

/-- The result array after the run. -/
theorem final (hP : ∀ i, Fin' ((m ((c : Thread nD τ).loc main_arg0) : FVec Ideal S33024x12288 .bf16) i))
    (hB : ∀ i, Fin' ((m ((c : Thread nD τ).loc main_arg1) : FVec Ideal S16x15x31 .f32) i))
    (hM : ∀ i, Fin' ((m ((c : Thread nD τ).loc main_arg2) : FVec Ideal S16x16 .f32) i)) :
    (dats m 0 c).arrAt 5 cfg0.N
      = Cert.ReferenceIdeal.Attn.result (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  change S2064x128.Idx at y
  obtain ⟨ρ, l, rfl⟩ : ∃ (ρ : Fin 2064) (l : Fin 128), y = ix2 ρ l := ⟨y 0, y 1, by funext a; fin_cases a <;> rfl⟩
  obtain ⟨e, d, rfl⟩ := col_split l
  refine (point m c hP hB hM t ρ e d).trans ?_
  unfold head
  blk_ext [idx t]

end Cert.KernelIdeal.Value
-- ==== Proof.Finite.lean ====
/- What the precondition says of the arguments: no element is an infinity. -/
module
public import proofs.«01_k».proof.Defs
public import proofs.«01_k».proof.Proof.Final

@[expose] public section

set_option maxRecDepth 16384

noncomputable section

namespace Cert.Attn

open Cert.Soft Idealize.ShloMosaic Idealize.ShloMosaic.TcCoe Idealize.SL.Sem

theorem pre_facts : Cert.Pre_finite.Facts where
  bitsLt_bf16_f32 := by decide
  bcast_S_S33024x12288 := by decide
  bcast_S_S16x15x31 := by decide
  bcast_S_S16x16 := by decide

/-- A number whose absolute value is below plus infinity is no infinity. -/
theorem fin_of_abs (x : EReal) (h : BitVec.ofBool (decide (max x (-x) < Ideal.ofBits .f32 0x7F800000#32)) = 1#1) : Fin' x := by
  rw [pinf] at h
  by_cases hx : max x (-x) < ⊤
  · refine ⟨fun e => ?_, fun e => ?_⟩ <;> subst e
    · exact absurd (max_lt_iff.mp hx).1 (lt_irrefl _)
    · exact absurd (max_lt_iff.mp hx).2 (by rw [EReal.neg_bot]; exact lt_irrefl _)
  · rw [decide_eq_false hx] at h
    exact absurd h (by decide)

section
variable (h : Cert.Pre_finite.Facts) (x0 : FVec Ideal Cert.Pre_finite.S33024x12288 .bf16) (x1 : FVec Ideal Cert.Pre_finite.S16x15x31 .f32) (x2 : FVec Ideal Cert.Pre_finite.S16x16 .f32)

theorem finite0 (e : (Cert.Pre_finite.fn (F := Ideal) x0 x1 x2).1 = fun _ => 1#1) (i : Cert.Pre_finite.S33024x12288.Idx) : Fin' (x0 i) := by
  have := congrFun e i
  unfold Cert.Pre_finite.fn at this
  dsimp only at this
  pointwise at this
  exact fin_of_abs _ this

theorem finite1 (e : (Cert.Pre_finite.fn (F := Ideal) x0 x1 x2).2.1 = fun _ => 1#1) (i : Cert.Pre_finite.S16x15x31.Idx) : Fin' (x1 i) := by
  have := congrFun e i
  unfold Cert.Pre_finite.fn at this
  dsimp only at this
  pointwise at this
  exact fin_of_abs _ this

theorem finite2 (e : (Cert.Pre_finite.fn (F := Ideal) x0 x1 x2).2.2 = fun _ => 1#1) (i : Cert.Pre_finite.S16x16.Idx) : Fin' (x2 i) := by
  have := congrFun e i
  unfold Cert.Pre_finite.fn at this
  dsimp only at this
  pointwise at this
  exact fin_of_abs _ this

end

end Cert.Attn
-- ==== Proof.DenseMath.lean ====
/- The dense feed-forward, entry by entry: the gate, the normed rows, a point's part, and the reference's result. -/
module
public import proofs.«01_k».proof.Proof.Gen.Kernel2Ideal.Value
public import proofs.«01_k».proof.Proof.Gen.Reference2Ideal.Run
public import Idealize.ShloMosaic.Lib.Pipeline.ValueKit
public import proofs.«01_k».proof.Proof.Soft

@[expose] public section

set_option maxRecDepth 16384

noncomputable section

namespace Cert.Dense

open Cert.Soft Idealize.ShloMosaic Idealize.ShloMosaic.TcCoe Idealize.SL.Sem

theorem half : Ideal.ofBits .f32 0x3F000000#32 = ((1 / 2 : ℝ) : EReal) := by
  simp [Ideal.ofBits, Ideal.ieee, -EReal.coe_mul]; norm_num
/-- The gate by the hyperbolic tangent is the gate by the exponential. -/
theorem gate_real (a : ℝ) : 1 / 2 * Real.tanh (1 / 2 * a) + 1 / 2 = 1 / (1 + Real.exp (-a)) := by
  rw [Real.tanh_eq_sinh_div_cosh, Real.sinh_eq, Real.cosh_eq]
  have h1 : Real.exp (-a) = Real.exp (-(1 / 2 * a)) * Real.exp (-(1 / 2 * a)) := by rw [← Real.exp_add]; congr 1; ring
  have h2 : Real.exp (1 / 2 * a) * Real.exp (-(1 / 2 * a)) = 1 := by rw [← Real.exp_add]; simp
  have p := Real.exp_pos (1 / 2 * a)
  have q := Real.exp_pos (-(1 / 2 * a))
  rw [h1]
  generalize Real.exp (1 / 2 * a) = u at *
  generalize Real.exp (-(1 / 2 * a)) = v at *
  have : u = 1 / v := by field_simp; exact h2
  subst this
  field_simp
  ring

theorem gate (a : EReal) : ((1 / 2 : ℝ) : EReal) * Ideal.tanh (((1 / 2 : ℝ) : EReal) * a) + ((1 / 2 : ℝ) : EReal)
    = Ideal.div ((1 : ℝ) : EReal) (((1 : ℝ) : EReal) + Ideal.exp (-a)) := by
  induction a with
  | bot =>
    have h : Ideal.div ((1 : ℝ) : EReal) (((1 : ℝ) : EReal) + Ideal.exp (-⊥)) = 0 := by
      rw [EReal.neg_bot, Ideal.exp_top, EReal.coe_add_top]
      unfold Ideal.div
      rw [if_neg (by simp), EReal.inv_top, mul_zero]
    rw [h, EReal.coe_mul_bot_of_pos (by norm_num), Ideal.tanh_bot, show (-1 : EReal) = ((-1 : ℝ) : EReal) from rfl, ← EReal.coe_mul, ← EReal.coe_add]
    norm_num
  | top =>
    have h : Ideal.div ((1 : ℝ) : EReal) (((1 : ℝ) : EReal) + Ideal.exp (-⊤)) = ((1 : ℝ) : EReal) := by
      rw [EReal.neg_top, Ideal.exp_bot, add_zero, Ideal.div_coe one_ne_zero, ← EReal.coe_mul]
      norm_num
    rw [h, EReal.coe_mul_top_of_pos (by norm_num), Ideal.tanh_top, show (1 : EReal) = ((1 : ℝ) : EReal) from rfl, ← EReal.coe_mul, ← EReal.coe_add]
    norm_num
  | coe a =>
    rw [← EReal.coe_neg, Ideal.exp_coe, ← EReal.coe_mul, Ideal.tanh_coe, ← EReal.coe_mul, ← EReal.coe_add, ← EReal.coe_add,
      Ideal.div_coe (by have := Real.exp_pos (-a); positivity), ← EReal.coe_mul, one_mul, gate_real]

section Kernel
open Cert.Kernel2Ideal Cert.Kernel2Ideal.Gen

theorem pay1_at (g : Vec Ideal S1x2048 .f32) (x : Vec Ideal S16x2048 .f32) (r : Fin 16) (d : Fin 2048) :
    k0_pay1 (F := Ideal) g x (ix2 r d) = x (ix2 r d) * Ideal.rsqrt (Ideal.div (∑ e : Fin 2048, x (ix2 r e) * x (ix2 r e)) (Ideal.ofBits .f32 0x45000000#32) + Ideal.ofBits .f32 0x358637BD#32) * g (ix2 0 d) := by
  pointwise [k0_pay1]

theorem pay2_at (s : Vec Ideal S768x2048 .bf16) (w1 w3 : Vec Ideal S2048x512 .bf16) (o : Vec Ideal S768x2048 .f32) (w2 : Vec Ideal S512x2048 .bf16) (r : Fin 768) (d : Fin 2048) :
    k0_pay2 (F := Ideal) s w1 w3 o w2 (ix2 r d) = o (ix2 r d) + ∑ f : Fin 512,
      (∑ e : Fin 2048, s (ix2 r e) * w1 (ix2 e f)) * (Ideal.ofBits .f32 0x3F000000#32 * Ideal.tanh (Ideal.ofBits .f32 0x3F000000#32 * ∑ e : Fin 2048, s (ix2 r e) * w1 (ix2 e f)) + Ideal.ofBits .f32 0x3F000000#32)
        * (∑ e : Fin 2048, s (ix2 r e) * w3 (ix2 e f)) * w2 (ix2 f d) := by
  pointwise [k0_pay2]

end Kernel

section Reference
open Cert.Reference2Ideal Cert.Reference2Ideal.Gen

variable (x : FVec Ideal S33024x2048 .f32) (g : FVec Ideal S2048 .f32) (w1 w3 : FVec Ideal S2048x5632 .bf16) (w2 : FVec Ideal S5632x2048 .bf16)

/-- The normed row `R`, at column `d`. -/
def nrm (R : Fin 33024) (d : Fin 2048) : EReal :=
  x (ix2 R d) * Ideal.rsqrt (Ideal.div (∑ e : Fin 2048, x (ix2 R e) * x (ix2 R e)) (Ideal.ofBits .f32 0x45000000#32) + Ideal.ofBits .f32 0x358637BD#32) * g (ix1 d)

/-- The normed row times one column of a weight. -/
def up (w : FVec Ideal S2048x5632 .bf16) (R : Fin 33024) (f : Fin 5632) : EReal := ∑ e : Fin 2048, nrm x g R e * w (ix2 e f)

/-- One hidden column's part of an output entry. -/
def part (R : Fin 33024) (d : Fin 2048) (f : Fin 5632) : EReal :=
  up x g w1 R f * (Ideal.ofBits .f32 0x3F000000#32 * Ideal.tanh (Ideal.ofBits .f32 0x3F000000#32 * up x g w1 R f) + Ideal.ofBits .f32 0x3F000000#32)
    * up x g w3 R f * w2 (ix2 f d)

/-- The normed rows, as the reference computes them. -/
def nrmRef : FVec Ideal S33024x2048 .f32 :=
  mulf (mulf x (broadcastInDim S33024x2048 ![0, 1] bcast_S33024x1_S33024x2048_0_1 (Host.rsqrt (addf (Host.divf (broadcastInDim S33024x1 ![0] bcast_S33024_S33024x1_0 (Host.reduceAdd (mulf x x) (constant S_ .f32 0x00000000#32) reducesTo_S33024x2048_S33024_d1 h_S_)) (broadcastInDim S33024x1 ![] bcast_S_S33024x1 (constant S_ .f32 0x45000000#32))) (broadcastInDim S33024x1 ![] bcast_S_S33024x1 (constant S_ .f32 0x358637BD#32)))))) (broadcastInDim S33024x2048 ![0, 1] bcast_S1x2048_S33024x2048_0_1 (broadcastInDim S1x2048 ![1] bcast_S2048_S1x2048_1 g))

/-- A hidden product, as the reference computes it. -/
def upRef (w : FVec Ideal S2048x5632 .bf16) : FVec Ideal S33024x5632 .f32 :=
  Host.dotGeneral (φ₁ := .f32) (φ₂ := .f32) dot_S33024x2048_S2048x5632_S33024x5632_1_0_0_1_n_n none (nrmRef x g) (extf .f32 w bitsLt_bf16_f32)

/-- The reference's result. -/
def result : FVec Ideal S33024x2048 .f32 :=
  addf x (Host.dotGeneral (φ₁ := .f32) (φ₂ := .f32) dot_S33024x5632_S5632x2048_S33024x2048_1_0_0_1_n_n none
    (mulf (mulf (upRef x g w1) (Host.divf (broadcastInDim S33024x5632 ![] bcast_S_S33024x5632 (constant S_ .f32 0x3F800000#32)) (addf (broadcastInDim S33024x5632 ![] bcast_S_S33024x5632 (constant S_ .f32 0x3F800000#32)) (Host.exp (Host.negf (upRef x g w1)))))) (upRef x g w3))
    (extf .f32 w2 bitsLt_bf16_f32))

theorem nrmRef_at (R : Fin 33024) (d : Fin 2048) : nrmRef x g (ix2 R d) = nrm x g R d := by
  unfold nrmRef nrm
  pointwise

theorem upRef_at (w : FVec Ideal S2048x5632 .bf16) (R : Fin 33024) (f : Fin 5632) : upRef x g w (ix2 R f) = up x g w R f := by
  unfold upRef up
  generalize hn : nrmRef x g = n
  pointwise
  subst hn
  exact Finset.sum_congr rfl fun e _ => congrArg (· * _) (nrmRef_at x g R e)

theorem result_at (R : Fin 33024) (d : Fin 2048) : result x g w1 w3 w2 (ix2 R d) = x (ix2 R d) + ∑ f : Fin 5632, part x g w1 w3 w2 R d f := by
  unfold result
  generalize h1 : upRef x g w1 = u1
  generalize h3 : upRef x g w3 = u3
  pointwise
  subst h1 h3
  refine congrArg _ (Finset.sum_congr rfl fun f _ => ?_)
  unfold part
  rw [upRef_at, upRef_at, half, gate, EReal.coe_one]

end Reference

end Cert.Dense

end
-- ==== Proof.DenseCases.lean ====
/- The dense feed-forward kernel's grid points: what one point leaves in its output block and in the normed rows it
   carries. -/
module
public import Idealize.ShloMosaic.Lib.Pipeline.ValueKit
public import proofs.«01_k».proof.Proof.Soft
public import proofs.«01_k».proof.Proof.Gen.Kernel2Ideal.Value
import all proofs.«01_k».proof.Proof.Gen.Kernel2Ideal.Loops
import all proofs.«01_k».proof.Proof.Gen.Kernel2Ideal.Frame.RunA
import all proofs.«01_k».proof.Proof.Gen.Kernel2Ideal.Frame.RunB

@[expose] public section

set_option maxRecDepth 16384

noncomputable section

namespace Cert.Dense

open Cert.Soft Cert.Kernel2Ideal Cert.Kernel2Ideal.Gen Idealize.ShloMosaic Idealize.ShloMosaic.TcCoe Idealize.SL.Sem

theorem hz2 : (![0, 0] : Fin 2 → ℕ) = fun _ => 0 := by funext a; fin_cases a <;> rfl

/-- A later point of a row of points: the carried block plus the point's part. -/
theorem out_B (c : Dev nD) (i : grid0.Coords) (a2 a3 a4 a5 a6 a7 a8 h2 h3 h4 h5 h6 h7 h8) (hc : ¬cond0_0 i) (x0 : Vec Ideal S768x2048 .f32) (x1 : Vec Ideal S1x2048 .f32)
    (x2 x3 : Vec Ideal S2048x512 .bf16) (x4 : Vec Ideal S512x2048 .bf16) (xo : Vec Ideal S768x2048 .f32) (xs : Vec Ideal S768x2048 .bf16) :
    out0_B_5 (F := Ideal) c i a2 h2 a3 h3 a4 h4 a5 h5 a6 h6 a7 h7 a8 h8 hc x0 x1 x2 x3 x4 xo xs = k0_pay2 xs x2 x3 xo x4 := by
  frame_out

/-- One trip of the norm's loop stores one block of 16 rows. -/
theorem trip_list (𝒱 : Variants) (c : Dev nD) (bd) (i : grid0.Coords) (a2 h2 a3 h3 a4 h4 a5 h5 a6 h6 a7 h7 a8 h8) (hc : k0_cond1 i = 1#1) (v24 : Vec Ideal S1x2048 .f32) (X) (k) :
    tripL_k0_t1 (F := Ideal) 𝒱 c bd i a2 h2 a3 h3 a4 h4 a5 h5 a6 h6 a7 h7 a8 h8 hc v24 X k
      = [⟨Rect.unit (s := S768x2048) (k0_off1 k) S16x2048.size (k0_off1_inb i k hc),
          k0_pay1 v24 (a2.view.readAt (Elt Ideal) (Rect.unit (s := S768x2048) (k0_off1 k) S16x2048.size (k0_off1_inb i k hc)).toLoadRect X)⟩] := by
  unfold tripL_k0_t1 trip_k0_t1
  rfl

/-- The first point of a row of points: the block of activations plus the point's part, from the rows it has just
    normed. -/
theorem out_A (c : Dev nD) (i : grid0.Coords) (a2 a3 a4 a5 a6 a7 a8 h2 h3 h4 h5 h6 h7 h8) (hc : cond0_0 i) (x0 : Vec Ideal S768x2048 .f32) (x1 : Vec Ideal S1x2048 .f32)
    (x2 x3 : Vec Ideal S2048x512 .bf16) (x4 : Vec Ideal S512x2048 .bf16) :
    out0_A_5 (F := Ideal) c i a2 h2 a3 h3 a4 h4 a5 h5 a6 h6 a7 h7 a8 h8 hc x0 x1 x2 x3 x4
      = k0_pay2 (sout0_A_0 (F := Ideal) c i a2 h2 a3 h3 a4 h4 a5 h5 a6 h6 a7 h7 a8 h8 hc x0 x1 x2 x3 x4) x2 x3 x0 x4 := by
  frame_out
  rw [View.readCov_eq_canon']
  exact congrArg (fun u => k0_pay2 u x2 x3 x0 x4) (View.ld_unit_zero (S := S768x2048) hz2 _ _)

/-- Every piece stored by the trips before `n` agrees with `G`, when each trip's block does. -/
theorem pieces_of_trips (𝒱 : Variants) (c : Dev nD) (bd) (i : grid0.Coords) (a2 h2 a3 h3 a4 h4 a5 h5 a6 h6 a7 h7 a8 h8) (hc : k0_cond1 i = 1#1) (v24 : Vec Ideal S1x2048 .f32) (X)
    (G : S768x2048.Idx → EReal)
    (hG : ∀ (k : Fin k0_t1_loop.trips) (x : S16x2048.Idx), k0_pay1 (F := Ideal) v24 (a2.view.readAt (Elt Ideal) (Rect.unit (s := S768x2048) (k0_off1 k) S16x2048.size (k0_off1_inb i k hc)).toLoadRect X) x
      = G ((Rect.unit (s := S768x2048) (k0_off1 k) S16x2048.size (k0_off1_inb i k hc)).emb x)) :
    ∀ n : ℕ, n ≤ k0_t1_loop.trips → ∀ p ∈ pb_k0_t1 (F := Ideal) 𝒱 c bd i a2 h2 a3 h3 a4 h4 a5 h5 a6 h6 a7 h7 a8 h8 hc v24 X n, ∀ x : p.1.shape.Idx, p.2 x = G (p.1.emb x)
  | 0, _, p, hp, _ => absurd hp List.not_mem_nil
  | n + 1, hn, p, hp, x => by
    have hs := pb_k0_t1_succ (F := Ideal) 𝒱 c bd i a2 h2 a3 h3 a4 h4 a5 h5 a6 h6 a7 h7 a8 h8 hc v24 X ⟨n, hn⟩
    rw [trip_list] at hs
    have hp' := hs ▸ hp
    rcases List.mem_append.mp hp' with hp' | hp'
    · obtain rfl := List.mem_singleton.mp hp'
      exact hG ⟨n, hn⟩ x
    · exact pieces_of_trips 𝒱 c bd i a2 h2 a3 h3 a4 h4 a5 h5 a6 h6 a7 h7 a8 h8 hc v24 X G hG n (Nat.le_of_succ_le hn) p hp' x

/-- The carried rows after the first point, given what each block of 16 rows holds. -/
theorem sout_A (c : Dev nD) (i : grid0.Coords) (a2 a3 a4 a5 a6 a7 a8 h2 h3 h4 h5 h6 h7 h8) (hc : cond0_0 i) (x0 : Vec Ideal S768x2048 .f32) (x1 : Vec Ideal S1x2048 .f32)
    (x2 x3 : Vec Ideal S2048x512 .bf16) (x4 : Vec Ideal S512x2048 .bf16) (G : S768x2048.Idx → EReal)
    (hG : ∀ (k : Fin k0_t1_loop.trips) (x : S16x2048.Idx), k0_pay1 (F := Ideal) x1 (View.ld x0 (Rect.unit (s := S768x2048) (k0_off1 k) S16x2048.size (k0_off1_inb i k hc))) x
      = G ((Rect.unit (s := S768x2048) (k0_off1 k) S16x2048.size (k0_off1_inb i k hc)).emb x)) (y) :
    sout0_A_0 (F := Ideal) c i a2 h2 a3 h3 a4 h4 a5 h5 a6 h6 a7 h7 a8 h8 hc x0 x1 x2 x3 x4 y = G y := by
  have hcov := scover0_A_0 (F := Ideal) c i a2 h2 a3 h3 a4 h4 a5 h5 a6 h6 a7 h7 a8 h8 hc x0 x1 x2 x3 x4 y
  have he : (kernelRun0_A (F := Ideal) c i a2 h2 a3 h3 a4 h4 a5 h5 a6 h6 a7 h7 a8 h8 hc x0 x1 x2 x3 x4).2.1
      = pb_k0_t1 (F := Ideal) Variants.none c none i a2 h2 a3 h3 a4 h4 a5 h5 a6 h6 a7 h7 a8 h8 hc x1 (h2.unread x0) k0_t1_loop.trips := by
    unfold kernelRun0_A
    dsimp only
    simp only [View.readAt_eq_ld, h3.read_unread, View.ld_unit_zero (S := S1x2048) hz2]
  rw [he] at hcov
  frame_out
  refine View.canon_apply_of_pieces (Val := Elt Ideal) (e := .bf16) G _ ?_ y hcov
  refine pieces_of_trips Variants.none c none i a2 h2 a3 h3 a4 h4 a5 h5 a6 h6 a7 h7 a8 h8 hc x1 (h2.unread x0) G (fun k x => ?_) _ le_rfl
  rw [View.readAt_eq_ld, h2.read_unread]
  exact hG k x

end Cert.Dense

end
-- ==== Proof.Dense.lean ====
/- The dense feed-forward kernel's result after the run: the reference's, of the same arguments. -/
module
public import proofs.«01_k».proof.Proof.DenseMath
public import proofs.«01_k».proof.Proof.DenseCases

@[expose] public section

set_option maxRecDepth 16384

noncomputable section

namespace Cert.Dense

open Cert.Soft Cert.Kernel2Ideal Cert.Kernel2Ideal.Gen Cert.Kernel2Ideal.Value Idealize.ShloMosaic Idealize.ShloMosaic.TcCoe Idealize.SL.Sem
open Idealize.ShloMosaic.Pipeline (Dat)

theorem idx : ∀ t : Fin cfg0.N,
    win0_0.index t = ![t.val / 11, 0] ∧ win0_1.index t = ![0, 0] ∧ win0_2.index t = ![0, t.val % 11] ∧ win0_3.index t = ![0, t.val % 11]
    ∧ win0_4.index t = ![t.val % 11, 0] ∧ win0_5.index t = ![t.val / 11, 0] :=
  (by decide +kernel : ∀ t : Fin grid0.N, _)

theorem div_lt (t : Fin cfg0.N) : t.val / 11 < 43 := by
  have h : t.val < 473 := lt_of_lt_of_eq t.isLt N_0
  omega

variable (m : (ℓ : Loc nD τ sig) → Buf (Elt Ideal) ℓ) (c : Dev nD)

/-- The arguments: activations, gain, and the three weights. -/
abbrev aX : FVec Ideal S33024x2048 .f32 := m ((c : Thread nD τ).loc main_arg0)
abbrev aG : FVec Ideal S2048 .f32 := m ((c : Thread nD τ).loc main_arg1)
abbrev aW1 : FVec Ideal S2048x5632 .bf16 := m ((c : Thread nD τ).loc main_arg2)
abbrev aW3 : FVec Ideal S2048x5632 .bf16 := m ((c : Thread nD τ).loc main_arg3)
abbrev aW2 : FVec Ideal S5632x2048 .bf16 := m ((c : Thread nD τ).loc main_arg4)

/-- The row of the activations that row `r` of a point's block is. -/
def rowOf (t : Fin cfg0.N) (r : Fin 768) : Fin 33024 := ⟨t.val / 11 * 768 + r.val, by have := div_lt t; omega⟩
/-- The hidden column that column `f` of a point's block is. -/
def colOf (t : Fin cfg0.N) (f : Fin 512) : Fin 5632 := ⟨t.val % 11 * 512 + f.val, by omega⟩

theorem x_at (t : Fin cfg0.N) (r : Fin 768) (d : Fin 2048) :
    (iblk m c 0 t : FVec Ideal S768x2048 .f32) (ix2 r d) = aX m c (ix2 (rowOf t r) d) := by
  unfold rowOf
  blk_ext [iblk, V, idx t]

theorem gHost (d : Fin 2048) : (V (F := Ideal) m c main_v0 : FVec Ideal S1x2048 .f32) (ix2 0 d) = aG m c (ix1 d) := by
  unfold V
  simp only [hostOps0]
  after_results_simp
  pointwise

theorem gRead (X : FVec Ideal S1x2048 .f32) (t : Fin cfg0.N) (d : Fin 2048) :
    View.read (Elt Ideal) ((cfg0.win 1).blk t).view X (ix2 0 d) = X (ix2 0 d) := by
  blk_ext [idx t]

theorem g_at (t : Fin cfg0.N) (d : Fin 2048) :
    (iblk m c 1 t : FVec Ideal S1x2048 .f32) (ix2 0 d) = aG m c (ix1 d) := by
  unfold iblk
  exact (gRead (V (F := Ideal) m c main_v0) t d).trans (gHost m c d)

theorem w1_at (t : Fin cfg0.N) (e : Fin 2048) (f : Fin 512) :
    (iblk m c 2 t : FVec Ideal S2048x512 .bf16) (ix2 e f) = aW1 m c (ix2 e (colOf t f)) := by
  unfold colOf
  blk_ext [iblk, V, idx t]

theorem w3_at (t : Fin cfg0.N) (e : Fin 2048) (f : Fin 512) :
    (iblk m c 3 t : FVec Ideal S2048x512 .bf16) (ix2 e f) = aW3 m c (ix2 e (colOf t f)) := by
  unfold colOf
  blk_ext [iblk, V, idx t]

theorem w2_at (t : Fin cfg0.N) (f : Fin 512) (d : Fin 2048) :
    (iblk m c 4 t : FVec Ideal S512x2048 .bf16) (ix2 f d) = aW2 m c (ix2 (colOf t f) d) := by
  unfold colOf
  blk_ext [iblk, V, idx t]

abbrev N_ (R : Fin 33024) (d : Fin 2048) : EReal := nrm (aX m c) (aG m c) R d

/-- One hidden column's part, by number. -/
def partN (R : Fin 33024) (d : Fin 2048) (n : ℕ) : EReal :=
  if h : n < 5632 then part (aX m c) (aG m c) (aW1 m c) (aW3 m c) (aW2 m c) R d ⟨n, h⟩ else 0

/-- A point's part of an output entry, from normed rows `s`. -/
theorem pay_at (t : Fin cfg0.N) (s : Vec Ideal S768x2048 .bf16) (hs : ∀ r e, s (ix2 r e) = N_ m c (rowOf t r) e) (o : Vec Ideal S768x2048 .f32) (r : Fin 768) (d : Fin 2048) :
    k0_pay2 (F := Ideal) s (iblk m c 2 t) (iblk m c 3 t) o (iblk m c 4 t) (ix2 r d) = o (ix2 r d) + ∑ f ∈ Finset.range 512, partN m c (rowOf t r) d (512 * (t.val % 11) + f) := by
  refine (pay2_at _ _ _ _ _ r d).trans (congrArg _ ?_)
  rw [Finset.sum_range]
  refine Finset.sum_congr rfl fun f _ => ?_
  unfold partN
  rw [dif_pos (by omega), show (⟨512 * (t.val % 11) + f.val, by omega⟩ : Fin 5632) = colOf t f from Fin.ext (by show 512 * (t.val % 11) + f.val = t.val % 11 * 512 + f.val; omega)]
  unfold part up
  have h1 : ∑ e : Fin 2048, s (ix2 r e) * (iblk m c 2 t : FVec Ideal S2048x512 .bf16) (ix2 e f) = ∑ e : Fin 2048, nrm (aX m c) (aG m c) (rowOf t r) e * aW1 m c (ix2 e (colOf t f)) :=
    Finset.sum_congr rfl fun e _ => congrArg₂ (· * ·) (hs r e) (w1_at m c t e f)
  have h3 : ∑ e : Fin 2048, s (ix2 r e) * (iblk m c 3 t : FVec Ideal S2048x512 .bf16) (ix2 e f) = ∑ e : Fin 2048, nrm (aX m c) (aG m c) (rowOf t r) e * aW3 m c (ix2 e (colOf t f)) :=
    Finset.sum_congr rfl fun e _ => congrArg₂ (· * ·) (hs r e) (w3_at m c t e f)
  exact congrArg₂ (· * ·) (congrArg₂ (· * ·) (congrArg (fun a => a * (Ideal.ofBits .f32 0x3F000000#32 * Ideal.tanh (Ideal.ofBits .f32 0x3F000000#32 * a) + Ideal.ofBits .f32 0x3F000000#32)) h1) h3) (w2_at m c t f d)

/-- A load of 16 rows of the block of activations. -/
theorem ld_rows (x : Vec Ideal S768x2048 .f32) (o : Fin 2 → ℕ) (n : ℕ) (ho : o = ![n, 0]) (hr : ∀ i, o i + S16x2048.size i ≤ S768x2048.size i) (a : Fin 16) (l : Fin 2048) (b : Fin 768)
    (hb : b.val = n + a.val) : View.ld x (Rect.unit (s := S768x2048) o S16x2048.size hr) (ix2 a l) = x (ix2 b l) := by
  subst ho
  refine View.ld_unit_apply_of _ _ _ _ _ _ fun i => ?_
  fin_cases i
  · exact hb
  · exact (Nat.zero_add _).symm

theorem emb_rows (o : Fin 2 → ℕ) (n : ℕ) (ho : o = ![n, 0]) (hr : ∀ i, o i + S16x2048.size i ≤ S768x2048.size i) (a : Fin 16) (l : Fin 2048) (b : Fin 768)
    (hb : b.val = n + a.val) : (Rect.unit (s := S768x2048) o S16x2048.size hr).emb (ix2 a l) = ix2 b l := by
  subst ho
  funext i
  fin_cases i
  · exact Fin.ext (by show n + 1 * a.val = b.val; omega)
  · exact Fin.ext (by show 0 + 1 * l.val = l.val; omega)

/-- The rows the first point of a row of points norms. -/
theorem normed (t : Fin cfg0.N) (a2 a3 a4 a5 a6 a7 a8 h2 h3 h4 h5 h6 h7 h8) (hc : cond0_0 (grid0.coords t)) (r : Fin 768) (d : Fin 2048) :
    sout0_A_0 (F := Ideal) c (grid0.coords t) a2 h2 a3 h3 a4 h4 a5 h5 a6 h6 a7 h7 a8 h8 hc (iblk m c 0 t) (iblk m c 1 t) (iblk m c 2 t) (iblk m c 3 t) (iblk m c 4 t) (ix2 r d)
      = N_ m c (rowOf t r) d := by
  refine sout_A c (grid0.coords t) a2 a3 a4 a5 a6 a7 a8 h2 h3 h4 h5 h6 h7 h8 hc _ _ _ _ _ (fun y => N_ m c (rowOf t (y 0)) (y 1)) (fun k x => ?_) (ix2 r d)
  change S16x2048.Idx at x
  obtain ⟨a, l, rfl⟩ : ∃ (a : Fin 16) (l : Fin 2048), x = ix2 a l := ⟨x 0, x 1, by funext i; fin_cases i <;> rfl⟩
  have hk : k.val < 48 := k.isLt
  have hl : ∀ e, View.ld (iblk m c 0 t : Vec Ideal S768x2048 .f32) (Rect.unit (s := S768x2048) (k0_off1 k) S16x2048.size (k0_off1_inb (grid0.coords t) k hc)) (ix2 a e)
      = aX m c (ix2 (rowOf t ⟨16 * k.val + a.val, by omega⟩) e) := fun e =>
    (ld_rows _ _ (16 * k.val) (k0_off1_eq k) _ a e ⟨16 * k.val + a.val, by omega⟩ rfl).trans (x_at m c t _ e)
  rw [emb_rows _ (16 * k.val) (k0_off1_eq k) _ a l ⟨16 * k.val + a.val, by omega⟩ rfl]
  refine (pay1_at _ _ a l).trans ?_
  unfold N_ nrm
  rw [hl, g_at]
  simp only [hl]
  rfl

/-- What the output block and the carried rows hold after a point. -/
def Holds (t : Fin cfg0.N) (a : Vec Ideal S768x2048 .f32 × Vec Ideal S768x2048 .bf16) : Prop :=
  (∀ r d, a.2 (ix2 r d) = N_ m c (rowOf t r) d)
    ∧ ∀ r d, a.1 (ix2 r d) = aX m c (ix2 (rowOf t r) d) + ∑ n ∈ Finset.range (512 * (t.val % 11 + 1)), partN m c (rowOf t r) d n

theorem holds_A (t : Fin cfg0.N) (h0 : t.val % 11 = 0) : Holds m c t (outsAt0 m c t.val t.isLt) := by
  rw [outsAt0_A m c t h0]
  refine ⟨fun r d => normed m c t _ _ _ _ _ _ _ _ _ _ _ _ _ _ _ r d, fun r d => ?_⟩
  dsimp only
  rw [out_A]
  refine (pay_at m c t _ (fun r e => normed m c t _ _ _ _ _ _ _ _ _ _ _ _ _ _ _ r e) _ r d).trans ?_
  rw [x_at, h0]
  simp only [Nat.mul_zero, Nat.zero_add, Nat.mul_one]

theorem holds_B (t : Fin cfg0.N) (h0 : ¬t.val % 11 = 0)
    (hp : Holds m c ⟨t.val - 1, Nat.lt_of_le_of_lt (Nat.sub_le _ _) t.isLt⟩ (outsAt0 m c (t.val - 1) (Nat.lt_of_le_of_lt (Nat.sub_le _ _) t.isLt))) :
    Holds m c t (outsAt0 m c t.val t.isLt) := by
  have hrow : ∀ r, rowOf ⟨t.val - 1, Nat.lt_of_le_of_lt (Nat.sub_le _ _) t.isLt⟩ r = rowOf t r := fun r => Fin.ext (by
    show (t.val - 1) / 11 * 768 + r.val = t.val / 11 * 768 + r.val
    have : (t.val - 1) / 11 = t.val / 11 := by omega
    rw [this])
  have hs : ∀ r d, (outsAt0 m c (t.val - 1) (Nat.lt_of_le_of_lt (Nat.sub_le _ _) t.isLt)).2 (ix2 r d) = N_ m c (rowOf t r) d := fun r d => (hp.1 r d).trans (by rw [hrow])
  rw [outsAt0_B m c t h0]
  refine ⟨fun r d => hs r d, fun r d => ?_⟩
  dsimp only
  rw [out_B]
  refine (pay_at m c t _ hs _ r d).trans ?_
  rw [hp.2 r d, hrow, add_assoc]
  refine congrArg _ ?_
  show (∑ n ∈ Finset.range (512 * ((t.val - 1) % 11 + 1)), partN m c (rowOf t r) d n) + _ = _
  rw [show (t.val - 1) % 11 + 1 = t.val % 11 by omega, show 512 * (t.val % 11 + 1) = 512 * (t.val % 11) + 512 by ring, Finset.sum_range_add]

theorem holds : ∀ (n : ℕ) (hn : n < cfg0.N), Holds m c ⟨n, hn⟩ (outsAt0 m c n hn)
  | 0, hn => holds_A m c ⟨0, hn⟩ rfl
  | n + 1, hn => by
    by_cases h0 : (n + 1) % 11 = 0
    · exact holds_A m c ⟨n + 1, hn⟩ h0
    · exact holds_B m c ⟨n + 1, hn⟩ h0 (holds n (Nat.lt_of_succ_lt hn))

/-- The last point of a row of points leaves the reference's block. -/
theorem last (t : Fin cfg0.N) (h : t.val % 11 = 10) (r : Fin 768) (d : Fin 2048) :
    (outsAt0 m c t.val t.isLt).1 (ix2 r d) = result (aX m c) (aG m c) (aW1 m c) (aW3 m c) (aW2 m c) (ix2 (rowOf t r) d) := by
  rw [result_at, (holds m c t.val t.isLt).2 r d]
  refine congrArg _ ?_
  show ∑ n ∈ Finset.range (512 * (t.val % 11 + 1)), partN m c (rowOf t r) d n = _
  rw [h, show 512 * (10 + 1) = 5632 from rfl, Finset.sum_range]
  refine Finset.sum_congr rfl fun f _ => ?_
  unfold partN
  rw [dif_pos f.isLt]

/-- The result array after the run. -/
theorem final : (dats m 0 c).arrAt 5 cfg0.N = result (aX m c) (aG m c) (aW1 m c) (aW3 m c) (aW2 m c) := by
  refine (dats m 0 c).arrAt_eq_of_covers 5 _ (by decide +kernel) fun t hf y => ?_
  have ht : t.val % 11 = 10 := by
    have := hf
    rw [flush0_5 t] at this
    exact this
  blk_simp
  rw [after0_5]
  change S768x2048.Idx at y
  obtain ⟨r, d, rfl⟩ : ∃ (r : Fin 768) (d : Fin 2048), y = ix2 r d := ⟨y 0, y 1, by funext a; fin_cases a <;> rfl⟩
  refine (last m c t ht r d).trans ?_
  unfold rowOf
  blk_ext [idx t]

end Cert.Dense

end
-- ==== Proof.InProj.lean ====
/- The in-projection with its norm: the kernel's result after the run is the reference's, of the same arguments. -/
module
public import Idealize.ShloMosaic.Lib.Pipeline.ValueKit
public import proofs.«01_k».proof.Proof.DenseMath
public import proofs.«01_k».proof.Proof.Gen.Kernel3Ideal.Value
public import proofs.«01_k».proof.Proof.Gen.Reference3Ideal.Run
import all proofs.«01_k».proof.Proof.Gen.Kernel3Ideal.Loops
import all proofs.«01_k».proof.Proof.Gen.Kernel3Ideal.Frame.RunA
import all proofs.«01_k».proof.Proof.Gen.Kernel3Ideal.Frame.RunB

@[expose] public section

set_option maxRecDepth 16384

noncomputable section

namespace Cert.InProj

open Cert.Soft Idealize.ShloMosaic Idealize.ShloMosaic.TcCoe Idealize.SL.Sem

section Reference
open Cert.Reference3Ideal Cert.Reference3Ideal.Gen

variable (x : FVec Ideal S33024x2048 .f32) (g : FVec Ideal S2048 .f32) (w : FVec Ideal S2x2048x12288 .bf16)

/-- The normed rows, as the reference computes them. -/
def nrmRef : FVec Ideal S33024x2048 .f32 :=
  mulf (mulf x (broadcastInDim S33024x2048 ![0, 1] bcast_S33024x1_S33024x2048_0_1 (Host.rsqrt (addf (Host.divf (broadcastInDim S33024x1 ![0] bcast_S33024_S33024x1_0 (Host.reduceAdd (mulf x x) (constant S_ .f32 0x00000000#32) reducesTo_S33024x2048_S33024_d1 h_S_)) (broadcastInDim S33024x1 ![] bcast_S_S33024x1 (constant S_ .f32 0x45000000#32))) (broadcastInDim S33024x1 ![] bcast_S_S33024x1 (constant S_ .f32 0x358637BD#32)))))) (broadcastInDim S33024x2048 ![0, 1] bcast_S1x2048_S33024x2048_0_1 (broadcastInDim S1x2048 ![1] bcast_S2048_S1x2048_1 g))

/-- The reference's result. -/
def result : FVec Ideal S33024x12288 .bf16 :=
  truncf .bf16 (Host.dotGeneral (φ₁ := .f32) (φ₂ := .f32) dot_S33024x2048_S2048x12288_S33024x12288_1_0_0_1_n_n none (nrmRef x g)
    (extf .f32 (shapeCast _ (extractStridedSlice S1x2048x12288 ![1, 0, 0] w slices_S2x2048x12288_S1x2048x12288_1_0_0) shapeCasts_S1x2048x12288_S2048x12288) bitsLt_bf16_f32) : FVec Ideal S33024x12288 .f32) bitsLt_bf16_f32

theorem nrmRef_at (R : Fin 33024) (d : Fin 2048) : nrmRef x g (ix2 R d) = Cert.Dense.nrm x g R d := by
  unfold nrmRef Cert.Dense.nrm
  pointwise

theorem result_at (R : Fin 33024) (d : Fin 12288) : result x g w (ix2 R d) = ∑ e : Fin 2048, Cert.Dense.nrm x g R e * w (ix3 1 e d) := by
  unfold result
  generalize hn : nrmRef x g = n
  pointwise
  subst hn
  exact Finset.sum_congr rfl fun e _ => congrArg (· * _) (nrmRef_at x g R e)

end Reference

open Cert.Kernel3Ideal Cert.Kernel3Ideal.Gen Cert.Kernel3Ideal.Value
open Idealize.ShloMosaic.Pipeline (Dat)

theorem pay1_at (g : Vec Ideal S1x2048 .f32) (x : Vec Ideal S16x2048 .f32) (r : Fin 16) (d : Fin 2048) :
    k0_pay1 (F := Ideal) g x (ix2 r d) = x (ix2 r d) * Ideal.rsqrt (Ideal.div (∑ e : Fin 2048, x (ix2 r e) * x (ix2 r e)) (Ideal.ofBits .f32 0x45000000#32) + Ideal.ofBits .f32 0x358637BD#32) * g (ix2 0 d) := by
  pointwise [k0_pay1]

theorem pay2_at (s : Vec Ideal S768x2048 .bf16) (w : Vec Ideal S1x2048x2048 .bf16) (r : Fin 768) (d : Fin 2048) :
    k0_pay2 (F := Ideal) s w (ix2 r d) = ∑ e : Fin 2048, s (ix2 r e) * w (ix3 0 e d) := by
  pointwise [k0_pay2]

theorem hz3 : (![0, 0, 0] : Fin 3 → ℕ) = fun _ => 0 := by funext a; fin_cases a <;> rfl
theorem hz2 : (![0, 0] : Fin 2 → ℕ) = fun _ => 0 := by funext a; fin_cases a <;> rfl

/-- A later point of a row of points: the product of the carried rows. -/
theorem out_B (c : Dev nD) (i : grid0.Coords) (a2 a3 a4 a5 a6 h2 h3 h4 h5 h6) (hc : ¬cond0_0 i) (x0 : Vec Ideal S768x2048 .f32) (x1 : Vec Ideal S1x2048 .f32)
    (x2 : Vec Ideal S1x2048x2048 .bf16) (xs : Vec Ideal S768x2048 .bf16) :
    out0_B_3 (F := Ideal) c i a2 h2 a3 h3 a4 h4 a5 h5 a6 h6 hc x0 x1 x2 xs = k0_pay2 xs x2 := by
  frame_out

/-- One trip of the norm's loop stores one block of 16 rows. -/
theorem trip_list (𝒱 : Variants) (c : Dev nD) (bd) (i : grid0.Coords) (a2 h2 a3 h3 a4 h4 a5 h5 a6 h6) (hc : k0_cond1 i = 1#1) (v9 : Vec Ideal S1x2048 .f32) (X) (k) :
    tripL_k0_t1 (F := Ideal) 𝒱 c bd i a2 h2 a3 h3 a4 h4 a5 h5 a6 h6 hc v9 X k
      = [⟨Rect.unit (s := S768x2048) (k0_off1 k) S16x2048.size (k0_off1_inb i k hc),
          k0_pay1 v9 (a2.view.readAt (Elt Ideal) (Rect.unit (s := S768x2048) (k0_off1 k) S16x2048.size (k0_off1_inb i k hc)).toLoadRect X)⟩] := by
  unfold tripL_k0_t1 trip_k0_t1
  rfl

/-- The first point of a row of points: the product of the rows it has just normed. -/
theorem out_A (c : Dev nD) (i : grid0.Coords) (a2 a3 a4 a5 a6 h2 h3 h4 h5 h6) (hc : cond0_0 i) (x0 : Vec Ideal S768x2048 .f32) (x1 : Vec Ideal S1x2048 .f32)
    (x2 : Vec Ideal S1x2048x2048 .bf16) :
    out0_A_3 (F := Ideal) c i a2 h2 a3 h3 a4 h4 a5 h5 a6 h6 hc x0 x1 x2
      = k0_pay2 (sout0_A_0 (F := Ideal) c i a2 h2 a3 h3 a4 h4 a5 h5 a6 h6 hc x0 x1 x2) x2 := by
  frame_out
  rw [View.readCov_eq_canon']
  exact congrArg (fun u => k0_pay2 u x2) (View.ld_unit_zero (S := S768x2048) hz2 _ _)

/-- Every piece stored by the trips before `n` agrees with `G`, when each trip's block does. -/
theorem pieces_of_trips (𝒱 : Variants) (c : Dev nD) (bd) (i : grid0.Coords) (a2 h2 a3 h3 a4 h4 a5 h5 a6 h6) (hc : k0_cond1 i = 1#1) (v9 : Vec Ideal S1x2048 .f32) (X)
    (G : S768x2048.Idx → EReal)
    (hG : ∀ (k : Fin k0_t1_loop.trips) (x : S16x2048.Idx), k0_pay1 (F := Ideal) v9 (a2.view.readAt (Elt Ideal) (Rect.unit (s := S768x2048) (k0_off1 k) S16x2048.size (k0_off1_inb i k hc)).toLoadRect X) x
      = G ((Rect.unit (s := S768x2048) (k0_off1 k) S16x2048.size (k0_off1_inb i k hc)).emb x)) :
    ∀ n : ℕ, n ≤ k0_t1_loop.trips → ∀ p ∈ pb_k0_t1 (F := Ideal) 𝒱 c bd i a2 h2 a3 h3 a4 h4 a5 h5 a6 h6 hc v9 X n, ∀ x : p.1.shape.Idx, p.2 x = G (p.1.emb x)
  | 0, _, p, hp, _ => absurd hp List.not_mem_nil
  | n + 1, hn, p, hp, x => by
    have hs := pb_k0_t1_succ (F := Ideal) 𝒱 c bd i a2 h2 a3 h3 a4 h4 a5 h5 a6 h6 hc v9 X ⟨n, hn⟩
    rw [trip_list] at hs
    have hp' := hs ▸ hp
    rcases List.mem_append.mp hp' with hp' | hp'
    · obtain rfl := List.mem_singleton.mp hp'
      exact hG ⟨n, hn⟩ x
    · exact pieces_of_trips 𝒱 c bd i a2 h2 a3 h3 a4 h4 a5 h5 a6 h6 hc v9 X G hG n (Nat.le_of_succ_le hn) p hp' x

/-- The carried rows after the first point, given what each block of 16 rows holds. -/
theorem sout_A (c : Dev nD) (i : grid0.Coords) (a2 a3 a4 a5 a6 h2 h3 h4 h5 h6) (hc : cond0_0 i) (x0 : Vec Ideal S768x2048 .f32) (x1 : Vec Ideal S1x2048 .f32)
    (x2 : Vec Ideal S1x2048x2048 .bf16) (G : S768x2048.Idx → EReal)
    (hG : ∀ (k : Fin k0_t1_loop.trips) (x : S16x2048.Idx), k0_pay1 (F := Ideal) x1 (View.ld x0 (Rect.unit (s := S768x2048) (k0_off1 k) S16x2048.size (k0_off1_inb i k hc))) x
      = G ((Rect.unit (s := S768x2048) (k0_off1 k) S16x2048.size (k0_off1_inb i k hc)).emb x)) (y) :
    sout0_A_0 (F := Ideal) c i a2 h2 a3 h3 a4 h4 a5 h5 a6 h6 hc x0 x1 x2 y = G y := by
  have hcov := scover0_A_0 (F := Ideal) c i a2 h2 a3 h3 a4 h4 a5 h5 a6 h6 hc x0 x1 x2 y
  have he : (kernelRun0_A (F := Ideal) c i a2 h2 a3 h3 a4 h4 a5 h5 a6 h6 hc x0 x1 x2).2.1
      = pb_k0_t1 (F := Ideal) Variants.none c none i a2 h2 a3 h3 a4 h4 a5 h5 a6 h6 hc x1 (h2.unread x0) k0_t1_loop.trips := by
    unfold kernelRun0_A
    dsimp only
    simp only [View.readAt_eq_ld, h3.read_unread, View.ld_unit_zero (S := S1x2048) hz2]
  rw [he] at hcov
  frame_out
  refine View.canon_apply_of_pieces (Val := Elt Ideal) (e := .bf16) G _ ?_ y hcov
  refine pieces_of_trips Variants.none c none i a2 h2 a3 h3 a4 h4 a5 h5 a6 h6 hc x1 (h2.unread x0) G (fun k x => ?_) _ le_rfl
  rw [View.readAt_eq_ld, h2.read_unread]
  exact hG k x

theorem idx : ∀ t : Fin cfg0.N,
    win0_0.index t = ![t.val / 6, 0] ∧ win0_1.index t = ![0, 0] ∧ win0_2.index t = ![1, 0, t.val % 6] ∧ win0_3.index t = ![t.val / 6, t.val % 6] :=
  (by decide +kernel : ∀ t : Fin grid0.N, _)

theorem div_lt (t : Fin cfg0.N) : t.val / 6 < 43 := by
  have h : t.val < 258 := lt_of_lt_of_eq t.isLt N_0
  omega

variable (m : (ℓ : Loc nD τ sig) → Buf (Elt Ideal) ℓ) (c : Dev nD)

/-- The arguments: activations, gain, and the weight of both layers. -/
abbrev aX : FVec Ideal S33024x2048 .f32 := m ((c : Thread nD τ).loc main_arg0)
abbrev aG : FVec Ideal S2048 .f32 := m ((c : Thread nD τ).loc main_arg1)
abbrev aW : FVec Ideal S2x2048x12288 .bf16 := m ((c : Thread nD τ).loc main_arg2)

/-- The row of the activations that row `r` of a point's block is. -/
def rowOf (t : Fin cfg0.N) (r : Fin 768) : Fin 33024 := ⟨t.val / 6 * 768 + r.val, by have := div_lt t; omega⟩
/-- The column of the result that column `d` of a point's block is. -/
def colOf (t : Fin cfg0.N) (d : Fin 2048) : Fin 12288 := ⟨t.val % 6 * 2048 + d.val, by omega⟩

theorem x_at (t : Fin cfg0.N) (r : Fin 768) (d : Fin 2048) :
    (iblk m c 0 t : FVec Ideal S768x2048 .f32) (ix2 r d) = aX m c (ix2 (rowOf t r) d) := by
  unfold rowOf
  blk_ext [iblk, V, idx t]

theorem gHost (d : Fin 2048) : (V (F := Ideal) m c main_v0 : FVec Ideal S1x2048 .f32) (ix2 0 d) = aG m c (ix1 d) := by
  unfold V
  simp only [hostOps0]
  after_results_simp
  pointwise

theorem gRead (X : FVec Ideal S1x2048 .f32) (t : Fin cfg0.N) (d : Fin 2048) :
    View.read (Elt Ideal) ((cfg0.win 1).blk t).view X (ix2 0 d) = X (ix2 0 d) := by
  blk_ext [idx t]

theorem g_at (t : Fin cfg0.N) (d : Fin 2048) :
    (iblk m c 1 t : FVec Ideal S1x2048 .f32) (ix2 0 d) = aG m c (ix1 d) := by
  unfold iblk
  exact (gRead (V (F := Ideal) m c main_v0) t d).trans (gHost m c d)

theorem w_at (t : Fin cfg0.N) (e d : Fin 2048) :
    (iblk m c 2 t : FVec Ideal S1x2048x2048 .bf16) (ix3 0 e d) = aW m c (ix3 1 e (colOf t d)) := by
  unfold colOf
  blk_ext [iblk, V, idx t]

abbrev N_ (R : Fin 33024) (d : Fin 2048) : EReal := Cert.Dense.nrm (aX m c) (aG m c) R d

/-- A point's product, from normed rows `s`. -/
theorem pay_at (t : Fin cfg0.N) (s : Vec Ideal S768x2048 .bf16) (hs : ∀ r e, s (ix2 r e) = N_ m c (rowOf t r) e) (r : Fin 768) (d : Fin 2048) :
    k0_pay2 (F := Ideal) s (iblk m c 2 t) (ix2 r d) = result (aX m c) (aG m c) (aW m c) (ix2 (rowOf t r) (colOf t d)) :=
  (pay2_at _ _ r d).trans ((Finset.sum_congr rfl fun e _ => congrArg₂ (· * ·) (hs r e) (w_at m c t e d)).trans (result_at _ _ _ _ _).symm)

/-- A load of 16 rows of the block of activations. -/
theorem ld_rows (x : Vec Ideal S768x2048 .f32) (o : Fin 2 → ℕ) (n : ℕ) (ho : o = ![n, 0]) (hr : ∀ i, o i + S16x2048.size i ≤ S768x2048.size i) (a : Fin 16) (l : Fin 2048) (b : Fin 768)
    (hb : b.val = n + a.val) : View.ld x (Rect.unit (s := S768x2048) o S16x2048.size hr) (ix2 a l) = x (ix2 b l) := by
  subst ho
  refine View.ld_unit_apply_of _ _ _ _ _ _ fun i => ?_
  fin_cases i
  · exact hb
  · exact (Nat.zero_add _).symm

theorem emb_rows (o : Fin 2 → ℕ) (n : ℕ) (ho : o = ![n, 0]) (hr : ∀ i, o i + S16x2048.size i ≤ S768x2048.size i) (a : Fin 16) (l : Fin 2048) (b : Fin 768)
    (hb : b.val = n + a.val) : (Rect.unit (s := S768x2048) o S16x2048.size hr).emb (ix2 a l) = ix2 b l := by
  subst ho
  funext i
  fin_cases i
  · exact Fin.ext (by show n + 1 * a.val = b.val; omega)
  · exact Fin.ext (by show 0 + 1 * l.val = l.val; omega)

/-- The rows the first point of a row of points norms. -/
theorem normed (t : Fin cfg0.N) (a2 a3 a4 a5 a6 h2 h3 h4 h5 h6) (hc : cond0_0 (grid0.coords t)) (r : Fin 768) (d : Fin 2048) :
    sout0_A_0 (F := Ideal) c (grid0.coords t) a2 h2 a3 h3 a4 h4 a5 h5 a6 h6 hc (iblk m c 0 t) (iblk m c 1 t) (iblk m c 2 t) (ix2 r d)
      = N_ m c (rowOf t r) d := by
  refine sout_A c (grid0.coords t) a2 a3 a4 a5 a6 h2 h3 h4 h5 h6 hc _ _ _ (fun y => N_ m c (rowOf t (y 0)) (y 1)) (fun k x => ?_) (ix2 r d)
  change S16x2048.Idx at x
  obtain ⟨a, l, rfl⟩ : ∃ (a : Fin 16) (l : Fin 2048), x = ix2 a l := ⟨x 0, x 1, by funext i; fin_cases i <;> rfl⟩
  have hk : k.val < 48 := k.isLt
  have hl : ∀ e, View.ld (iblk m c 0 t : Vec Ideal S768x2048 .f32) (Rect.unit (s := S768x2048) (k0_off1 k) S16x2048.size (k0_off1_inb (grid0.coords t) k hc)) (ix2 a e)
      = aX m c (ix2 (rowOf t ⟨16 * k.val + a.val, by omega⟩) e) := fun e =>
    (ld_rows _ _ (16 * k.val) (k0_off1_eq k) _ a e ⟨16 * k.val + a.val, by omega⟩ rfl).trans (x_at m c t _ e)
  rw [emb_rows _ (16 * k.val) (k0_off1_eq k) _ a l ⟨16 * k.val + a.val, by omega⟩ rfl]
  refine (pay1_at _ _ a l).trans ?_
  unfold N_ Cert.Dense.nrm
  rw [hl, g_at]
  simp only [hl]
  rfl

/-- What the output block and the carried rows hold after a point. -/
def Holds (t : Fin cfg0.N) (a : Vec Ideal S768x2048 .bf16 × Vec Ideal S768x2048 .bf16) : Prop :=
  (∀ r d, a.2 (ix2 r d) = N_ m c (rowOf t r) d)
    ∧ ∀ r d, a.1 (ix2 r d) = result (aX m c) (aG m c) (aW m c) (ix2 (rowOf t r) (colOf t d))

theorem holds_A (t : Fin cfg0.N) (h0 : t.val % 6 = 0) : Holds m c t (outsAt0 m c t.val t.isLt) := by
  rw [outsAt0_A m c t h0]
  refine ⟨fun r d => normed m c t _ _ _ _ _ _ _ _ _ _ _ r d, fun r d => ?_⟩
  dsimp only
  rw [out_A]
  exact pay_at m c t _ (fun r e => normed m c t _ _ _ _ _ _ _ _ _ _ _ r e) r d

theorem holds_B (t : Fin cfg0.N) (h0 : ¬t.val % 6 = 0)
    (hp : Holds m c ⟨t.val - 1, Nat.lt_of_le_of_lt (Nat.sub_le _ _) t.isLt⟩ (outsAt0 m c (t.val - 1) (Nat.lt_of_le_of_lt (Nat.sub_le _ _) t.isLt))) :
    Holds m c t (outsAt0 m c t.val t.isLt) := by
  have hrow : ∀ r, rowOf ⟨t.val - 1, Nat.lt_of_le_of_lt (Nat.sub_le _ _) t.isLt⟩ r = rowOf t r := fun r => Fin.ext (by
    show (t.val - 1) / 6 * 768 + r.val = t.val / 6 * 768 + r.val
    have : (t.val - 1) / 6 = t.val / 6 := by omega
    rw [this])
  have hs : ∀ r d, (outsAt0 m c (t.val - 1) (Nat.lt_of_le_of_lt (Nat.sub_le _ _) t.isLt)).2 (ix2 r d) = N_ m c (rowOf t r) d := fun r d => (hp.1 r d).trans (by rw [hrow])
  rw [outsAt0_B m c t h0]
  refine ⟨fun r d => hs r d, fun r d => ?_⟩
  dsimp only
  rw [out_B]
  exact pay_at m c t _ hs r d

theorem holds : ∀ (n : ℕ) (hn : n < cfg0.N), Holds m c ⟨n, hn⟩ (outsAt0 m c n hn)
  | 0, hn => holds_A m c ⟨0, hn⟩ rfl
  | n + 1, hn => by
    by_cases h0 : (n + 1) % 6 = 0
    · exact holds_A m c ⟨n + 1, hn⟩ h0
    · exact holds_B m c ⟨n + 1, hn⟩ h0 (holds n (Nat.lt_of_succ_lt hn))

/-- The result array after the run. -/
theorem final : (dats m 0 c).arrAt 3 cfg0.N = result (aX m c) (aG m c) (aW m c) := by
  refine (dats m 0 c).arrAt_eq_of_covers 3 _ (by decide +kernel) fun t hf y => ?_
  blk_simp
  rw [after0_3]
  change S768x2048.Idx at y
  obtain ⟨r, d, rfl⟩ : ∃ (r : Fin 768) (d : Fin 2048), y = ix2 r d := ⟨y 0, y 1, by funext a; fin_cases a <;> rfl⟩
  refine ((holds m c t.val t.isLt).2 r d).trans ?_
  unfold rowOf colOf
  blk_ext [idx t]

end Cert.InProj

end
-- ==== Proof.MixerOut.lean ====
/- The mixer's output: gates, the three branches' projections, the output projection and the residual. The kernel's
   result after the run is the reference's, of the same arguments. -/
module
public import Idealize.ShloMosaic.Lib.Pipeline.ValueKit
public import proofs.«01_k».proof.Proof.DenseMath
public import proofs.«01_k».proof.Proof.Gen.Kernel4Ideal.Value
public import proofs.«01_k».proof.Proof.Gen.Reference4Ideal.Run
import all proofs.«01_k».proof.Proof.Gen.Kernel4Ideal.Frame.RunA

@[expose] public section

set_option maxRecDepth 16384

noncomputable section

namespace Cert.MixerOut

open Cert.Soft Idealize.ShloMosaic Idealize.ShloMosaic.TcCoe Idealize.SL.Sem

/-- The gate, by the hyperbolic tangent. -/
def sg (a : EReal) : EReal := Ideal.ofBits .f32 0x3F000000#32 * Ideal.tanh (Ideal.ofBits .f32 0x3F000000#32 * a) + Ideal.ofBits .f32 0x3F000000#32

theorem sg_eq (a : EReal) : sg a = Ideal.div 1 (1 + Ideal.exp (-a)) := by
  unfold sg
  rw [Cert.Dense.half, Cert.Dense.gate, EReal.coe_one]

section Reference
open Cert.Reference4Ideal Cert.Reference4Ideal.Gen

variable (x : FVec Ideal S33024x2048 .f32) (ya : FVec Ideal S33024x1024 .bf16) (yc yh : FVec Ideal S33024x512 .bf16) (p : FVec Ideal S33024x12288 .bf16)
  (wa : FVec Ideal S1024x2048 .bf16) (wc wh : FVec Ideal S512x2048 .bf16) (wo : FVec Ideal S2048x2048 .bf16)

/-- One merged entry: each branch's product under its gate. -/
def mrg (R : Fin 33024) (f : Fin 2048) : EReal :=
  sg (p (ix2 R ⟨6144 + f.val, by omega⟩)) * (∑ e : Fin 1024, ya (ix2 R e) * wa (ix2 e f))
    + sg (p (ix2 R ⟨8192 + f.val, by omega⟩)) * (∑ e : Fin 512, yc (ix2 R e) * wc (ix2 e f))
    + sg (p (ix2 R ⟨10240 + f.val, by omega⟩)) * (∑ e : Fin 512, yh (ix2 R e) * wh (ix2 e f))

/-- A gate, as the reference computes it. -/
def gateRef (a : FVec Ideal S33024x2048 .f32) : FVec Ideal S33024x2048 .f32 :=
  Host.divf (broadcastInDim S33024x2048 ![] bcast_S_S33024x2048 (constant S_ .f32 0x3F800000#32)) (addf (broadcastInDim S33024x2048 ![] bcast_S_S33024x2048 (constant S_ .f32 0x3F800000#32)) (Host.exp (Host.negf a)))

/-- The merged branches, as the reference computes them. -/
def mrgRef : FVec Ideal S33024x2048 .f32 :=
  addf (addf (mulf (gateRef (extractStridedSlice S33024x2048 ![0, 6144] (extf .f32 p bitsLt_bf16_f32) slices_S33024x12288_S33024x2048_0_6144))
      (Host.dotGeneral (φ₁ := .f32) (φ₂ := .f32) dot_S33024x1024_S1024x2048_S33024x2048_1_0_0_1_n_n none (extf .f32 ya bitsLt_bf16_f32) (extf .f32 wa bitsLt_bf16_f32)))
    (mulf (gateRef (extractStridedSlice S33024x2048 ![0, 8192] (extf .f32 p bitsLt_bf16_f32) slices_S33024x12288_S33024x2048_0_8192))
      (Host.dotGeneral (φ₁ := .f32) (φ₂ := .f32) dot_S33024x512_S512x2048_S33024x2048_1_0_0_1_n_n none (extf .f32 yc bitsLt_bf16_f32) (extf .f32 wc bitsLt_bf16_f32))))
    (mulf (gateRef (extractStridedSlice S33024x2048 ![0, 10240] (extf .f32 p bitsLt_bf16_f32) slices_S33024x12288_S33024x2048_0_10240))
      (Host.dotGeneral (φ₁ := .f32) (φ₂ := .f32) dot_S33024x512_S512x2048_S33024x2048_1_0_0_1_n_n none (extf .f32 yh bitsLt_bf16_f32) (extf .f32 wh bitsLt_bf16_f32)))

/-- The reference's result. -/
def result : FVec Ideal S33024x2048 .f32 :=
  addf x (Host.dotGeneral (φ₁ := .f32) (φ₂ := .f32) dot_S33024x2048_S2048x2048_S33024x2048_1_0_0_1_n_n none (mrgRef ya yc yh p wa wc wh) (extf .f32 wo bitsLt_bf16_f32))

theorem gateRef_at (a : FVec Ideal S33024x2048 .f32) (R : Fin 33024) (f : Fin 2048) : gateRef a (ix2 R f) = sg (a (ix2 R f)) := by
  rw [sg_eq]
  unfold gateRef
  pointwise

theorem mrgRef_at (R : Fin 33024) (f : Fin 2048) : mrgRef ya yc yh p wa wc wh (ix2 R f) = mrg ya yc yh p wa wc wh R f := by
  unfold mrgRef mrg
  generalize h1 : gateRef (extractStridedSlice S33024x2048 ![0, 6144] (extf .f32 p bitsLt_bf16_f32) slices_S33024x12288_S33024x2048_0_6144) = g1
  generalize h2 : gateRef (extractStridedSlice S33024x2048 ![0, 8192] (extf .f32 p bitsLt_bf16_f32) slices_S33024x12288_S33024x2048_0_8192) = g2
  generalize h3 : gateRef (extractStridedSlice S33024x2048 ![0, 10240] (extf .f32 p bitsLt_bf16_f32) slices_S33024x12288_S33024x2048_0_10240) = g3
  have e1 : g1 (ix2 R f) = sg (p (ix2 R ⟨6144 + f.val, by omega⟩)) := by
    rw [← h1, gateRef_at]; refine congrArg sg ?_; pointwise
  have e2 : g2 (ix2 R f) = sg (p (ix2 R ⟨8192 + f.val, by omega⟩)) := by
    rw [← h2, gateRef_at]; refine congrArg sg ?_; pointwise
  have e3 : g3 (ix2 R f) = sg (p (ix2 R ⟨10240 + f.val, by omega⟩)) := by
    rw [← h3, gateRef_at]; refine congrArg sg ?_; pointwise
  rw [← e1, ← e2, ← e3]
  pointwise

theorem result_at (R : Fin 33024) (d : Fin 2048) :
    result x ya yc yh p wa wc wh wo (ix2 R d) = x (ix2 R d) + ∑ f : Fin 2048, mrg ya yc yh p wa wc wh R f * wo (ix2 f d) := by
  unfold result
  generalize hn : mrgRef ya yc yh p wa wc wh = n
  pointwise
  subst hn
  exact congrArg _ (Finset.sum_congr rfl fun e _ => congrArg (· * _) (mrgRef_at ya yc yh p wa wc wh R e))

end Reference

open Cert.Kernel4Ideal Cert.Kernel4Ideal.Gen Cert.Kernel4Ideal.Value
open Idealize.ShloMosaic.Pipeline (Dat)

theorem pay2_at (ga : Vec Ideal S256x2048 .bf16) (ya : Vec Ideal S256x1024 .bf16) (wa : Vec Ideal S1024x2048 .bf16) (gc : Vec Ideal S256x2048 .bf16) (yc : Vec Ideal S256x512 .bf16)
    (wc : Vec Ideal S512x2048 .bf16) (r : Fin 256) (f : Fin 2048) :
    k0_pay2 (F := Ideal) ga ya wa gc yc wc (ix2 r f)
      = sg (ga (ix2 r f)) * (∑ e : Fin 1024, ya (ix2 r e) * wa (ix2 e f)) + sg (gc (ix2 r f)) * (∑ e : Fin 512, yc (ix2 r e) * wc (ix2 e f)) := by
  unfold sg
  pointwise [k0_pay2]

theorem pay1_at (a : FVec Ideal S256x2048 .f32) (gh : Vec Ideal S256x2048 .bf16) (yh : Vec Ideal S256x512 .bf16) (wh : Vec Ideal S512x2048 .bf16) (o : Vec Ideal S256x2048 .f32)
    (wo : Vec Ideal S2048x2048 .bf16) (r : Fin 256) (d : Fin 2048) :
    k0_pay1 (F := Ideal) a (k0_pay3 gh) (Scalar.ofBits .f32 0x3F000000#32) yh wh o wo (ix2 r d)
      = o (ix2 r d) + ∑ f : Fin 2048, (a (ix2 r f) + sg (gh (ix2 r f)) * (∑ e : Fin 512, yh (ix2 r e) * wh (ix2 e f))) * wo (ix2 f d) := by
  unfold sg
  pointwise [k0_pay1, k0_pay3]

/-- What a point leaves in its output block. -/
theorem out_A (c : Dev nD) (i : grid0.Coords) (a2 a3 a4 a5 a6 a7 a8 a9 a10 a11 a12 a13 h2 h3 h4 h5 h6 h7 h8 h9 h10 h11 h12 h13) (hc : cond0_0 i)
    (x0 : Vec Ideal S256x2048 .f32) (x1 : Vec Ideal S256x1024 .bf16) (x2 x3 : Vec Ideal S256x512 .bf16) (x4 x5 x6 : Vec Ideal S256x2048 .bf16)
    (x7 : Vec Ideal S1024x2048 .bf16) (x8 x9 : Vec Ideal S512x2048 .bf16) (x10 : Vec Ideal S2048x2048 .bf16) :
    out0_A_11 (F := Ideal) c i a2 h2 a3 h3 a4 h4 a5 h5 a6 h6 a7 h7 a8 h8 a9 h9 a10 h10 a11 h11 a12 h12 a13 h13 hc x0 x1 x2 x3 x4 x5 x6 x7 x8 x9 x10
      = k0_pay1 (k0_pay2 x4 x1 x7 x5 x2 x8) (k0_pay3 x6) (Scalar.ofBits .f32 0x3F000000#32) x3 x9 x0 x10 := by
  frame_out

theorem idx : ∀ t : Fin cfg0.N,
    win0_0.index t = ![t.val, 0] ∧ win0_1.index t = ![t.val, 0] ∧ win0_2.index t = ![t.val, 0] ∧ win0_3.index t = ![t.val, 0]
    ∧ win0_4.index t = ![t.val, 3] ∧ win0_5.index t = ![t.val, 4] ∧ win0_6.index t = ![t.val, 5] ∧ win0_7.index t = ![0, 0]
    ∧ win0_8.index t = ![0, 0] ∧ win0_9.index t = ![0, 0] ∧ win0_10.index t = ![0, 0] ∧ win0_11.index t = ![t.val, 0] :=
  (by decide +kernel : ∀ t : Fin grid0.N, _)

theorem lt_N (t : Fin cfg0.N) : t.val < 129 := lt_of_lt_of_eq t.isLt N_0

variable (m : (ℓ : Loc nD τ sig) → Buf (Elt Ideal) ℓ) (c : Dev nD)

/-- The arguments: the residual, the three branches, the projected activations that hold the gates, and the weights. -/
abbrev aX : FVec Ideal S33024x2048 .f32 := m ((c : Thread nD τ).loc main_arg0)
abbrev aYa : FVec Ideal S33024x1024 .bf16 := m ((c : Thread nD τ).loc main_arg1)
abbrev aYc : FVec Ideal S33024x512 .bf16 := m ((c : Thread nD τ).loc main_arg2)
abbrev aYh : FVec Ideal S33024x512 .bf16 := m ((c : Thread nD τ).loc main_arg3)
abbrev aP : FVec Ideal S33024x12288 .bf16 := m ((c : Thread nD τ).loc main_arg4)
abbrev aWa : FVec Ideal S1024x2048 .bf16 := m ((c : Thread nD τ).loc main_arg5)
abbrev aWc : FVec Ideal S512x2048 .bf16 := m ((c : Thread nD τ).loc main_arg6)
abbrev aWh : FVec Ideal S512x2048 .bf16 := m ((c : Thread nD τ).loc main_arg7)
abbrev aWo : FVec Ideal S2048x2048 .bf16 := m ((c : Thread nD τ).loc main_arg8)

/-- The row of the activations that row `r` of a point's block is. -/
def rowOf (t : Fin cfg0.N) (r : Fin 256) : Fin 33024 := ⟨t.val * 256 + r.val, by have := lt_N t; omega⟩

theorem x_at (t : Fin cfg0.N) (r : Fin 256) (d : Fin 2048) : (iblk m c 0 t : FVec Ideal S256x2048 .f32) (ix2 r d) = aX m c (ix2 (rowOf t r) d) := by
  unfold rowOf
  blk_ext [iblk, V, idx t]
theorem ya_at (t : Fin cfg0.N) (r : Fin 256) (d : Fin 1024) : (iblk m c 1 t : FVec Ideal S256x1024 .bf16) (ix2 r d) = aYa m c (ix2 (rowOf t r) d) := by
  unfold rowOf
  blk_ext [iblk, V, idx t]
theorem yc_at (t : Fin cfg0.N) (r : Fin 256) (d : Fin 512) : (iblk m c 2 t : FVec Ideal S256x512 .bf16) (ix2 r d) = aYc m c (ix2 (rowOf t r) d) := by
  unfold rowOf
  blk_ext [iblk, V, idx t]
theorem yh_at (t : Fin cfg0.N) (r : Fin 256) (d : Fin 512) : (iblk m c 3 t : FVec Ideal S256x512 .bf16) (ix2 r d) = aYh m c (ix2 (rowOf t r) d) := by
  unfold rowOf
  blk_ext [iblk, V, idx t]
theorem ga_at (t : Fin cfg0.N) (r : Fin 256) (d : Fin 2048) : (iblk m c 4 t : FVec Ideal S256x2048 .bf16) (ix2 r d) = aP m c (ix2 (rowOf t r) ⟨6144 + d.val, by omega⟩) := by
  unfold rowOf
  blk_ext [iblk, V, idx t]
theorem gc_at (t : Fin cfg0.N) (r : Fin 256) (d : Fin 2048) : (iblk m c 5 t : FVec Ideal S256x2048 .bf16) (ix2 r d) = aP m c (ix2 (rowOf t r) ⟨8192 + d.val, by omega⟩) := by
  unfold rowOf
  blk_ext [iblk, V, idx t]
theorem gh_at (t : Fin cfg0.N) (r : Fin 256) (d : Fin 2048) : (iblk m c 6 t : FVec Ideal S256x2048 .bf16) (ix2 r d) = aP m c (ix2 (rowOf t r) ⟨10240 + d.val, by omega⟩) := by
  unfold rowOf
  blk_ext [iblk, V, idx t]
theorem wa_at (t : Fin cfg0.N) (e : Fin 1024) (f : Fin 2048) : (iblk m c 7 t : FVec Ideal S1024x2048 .bf16) (ix2 e f) = aWa m c (ix2 e f) := by
  blk_ext [iblk, V, idx t]
theorem wc_at (t : Fin cfg0.N) (e : Fin 512) (f : Fin 2048) : (iblk m c 8 t : FVec Ideal S512x2048 .bf16) (ix2 e f) = aWc m c (ix2 e f) := by
  blk_ext [iblk, V, idx t]
theorem wh_at (t : Fin cfg0.N) (e : Fin 512) (f : Fin 2048) : (iblk m c 9 t : FVec Ideal S512x2048 .bf16) (ix2 e f) = aWh m c (ix2 e f) := by
  blk_ext [iblk, V, idx t]
theorem wo_at (t : Fin cfg0.N) (e : Fin 2048) (f : Fin 2048) : (iblk m c 10 t : FVec Ideal S2048x2048 .bf16) (ix2 e f) = aWo m c (ix2 e f) := by
  blk_ext [iblk, V, idx t]

/-- The reference's result, of the kernel's arguments. -/
abbrev res : FVec Ideal S33024x2048 .f32 := result (aX m c) (aYa m c) (aYc m c) (aYh m c) (aP m c) (aWa m c) (aWc m c) (aWh m c) (aWo m c)

/-- A point leaves the reference's block. -/
theorem out_at (t : Fin cfg0.N) (r : Fin 256) (d : Fin 2048) : outsAt0 m c t (ix2 r d) = res m c (ix2 (rowOf t r) d) := by
  unfold outsAt0
  rw [out_A]
  refine (pay1_at _ _ _ _ _ _ r d).trans ?_
  refine Eq.trans ?_ (result_at _ _ _ _ _ _ _ _ _ _ _).symm
  refine congrArg₂ (· + ·) (x_at m c t r d) (Finset.sum_congr rfl fun f _ => congrArg₂ (· * ·) ?_ (wo_at m c t f d))
  unfold mrg
  refine congrArg₂ (· + ·) ((pay2_at _ _ _ _ _ _ r f).trans (congrArg₂ (· + ·) ?_ ?_)) ?_
  · exact congrArg₂ (· * ·) (congrArg sg (ga_at m c t r f)) (Finset.sum_congr rfl fun e _ => congrArg₂ (· * ·) (ya_at m c t r e) (wa_at m c t e f))
  · exact congrArg₂ (· * ·) (congrArg sg (gc_at m c t r f)) (Finset.sum_congr rfl fun e _ => congrArg₂ (· * ·) (yc_at m c t r e) (wc_at m c t e f))
  · exact congrArg₂ (· * ·) (congrArg sg (gh_at m c t r f)) (Finset.sum_congr rfl fun e _ => congrArg₂ (· * ·) (yh_at m c t r e) (wh_at m c t e f))

/-- The result array after the run. -/
theorem final : (dats m 0 c).arrAt 11 cfg0.N = res m c := by
  refine (dats m 0 c).arrAt_eq_of_covers 11 _ (by decide +kernel) fun t hf y => ?_
  blk_simp
  rw [after0_11]
  change S256x2048.Idx at y
  obtain ⟨r, d, rfl⟩ : ∃ (r : Fin 256) (d : Fin 2048), y = ix2 r d := ⟨y 0, y 1, by funext a; fin_cases a <;> rfl⟩
  refine (out_at m c t r d).trans ?_
  unfold rowOf
  blk_ext [idx t]

end Cert.MixerOut

end
-- ==== Proof.ExpertsMath.lean ====
/- The routed experts, entry by entry: a block's part of an output entry, and the reference's result. -/
module
public import proofs.«01_k».proof.Proof.DenseMath
public import proofs.«01_k».proof.Proof.Gathers
public import proofs.«01_k».proof.Proof.Gen.Kernel5Ideal.Frame
public import proofs.«01_k».proof.Proof.Gen.Reference5Ideal.Run

@[expose] public section

set_option maxRecDepth 16384

noncomputable section

namespace Cert.Experts

open Cert.Soft Idealize.ShloMosaic Idealize.ShloMosaic.TcCoe Idealize.SL.Sem

/-- The gate times its argument, by the hyperbolic tangent. -/
abbrev gated (a : EReal) : EReal := a * (Ideal.ofBits .f32 0x3F000000#32 * Ideal.tanh (Ideal.ofBits .f32 0x3F000000#32 * a) + Ideal.ofBits .f32 0x3F000000#32)

section Kernel
open Cert.Kernel5Ideal Cert.Kernel5Ideal.Gen

theorem pay2_at (x : Vec Ideal S1024x2048 .bf16) (w1 w3 : Vec Ideal S1x2048x512 .f32) (o : Vec Ideal S1024x2048 .f32) (w2 : Vec Ideal S1x512x2048 .f32) (r : Fin 1024) (d : Fin 2048) :
    k0_pay2 (F := Ideal) x w1 w3 o w2 (ix2 r d) = o (ix2 r d) + ∑ f : Fin 512,
      gated (∑ e : Fin 2048, x (ix2 r e) * w1 (ix3 0 e f)) * (∑ e : Fin 2048, x (ix2 r e) * w3 (ix3 0 e f)) * w2 (ix3 0 f d) := by
  pointwise [k0_pay2]

theorem pay3_at (x : Vec Ideal S512x2048 .bf16) (w1 w3 : Vec Ideal S1x2048x512 .f32) (o : Vec Ideal S512x2048 .f32) (w2 : Vec Ideal S1x512x2048 .f32) (r : Fin 512) (d : Fin 2048) :
    k0_pay3 (F := Ideal) x w1 w3 o w2 (ix2 r d) = o (ix2 r d) + ∑ f : Fin 512,
      gated (∑ e : Fin 2048, x (ix2 r e) * w1 (ix3 0 e f)) * (∑ e : Fin 2048, x (ix2 r e) * w3 (ix3 0 e f)) * w2 (ix3 0 f d) := by
  pointwise [k0_pay3]

end Kernel

section Reference
open Cert.Reference5Ideal Cert.Reference5Ideal.Gen

variable (x : FVec Ideal S54272x2048 .bf16) (be nh : IVec S53 32) (w1 w3 : FVec Ideal S8x2048x7168 .f32) (w2 : FVec Ideal S8x7168x2048 .f32) (y : FVec Ideal S74752x2048 .bf16)

/-- The expert of block `b`, its number clamped into range. -/
def ex (b : Fin 53) : Fin 8 := ⟨min (be (ix1 b)).toInt.toNat 7, by omega⟩

/-- The row of the gathered activations that row `s` of block `b` is. -/
def row (b : Fin 53) (s : Fin 1024) : Fin 54272 := ⟨b.val * 1024 + s.val, by omega⟩

/-- A row of a block times one column of its expert's weight. -/
def up (w : FVec Ideal S8x2048x7168 .f32) (b : Fin 53) (s : Fin 1024) (f : Fin 7168) : EReal := ∑ e : Fin 2048, x (ix2 (row b s) e) * w (ix3 (ex be b) e f)

/-- One hidden column's part of an output entry. -/
def part (b : Fin 53) (s : Fin 1024) (d : Fin 2048) (f : Fin 7168) : EReal :=
  gated (up x be w1 b s f) * up x be w3 b s f * w2 (ix3 (ex be b) f d)

/-- Whether row `s` of block `b` is in use. -/
def used (b : Fin 53) (s : Fin 1024) : Prop := nh (ix1 b) = 2#32 ∨ (nh (ix1 b) = 1#32 ∧ s.val < 512)

instance (b : Fin 53) (s : Fin 1024) : Decidable (used nh b s) := by unfold used; infer_instance

/-- The experts' numbers as a column of start indices. -/
abbrev col : IVec S53x1 32 := broadcastInDim S53x1 ![0] bcast_S53_S53x1_0 be

/-- Each block's hidden weight. -/
def wUp (w : FVec Ideal S8x2048x7168 .f32) : FVec Ideal S53x2048x7168 .f32 :=
  Host.gather gather_S8x2048x7168_S53x1_S53x2048x7168_12_0_n_n_0_1_120487168 w (col be)

/-- Each block's output weight. -/
def wDown (w : FVec Ideal S8x7168x2048 .f32) : FVec Ideal S53x7168x2048 .f32 :=
  Host.gather gather_S8x7168x2048_S53x1_S53x7168x2048_12_0_n_n_0_1_171682048 w (col be)

theorem col_at (b : Fin 53) (z : Fin 1) : col be (ix2 b z) = be (ix1 b) := by
  unfold col
  pointwise

theorem wUp_at (w : FVec Ideal S8x2048x7168 .f32) (b : Fin 53) (e : Fin 2048) (f : Fin 7168) : wUp be w (ix3 b e f) = w (ix3 (ex be b) e f) := by
  refine congrArg w (funext fun ax => ?_)
  fin_cases ax
  · refine Fin.ext ((Cert.Attn.operandIdx_start gather_S8x2048x7168_S53x1_S53x2048x7168_12_0_n_n_0_1_120487168 _ (col be) 0 (by decide) (by decide) (by decide) (ix2 b 0) (by funext q; fin_cases q <;> rfl)).trans ?_)
    rw [col_at]
    rfl
  · exact Fin.ext ((Cert.Attn.operandIdx_keep gather_S8x2048x7168_S53x1_S53x2048x7168_12_0_n_n_0_1_120487168 _ (col be) 1 (by decide) (by decide)).trans rfl)
  · exact Fin.ext ((Cert.Attn.operandIdx_keep gather_S8x2048x7168_S53x1_S53x2048x7168_12_0_n_n_0_1_120487168 _ (col be) 2 (by decide) (by decide)).trans rfl)

theorem wDown_at (w : FVec Ideal S8x7168x2048 .f32) (b : Fin 53) (f : Fin 7168) (d : Fin 2048) : wDown be w (ix3 b f d) = w (ix3 (ex be b) f d) := by
  refine congrArg w (funext fun ax => ?_)
  fin_cases ax
  · refine Fin.ext ((Cert.Attn.operandIdx_start gather_S8x7168x2048_S53x1_S53x7168x2048_12_0_n_n_0_1_171682048 _ (col be) 0 (by decide) (by decide) (by decide) (ix2 b 0) (by funext q; fin_cases q <;> rfl)).trans ?_)
    rw [col_at]
    rfl
  · exact Fin.ext ((Cert.Attn.operandIdx_keep gather_S8x7168x2048_S53x1_S53x7168x2048_12_0_n_n_0_1_171682048 _ (col be) 1 (by decide) (by decide)).trans rfl)
  · exact Fin.ext ((Cert.Attn.operandIdx_keep gather_S8x7168x2048_S53x1_S53x7168x2048_12_0_n_n_0_1_171682048 _ (col be) 2 (by decide) (by decide)).trans rfl)

/-- The activations by block. -/
def xRef : FVec Ideal S53x1024x2048 .f32 := shapeCast _ (extf .f32 x bitsLt_bf16_f32) shapeCasts_S54272x2048_S53x1024x2048

theorem xRef_at (b : Fin 53) (s : Fin 1024) (e : Fin 2048) : xRef x (ix3 b s e) = x (ix2 (row b s) e) := by
  unfold xRef row
  pointwise

/-- A hidden product, as the reference computes it. -/
def upRef (w : FVec Ideal S8x2048x7168 .f32) : FVec Ideal S53x1024x7168 .f32 :=
  Host.dotGeneral (φ₁ := .f32) (φ₂ := .f32) dot_S53x1024x2048_S53x2048x7168_S53x1024x7168_2_1_1_2_0_0 none (xRef x) (wUp be w)

theorem upRef_at (w : FVec Ideal S8x2048x7168 .f32) (b : Fin 53) (s : Fin 1024) (f : Fin 7168) : upRef x be w (ix3 b s f) = up x be w b s f := by
  unfold upRef up
  generalize hx : xRef x = X
  generalize hw : wUp be w = W
  pointwise
  subst hx hw
  exact Finset.sum_congr rfl fun e _ => congrArg₂ (· * ·) (xRef_at x b s e) (wUp_at be w b e f)

/-- The hidden rows, as the reference computes them. -/
def hidRef : FVec Ideal S53x1024x7168 .f32 :=
  mulf (mulf (upRef x be w1) (Host.divf (broadcastInDim S53x1024x7168 ![] bcast_S_S53x1024x7168 (constant S_ .f32 0x3F800000#32)) (addf (broadcastInDim S53x1024x7168 ![] bcast_S_S53x1024x7168 (constant S_ .f32 0x3F800000#32)) (Host.exp (Host.negf (upRef x be w1)))))) (upRef x be w3)

theorem hidRef_at (b : Fin 53) (s : Fin 1024) (f : Fin 7168) : hidRef x be w1 w3 (ix3 b s f) = gated (up x be w1 b s f) * up x be w3 b s f := by
  unfold hidRef
  generalize h1 : upRef x be w1 = u1
  generalize h3 : upRef x be w3 = u3
  pointwise
  subst h1 h3
  rw [upRef_at, upRef_at, gated, Cert.Dense.half, Cert.Dense.gate, EReal.coe_one]

/-- The blocks' outputs before the unused rows are cleared. -/
def outRef : FVec Ideal S53x1024x2048 .f32 :=
  Host.dotGeneral (φ₁ := .f32) (φ₂ := .f32) dot_S53x1024x7168_S53x7168x2048_S53x1024x2048_2_1_1_2_0_0 none (hidRef x be w1 w3) (wDown be w2)

theorem outRef_at (b : Fin 53) (s : Fin 1024) (d : Fin 2048) : outRef x be w1 w3 w2 (ix3 b s d) = ∑ f : Fin 7168, part x be w1 w3 w2 b s d f := by
  unfold outRef
  generalize hh : hidRef x be w1 w3 = H
  generalize hw : wDown be w2 = W
  pointwise
  subst hh hw
  exact Finset.sum_congr rfl fun f _ => congrArg₂ (· * ·) (hidRef_at x be w1 w3 b s f) (wDown_at be w2 b f d)

/-- Which rows are in use, as the reference computes it. -/
def maskRef : IVec S53x1024 1 :=
  ori (broadcastInDim S53x1024 ![0, 1] bcast_S53x1_S53x1024_0_1 (cmpi .eq (broadcastInDim S53x1 ![0] bcast_S53_S53x1_0 nh) (broadcastInDim S53x1 ![] bcast_S_S53x1 (constantI S_ 32 2#32)))) (andi (broadcastInDim S53x1024 ![0, 1] bcast_S53x1_S53x1024_0_1 (cmpi .eq (broadcastInDim S53x1 ![0] bcast_S53_S53x1_0 nh) (broadcastInDim S53x1 ![] bcast_S_S53x1 (constantI S_ 32 1#32)))) (broadcastInDim S53x1024 ![0, 1] bcast_S1x1024_S53x1024_0_1 (cmpi .slt (broadcastInDim S1x1024 ![1] bcast_S1024_S1x1024_1 (iotaInDim S1024 32 0)) (broadcastInDim S1x1024 ![] bcast_S_S1x1024 (constantI S_ 32 512#32)))))

theorem maskRef_at (b : Fin 53) (s : Fin 1024) : maskRef nh (ix2 b s) = BitVec.ofBool (decide (used nh b s)) := by
  unfold maskRef used
  pointwise
  have hs : ∀ s : Fin 1024, IntOp.cmpi CmpIPredicate.slt (BitVec.ofNat 32 s.val) 512#32 = BitVec.ofBool (decide (s.val < 512)) := by decide +kernel
  have he : ∀ a b : BitVec 32, IntOp.cmpi CmpIPredicate.eq a b = BitVec.ofBool (decide (a = b)) := fun a b => rfl
  rw [hs, he, he]
  by_cases h2 : nh (ix1 b) = 2#32 <;> by_cases h1 : nh (ix1 b) = 1#32 <;> by_cases hl : s.val < 512 <;> simp only [h2, h1, hl] <;> decide

/-- The rows of all blocks, the unused ones zero. -/
def rowsRef : FVec Ideal S54272x2048 .bf16 :=
  truncf .bf16 (shapeCast _ (select (broadcastInDim S53x1024x2048 ![0, 1, 2] bcast_S53x1024x1_S53x1024x2048_0_1_2 (broadcastInDim S53x1024x1 ![0, 1] bcast_S53x1024_S53x1024x1_0_1 (maskRef nh))) (outRef x be w1 w3 w2) (broadcastInDim S53x1024x2048 ![] bcast_S_S53x1024x2048 (id (constant S_ .f32 0x00000000#32)))) shapeCasts_S53x1024x2048_S54272x2048 : FVec Ideal S54272x2048 .f32) bitsLt_bf16_f32

/-- The reference's result. -/
def result : FVec Ideal S74752x2048 .bf16 :=
  concatenate S74752x2048 0 [⟨S20480x2048, (extractStridedSlice S20480x2048 ![0, 0] y slices_S74752x2048_S20480x2048_0_0)⟩, ⟨S54272x2048, rowsRef x be nh w1 w3 w2⟩] concatenates_S20480x2048_S54272x2048_S74752x2048_d0

theorem rowsRef_at (b : Fin 53) (s : Fin 1024) (d : Fin 2048) :
    rowsRef x be nh w1 w3 w2 (ix2 (row b s) d) = if used nh b s then ∑ f : Fin 7168, part x be w1 w3 w2 b s d f else 0 := by
  unfold rowsRef
  generalize hm : maskRef nh = M
  generalize ho : outRef x be w1 w3 w2 = O
  unfold row
  pointwise
  subst hm ho
  rw [maskRef_at, outRef_at]
  by_cases hu : used nh b s
  · rw [decide_eq_true hu, if_pos hu]
    rfl
  · rw [decide_eq_false hu, if_neg hu]
    exact Ideal.ofBits_zero_f32

theorem result_lo (R : Fin 74752) (d : Fin 2048) (h : R.val < 20480) : result x be nh w1 w3 w2 y (ix2 R d) = y (ix2 R d) := by
  unfold result
  generalize hr : rowsRef x be nh w1 w3 w2 = Q
  pointwise
  rw [dif_pos h]

theorem result_hi (b : Fin 53) (s : Fin 1024) (d : Fin 2048) (R : Fin 74752) (hR : R.val = (20 + b.val) * 1024 + s.val) :
    result x be nh w1 w3 w2 y (ix2 R d) = if used nh b s then ∑ f : Fin 7168, part x be w1 w3 w2 b s d f else 0 := by
  rw [← rowsRef_at]
  unfold result
  generalize hr : rowsRef x be nh w1 w3 w2 = Q
  pointwise
  rw [dif_neg (by omega)]
  exact congrArg (fun a => Q (ix2 a d)) (Fin.ext (by show R.val - 20480 = b.val * 1024 + s.val; omega))

end Reference

end Cert.Experts

end
-- ==== Proof.ExpertsCases.lean ====
/- The routed experts' grid points: what one point leaves in its accumulator and in its output block. -/
module
public import Idealize.ShloMosaic.Lib.Pipeline.ValueKit
public import Idealize.ShloMosaic.Lib.WritesUnit
public import Idealize.ShloMosaic.Lib.VecWindow
public import proofs.«01_k».proof.Proof.Soft
public import proofs.«01_k».proof.Proof.Gen.Kernel5Ideal.Frame
import all proofs.«01_k».proof.Proof.Gen.Kernel5Ideal.Frame.RunB
import all proofs.«01_k».proof.Proof.Gen.Kernel5Ideal.Frame.RunC
import all proofs.«01_k».proof.Proof.Gen.Kernel5Ideal.Frame.RunD
import all proofs.«01_k».proof.Proof.Gen.Kernel5Ideal.Frame.RunF
import all proofs.«01_k».proof.Proof.Gen.Kernel5Ideal.Frame.RunG
import all proofs.«01_k».proof.Proof.Gen.Kernel5Ideal.Frame.RunJ
import all proofs.«01_k».proof.Proof.Gen.Kernel5Ideal.Frame.RunK
import all proofs.«01_k».proof.Proof.Gen.Kernel5Ideal.Frame.RunL

@[expose] public section

set_option maxRecDepth 16384

noncomputable section

namespace Cert.Experts

open Cert.Soft Cert.Kernel5Ideal Cert.Kernel5Ideal.Gen Idealize.ShloMosaic Idealize.ShloMosaic.TcCoe Idealize.SL.Sem

variable (c : Dev nD) (i : grid0.Coords) (a4 h4 a5 h5 a6 h6 a7 h7 a9 h9 a10 h10)
  (x0 : Vec Ideal S1024x2048 .bf16) (x1 x2 : Vec Ideal S1x2048x512 .f32) (x3 : Vec Ideal S1x512x2048 .f32) (xt0 xt1) (xs : Vec Ideal S1024x2048 .f32)

theorem sout_B (h0 h3 h1 h2) : sout0_B_0 (F := Ideal) c i a4 h4 a5 h5 a6 h6 a7 h7 a9 h9 a10 h10 h0 h3 x0 x1 x2 x3 xt0 xt1 h1 h2 = k0_pay2 x0 x1 x2 (k0_pay1 (F := Ideal)) x3 := by
  frame_out

theorem sout_D (h0 h3 h1 h2) : sout0_D_0 (F := Ideal) c i a4 h4 a5 h5 a6 h6 a7 h7 a9 h9 a10 h10 h0 h3 x0 x1 x2 x3 xt0 xt1 h1 h2 = k0_pay1 (F := Ideal) := by
  frame_out

theorem sout_F (h0 h3 h1 h2) : sout0_F_0 (F := Ideal) c i a4 h4 a5 h5 a6 h6 a7 h7 a9 h9 a10 h10 h0 h3 x0 x1 x2 x3 xt0 xt1 xs h1 h2 = k0_pay2 x0 x1 x2 xs x3 := by
  frame_out

theorem sout_J (h0 h3 h1 h2) : sout0_J_0 (F := Ideal) c i a4 h4 a5 h5 a6 h6 a7 h7 a9 h9 a10 h10 h0 h3 x0 x1 x2 x3 xt0 xt1 xs h1 h2 = k0_pay2 x0 x1 x2 xs x3 := by
  frame_out

theorem out_J (h0 h3 h1 h2) : out0_J_4 (F := Ideal) c i a4 h4 a5 h5 a6 h6 a7 h7 a9 h9 a10 h10 h0 h3 x0 x1 x2 x3 xt0 xt1 xs h1 h2 = k0_pay4 (k0_pay2 x0 x1 x2 xs x3) := by
  frame_out

theorem out_L (h0 h3 h1 h2) : out0_L_4 (F := Ideal) c i a4 h4 a5 h5 a6 h6 a7 h7 a9 h9 a10 h10 h0 h3 x0 x1 x2 x3 xt0 xt1 xs h1 h2 = k0_pay4 xs := by
  frame_out

/-- The first half of the rows. -/
abbrev lo : Rect S1024x2048 := Rect.unit (s := S1024x2048) ![0, 0] ![512, 2048] inb_S1024x2048_S512x2048_0_0

/-- What a point that works the first half of the rows makes of the accumulator `o`. -/
def halfAt (o : Vec Ideal S1024x2048 .f32) (r : Fin 1024) (d : Fin 2048) : EReal :=
  if h : r.val < 512 then k0_pay3 (F := Ideal) (View.ld x0 lo) x1 x2 (View.ld o lo) x3 (ix2 ⟨r.val, h⟩ d) else o (ix2 r d)

/-- A store of the first half of the rows, read back over earlier stores. -/
theorem read_half (v : View sig .tc .vmem S1024x2048 .f32) (f) (L : List (View.Piece (Elt Ideal) S1024x2048 .f32)) (o : Vec Ideal S1024x2048 .f32)
    (ho : v.read (Elt Ideal) (v.writes (Elt Ideal) f L) = o) (r : Fin 1024) (d : Fin 2048) :
    v.read (Elt Ideal) (v.writes (Elt Ideal) f (⟨lo, k0_pay3 (F := Ideal) (View.ld x0 lo) x1 x2 (View.ld o lo) x3⟩ :: L)) (ix2 r d) = halfAt x0 x1 x2 x3 o r d := by
  unfold halfAt
  by_cases h : r.val < 512
  · rw [dif_pos h]
    exact View.read_writes_cons_rows_of_mem (o := 0) v f _ _ L (ix2 r d) (ix2 (⟨r.val, h⟩ : Fin 512) d) rfl (Nat.zero_add _).symm rfl
  · rw [dif_neg h, View.read_writes_cons_rows_of_not_mem (o := 0) (W := 512) v f _ _ L (ix2 r d) rfl rfl (Or.inr (by show 0 + 512 ≤ r.val; omega)), ho]

theorem sout_G (h0 h3 h1 h2) (r : Fin 1024) (d : Fin 2048) :
    sout0_G_0 (F := Ideal) c i a4 h4 a5 h5 a6 h6 a7 h7 a9 h9 a10 h10 h0 h3 x0 x1 x2 x3 xt0 xt1 xs h1 h2 (ix2 r d) = halfAt x0 x1 x2 x3 xs r d := by
  frame_out
  exact read_half x0 x1 x2 x3 a10.view _ [] xs (h10.read_unread _) r d

/-- The store that clears the accumulator. -/
abbrev cleared : View.Piece (Elt Ideal) S1024x2048 .f32 := ⟨Rect.unit (s := S1024x2048) ![0, 0] ![1024, 2048] inb_S1024x2048_S1024x2048_0_0, k0_pay1 (F := Ideal)⟩

theorem read_cleared (v : View sig .tc .vmem S1024x2048 .f32) (f) : v.read (Elt Ideal) (v.writes (Elt Ideal) f [cleared]) = k0_pay1 (F := Ideal) :=
  View.read_writes_full v f (off := ![0, 0]) inb_S1024x2048_S1024x2048_0_0 _ []

theorem canon_cleared : View.canon [cleared] = k0_pay1 (F := Ideal) :=
  funext fun y => (View.read_writes_junk_apply_eq_canon VS0_0 y [cleared]).symm.trans (congrFun (read_cleared VS0_0 _) y)

theorem readCov_cleared (v : View sig .tc .vmem S1024x2048 .f32) : v.readCov [cleared] lo.toLoadRect = View.ld (k0_pay1 (F := Ideal)) lo := by
  rw [View.readCov_eq_canon', canon_cleared]

theorem canon_half (v : View sig .tc .vmem S1024x2048 .f32) (r : Fin 1024) (d : Fin 2048) :
    View.canon [⟨lo, k0_pay3 (F := Ideal) (View.ld x0 lo) x1 x2 (v.readCov [cleared] lo.toLoadRect) x3⟩, cleared] (ix2 r d) = halfAt x0 x1 x2 x3 (k0_pay1 (F := Ideal)) r d := by
  rw [readCov_cleared]
  refine (View.read_writes_junk_apply_eq_canon VS0_0 (ix2 r d) _).symm.trans ?_
  exact read_half x0 x1 x2 x3 VS0_0 _ _ _ (read_cleared _ _) r d

theorem sout_C (h0 h3 h1 h2) (r : Fin 1024) (d : Fin 2048) :
    sout0_C_0 (F := Ideal) c i a4 h4 a5 h5 a6 h6 a7 h7 a9 h9 a10 h10 h0 h3 x0 x1 x2 x3 xt0 xt1 h1 h2 (ix2 r d) = halfAt x0 x1 x2 x3 (k0_pay1 (F := Ideal)) r d := by
  frame_out
  exact canon_half x0 x1 x2 x3 a10.view r d

theorem out_K (h0 h3 h1 h2) (r : Fin 1024) (d : Fin 2048) :
    out0_K_4 (F := Ideal) c i a4 h4 a5 h5 a6 h6 a7 h7 a9 h9 a10 h10 h0 h3 x0 x1 x2 x3 xt0 xt1 xs h1 h2 (ix2 r d) = halfAt x0 x1 x2 x3 xs r d := by
  frame_out
  exact read_half x0 x1 x2 x3 a10.view _ [] xs (h10.read_unread _) r d

end Cert.Experts

end
-- ==== Proof.ExpertsOk.lean ====
/- The routed experts' precondition: every block it admits lies inside the weights. -/
module
public import proofs.«01_k».proof.Defs
public import proofs.«01_k».proof.Proof.Soft
public import proofs.«01_k».proof.Proof.Gen.Kernel5.Frame
public import proofs.«01_k».proof.Proof.Gen.Kernel5Ideal.Frame

@[expose] public section

set_option maxRecDepth 16384

noncomputable section

namespace Cert.Experts

open Cert.Soft Idealize.ShloMosaic Idealize.ShloMosaic.TcCoe Idealize.SL.Sem

theorem pre_facts : Cert.Pre_experts.Facts := ⟨by decide⟩

theorem lt_of_cmpi (v : BitVec 32) (h : IntOp.andi (IntOp.cmpi .sge v 0#32) (IntOp.cmpi .slt v 8#32) = 1#1) : v.toNat < 8 := by
  have h' : (BitVec.ofBool (BitVec.sle 0#32 v)) &&& (BitVec.ofBool (BitVec.slt v 8#32)) = 1#1 := h
  have e : ∀ a b : Bool, BitVec.ofBool a &&& BitVec.ofBool b = 1#1 → a = true ∧ b = true := by decide
  obtain ⟨h1, h2⟩ := e _ _ h'
  rw [BitVec.sle_eq_decide, decide_eq_true_iff] at h1
  rw [BitVec.slt_eq_decide, decide_eq_true_iff] at h2
  have e0 : (0#32).toInt = 0 := by decide
  have e8 : (8#32).toInt = 8 := by decide
  rw [e0] at h1
  rw [e8] at h2
  rw [BitVec.toInt_eq_toNat_cond] at h1 h2
  split at h1 <;> omega

/-- Every block's expert is in range. -/
theorem inRange {F : FTy → Type} [FloatOps F] [Cert.Pre_experts.Facts] {x be nh w1 w3 w2 y}
    (h : Cert.Pre_experts.fn (F := F) x be nh w1 w3 w2 y = fun _ => 1#1) (b : Fin 53) : (be (ix1 b)).toNat < 8 :=
  lt_of_cmpi _ (congrFun h (ix1 b))

/-- The chunk of the hidden columns a point asks for, by the number of halves in use. -/
def chunk (v : BitVec 32) (j : Fin 14) : ℕ := (Scalar.select (Scalar.cmpi .sgt v 0#32) (BitVec.ofNat 32 j.val) 13#32).toNat

theorem chunk_lt (v : BitVec 32) (j : Fin 14) : chunk v j < 14 := by
  have e : ∀ (p : BitVec 1) (j : Fin 14), (Scalar.select p (BitVec.ofNat 32 j.val) 13#32).toNat < 14 := by decide +kernel
  exact e _ j

theorem chunk_two (j : Fin 14) : chunk 2#32 j = j.val := by
  revert j
  decide +kernel

theorem chunk_one (j : Fin 14) : chunk 1#32 j = j.val := by
  revert j
  decide +kernel

section Bits
open Cert.Kernel5 Cert.Kernel5.Gen

theorem firstBits (i : grid0.Coords) (h) : (Rect.unit (s := S53) (k0_off1 i) S1.size (k0_off1_inb i)).emb (Shape.Idx.first h) = ix1 (i 0) := by
  funext a
  fin_cases a
  refine Fin.ext ?_
  have : (i 0).val < 53 := (i 0).isLt
  show (BitVec.ofNat 32 (i 0).val).toNat + 1 * 0 = (i 0).val
  rw [BitVec.toNat_ofNat]
  omega

theorem window1Bits (pf : pre0.Contents (Elt Bits)) (i : grid0.Coords) :
    cc0_transform_1 k0_off1_inb numel1_S1 pf i = ![(pf 0 (ix1 (i 0)) : BitVec 32).toNat, 0, chunk (pf 1 (ix1 (i 0))) (i 1)] :=
  congrArg₂ (fun p q : S53.Idx => ![(pf 0 p : BitVec 32).toNat, 0, chunk (pf 1 q) (i 1)]) (firstBits i _) (firstBits i _)

theorem window2Bits (pf : pre0.Contents (Elt Bits)) (i : grid0.Coords) :
    cc0_transform_2 k0_off1_inb numel1_S1 pf i = ![(pf 0 (ix1 (i 0)) : BitVec 32).toNat, 0, chunk (pf 1 (ix1 (i 0))) (i 1)] :=
  congrArg₂ (fun p q : S53.Idx => ![(pf 0 p : BitVec 32).toNat, 0, chunk (pf 1 q) (i 1)]) (firstBits i _) (firstBits i _)

theorem window3Bits (pf : pre0.Contents (Elt Bits)) (i : grid0.Coords) :
    cc0_transform_3 k0_off1_inb numel1_S1 pf i = ![(pf 0 (ix1 (i 0)) : BitVec 32).toNat, chunk (pf 1 (ix1 (i 0))) (i 1), 0] :=
  congrArg₂ (fun p q : S53.Idx => ![(pf 0 p : BitVec 32).toNat, chunk (pf 1 q) (i 1), 0]) (firstBits i _) (firstBits i _)

theorem insideBits (pf : pre0.Contents (Elt Bits)) (h : ∀ b : Fin 53, (pf 0 (ix1 b) : BitVec 32).toNat < 8) : ok0 (F := Bits) pf := by
  unfold ok0
  refine ⟨fun i => ⟨fun a => ?_, Or.inl rfl⟩, fun i => ⟨fun a => ?_, Or.inl rfl⟩, fun i => ⟨fun a => ?_, Or.inl rfl⟩⟩
  · rw [window1Bits]
    have h0 := h (i 0)
    have h1 := chunk_lt (pf 1 (ix1 (i 0))) (i 1)
    fin_cases a
    · show ((pf 0 (ix1 (i 0)) : BitVec 32).toNat + 1) * 1 ≤ 8
      omega
    · show (0 + 1) * 2048 ≤ 2048
      omega
    · show (chunk (pf 1 (ix1 (i 0))) (i 1) + 1) * 512 ≤ 7168
      omega
  · rw [window2Bits]
    have h0 := h (i 0)
    have h1 := chunk_lt (pf 1 (ix1 (i 0))) (i 1)
    fin_cases a
    · show ((pf 0 (ix1 (i 0)) : BitVec 32).toNat + 1) * 1 ≤ 8
      omega
    · show (0 + 1) * 2048 ≤ 2048
      omega
    · show (chunk (pf 1 (ix1 (i 0))) (i 1) + 1) * 512 ≤ 7168
      omega
  · rw [window3Bits]
    have h0 := h (i 0)
    have h1 := chunk_lt (pf 1 (ix1 (i 0))) (i 1)
    fin_cases a
    · show ((pf 0 (ix1 (i 0)) : BitVec 32).toNat + 1) * 1 ≤ 8
      omega
    · show (chunk (pf 1 (ix1 (i 0))) (i 1) + 1) * 512 ≤ 7168
      omega
    · show (0 + 1) * 2048 ≤ 2048
      omega

theorem table0Bits (m : (ℓ : Loc nD τ sig) → Buf (Elt Bits) ℓ) (c : Dev nD) : tbl m 0 = m ((c : Thread nD τ).loc main_arg1) :=
  (V_pre m c 0).symm.trans (V_main_arg1 m c)

theorem table1Bits (m : (ℓ : Loc nD τ sig) → Buf (Elt Bits) ℓ) (c : Dev nD) : tbl m 1 = m ((c : Thread nD τ).loc main_arg2) :=
  (V_pre m c 1).symm.trans (V_main_arg2 m c)

theorem okBits [Cert.Pre_experts.Facts] (m : (ℓ : Loc nD τ sig) → Buf (Elt Bits) ℓ) (h : Cert.Pre_Kernel5 m) : Ok m :=
  insideBits _ fun b => (congrArg (fun f : IVec S53 32 => (f (ix1 b)).toNat) (table0Bits m 0)).trans_lt (inRange (h 0) b)

end Bits

section Ideal
open Cert.Kernel5Ideal Cert.Kernel5Ideal.Gen

theorem firstIdeal (i : grid0.Coords) (h) : (Rect.unit (s := S53) (k0_off1 i) S1.size (k0_off1_inb i)).emb (Shape.Idx.first h) = ix1 (i 0) := by
  funext a
  fin_cases a
  refine Fin.ext ?_
  have : (i 0).val < 53 := (i 0).isLt
  show (BitVec.ofNat 32 (i 0).val).toNat + 1 * 0 = (i 0).val
  rw [BitVec.toNat_ofNat]
  omega

theorem window1Ideal (pf : pre0.Contents (Elt Ideal)) (i : grid0.Coords) :
    cc0_transform_1 k0_off1_inb numel1_S1 pf i = ![(pf 0 (ix1 (i 0)) : BitVec 32).toNat, 0, chunk (pf 1 (ix1 (i 0))) (i 1)] :=
  congrArg₂ (fun p q : S53.Idx => ![(pf 0 p : BitVec 32).toNat, 0, chunk (pf 1 q) (i 1)]) (firstIdeal i _) (firstIdeal i _)

theorem window2Ideal (pf : pre0.Contents (Elt Ideal)) (i : grid0.Coords) :
    cc0_transform_2 k0_off1_inb numel1_S1 pf i = ![(pf 0 (ix1 (i 0)) : BitVec 32).toNat, 0, chunk (pf 1 (ix1 (i 0))) (i 1)] :=
  congrArg₂ (fun p q : S53.Idx => ![(pf 0 p : BitVec 32).toNat, 0, chunk (pf 1 q) (i 1)]) (firstIdeal i _) (firstIdeal i _)

theorem window3Ideal (pf : pre0.Contents (Elt Ideal)) (i : grid0.Coords) :
    cc0_transform_3 k0_off1_inb numel1_S1 pf i = ![(pf 0 (ix1 (i 0)) : BitVec 32).toNat, chunk (pf 1 (ix1 (i 0))) (i 1), 0] :=
  congrArg₂ (fun p q : S53.Idx => ![(pf 0 p : BitVec 32).toNat, chunk (pf 1 q) (i 1), 0]) (firstIdeal i _) (firstIdeal i _)

theorem insideIdeal (pf : pre0.Contents (Elt Ideal)) (h : ∀ b : Fin 53, (pf 0 (ix1 b) : BitVec 32).toNat < 8) : ok0 (F := Ideal) pf := by
  unfold ok0
  refine ⟨fun i => ⟨fun a => ?_, Or.inl rfl⟩, fun i => ⟨fun a => ?_, Or.inl rfl⟩, fun i => ⟨fun a => ?_, Or.inl rfl⟩⟩
  · rw [window1Ideal]
    have h0 := h (i 0)
    have h1 := chunk_lt (pf 1 (ix1 (i 0))) (i 1)
    fin_cases a
    · show ((pf 0 (ix1 (i 0)) : BitVec 32).toNat + 1) * 1 ≤ 8
      omega
    · show (0 + 1) * 2048 ≤ 2048
      omega
    · show (chunk (pf 1 (ix1 (i 0))) (i 1) + 1) * 512 ≤ 7168
      omega
  · rw [window2Ideal]
    have h0 := h (i 0)
    have h1 := chunk_lt (pf 1 (ix1 (i 0))) (i 1)
    fin_cases a
    · show ((pf 0 (ix1 (i 0)) : BitVec 32).toNat + 1) * 1 ≤ 8
      omega
    · show (0 + 1) * 2048 ≤ 2048
      omega
    · show (chunk (pf 1 (ix1 (i 0))) (i 1) + 1) * 512 ≤ 7168
      omega
  · rw [window3Ideal]
    have h0 := h (i 0)
    have h1 := chunk_lt (pf 1 (ix1 (i 0))) (i 1)
    fin_cases a
    · show ((pf 0 (ix1 (i 0)) : BitVec 32).toNat + 1) * 1 ≤ 8
      omega
    · show (chunk (pf 1 (ix1 (i 0))) (i 1) + 1) * 512 ≤ 7168
      omega
    · show (0 + 1) * 2048 ≤ 2048
      omega

theorem table0Ideal (m : (ℓ : Loc nD τ sig) → Buf (Elt Ideal) ℓ) (c : Dev nD) : tbl m 0 = m ((c : Thread nD τ).loc main_arg1) :=
  (V_pre m c 0).symm.trans (V_main_arg1 m c)

theorem table1Ideal (m : (ℓ : Loc nD τ sig) → Buf (Elt Ideal) ℓ) (c : Dev nD) : tbl m 1 = m ((c : Thread nD τ).loc main_arg2) :=
  (V_pre m c 1).symm.trans (V_main_arg2 m c)

theorem okIdeal [Cert.Pre_experts.Facts] (m : (ℓ : Loc nD τ sig) → Buf (Elt Ideal) ℓ) (h : Cert.Pre_Kernel5Ideal m) : Ok m :=
  insideIdeal _ fun b => (congrArg (fun f : IVec S53 32 => (f (ix1 b)).toNat) (table0Ideal m 0)).trans_lt (inRange (h 0) b)

end Ideal

end Cert.Experts

end
-- ==== Proof.Experts.lean ====
/- The routed experts' result after the run: the reference's, of the same arguments. -/
module
public import Idealize.ShloMosaic.Lib.Pipeline.ValueKit.Partial
public import proofs.«01_k».proof.Proof.ExpertsMath
public import proofs.«01_k».proof.Proof.ExpertsCases
public import proofs.«01_k».proof.Proof.ExpertsOk

@[expose] public section

set_option maxRecDepth 16384

noncomputable section

namespace Cert.Experts

open Cert.Soft Cert.Kernel5Ideal Cert.Kernel5Ideal.Gen Idealize.ShloMosaic Idealize.ShloMosaic.TcCoe Idealize.SL.Sem
open Idealize.ShloMosaic.Pipeline (Dat)

/-- A point's block and chunk, the block's result index, and the row of activations. -/
theorem coords : ∀ t : Fin grid0.N, (grid0.coords t 0).val = t.val / 14 ∧ (grid0.coords t 1).val = t.val % 14
    ∧ cc0_transform_0 (grid0.coords t) = ![t.val / 14, 0] ∧ cc0_transform_5 (grid0.coords t) = ![20 + t.val / 14, 0] := by
  decide +kernel

variable (m : (ℓ : Loc nD τ sig) → Buf (Elt Ideal) ℓ) (hO : Ok m) (c : Dev nD)

/-- The arguments: gathered rows, the blocks' experts and halves in use, the three weights, and the earlier rows. -/
abbrev aX : FVec Ideal S54272x2048 .bf16 := m ((c : Thread nD τ).loc main_arg0)
abbrev aE : IVec S53 32 := m ((c : Thread nD τ).loc main_arg1)
abbrev aH : IVec S53 32 := m ((c : Thread nD τ).loc main_arg2)
abbrev aW1 : FVec Ideal S8x2048x7168 .f32 := m ((c : Thread nD τ).loc main_arg3)
abbrev aW3 : FVec Ideal S8x2048x7168 .f32 := m ((c : Thread nD τ).loc main_arg4)
abbrev aW2 : FVec Ideal S8x7168x2048 .f32 := m ((c : Thread nD τ).loc main_arg5)
abbrev aY : FVec Ideal S74752x2048 .bf16 := m ((c : Thread nD τ).loc main_arg6)

abbrev Pt : Type := Fin grid0.N

/-- A point's block. -/
def blkOf (t : Pt) : Fin 53 := ⟨t.val / 14, by have h : t.val < 742 := lt_of_lt_of_eq t.isLt N_0; omega⟩
/-- The hidden column that column `f` of a point's chunk is. -/
def colOf (t : Pt) (f : Fin 512) : Fin 7168 := ⟨t.val % 14 * 512 + f.val, by omega⟩

theorem coords0 (t : Pt) : grid0.coords t 0 = blkOf t := Fin.ext (coords t).1

theorem idx0 (t : Pt) : (pcfg0.win (adm m hO) 0).index t = ![t.val / 14, 0] := (coords t).2.2.1
theorem idx4 (t : Pt) : (pcfg0.win (adm m hO) 4).index t = ![20 + t.val / 14, 0] := (coords t).2.2.2

/-- Every block's expert is in range. -/
def Known : Prop := ∀ b : Fin 53, (aE m c (ix1 b)).toNat < 8

/-- A point's block has rows in use. -/
def Live (t : Pt) : Prop := aH m c (ix1 (blkOf t)) = 2#32 ∨ aH m c (ix1 (blkOf t)) = 1#32

theorem expert_at (hE : Known m c) (t : Pt) : (tbl m 0 (ix1 (grid0.coords t 0)) : BitVec 32).toNat = (ex (aE m c) (blkOf t)).val := by
  rw [coords0, table0Ideal m c]
  show (aE m c (ix1 (blkOf t))).toNat = min (aE m c (ix1 (blkOf t))).toInt.toNat 7
  have h := hE (blkOf t)
  rw [BitVec.toInt_eq_toNat_cond, if_pos (by omega)]
  omega

theorem chunk_at (t : Pt) (hl : Live m c t) : chunk (tbl m 1 (ix1 (grid0.coords t 0))) (grid0.coords t 1) = t.val % 14 := by
  rw [coords0, table1Ideal m c]
  have h2 := (coords t).2.1
  rcases hl with h | h
  · exact (congrArg (fun v => chunk v (grid0.coords t 1)) h).trans ((chunk_two _).trans h2)
  · exact (congrArg (fun v => chunk v (grid0.coords t 1)) h).trans ((chunk_one _).trans h2)

variable (hE : Known m c)

include hE

theorem idx1 (t : Pt) (hl : Live m c t) : (pcfg0.win (adm m hO) 1).index t = ![(ex (aE m c) (blkOf t)).val, 0, t.val % 14] :=
  (window1Ideal (tbl m) (grid0.coords t)).trans (by rw [expert_at m c hE, chunk_at m c t hl])
theorem idx2 (t : Pt) (hl : Live m c t) : (pcfg0.win (adm m hO) 2).index t = ![(ex (aE m c) (blkOf t)).val, 0, t.val % 14] :=
  (window2Ideal (tbl m) (grid0.coords t)).trans (by rw [expert_at m c hE, chunk_at m c t hl])
theorem idx3 (t : Pt) (hl : Live m c t) : (pcfg0.win (adm m hO) 3).index t = ![(ex (aE m c) (blkOf t)).val, t.val % 14, 0] :=
  (window3Ideal (tbl m) (grid0.coords t)).trans (by rw [expert_at m c hE, chunk_at m c t hl])

omit hE

theorem x_at (t : Pt) (r : Fin 1024) (d : Fin 2048) :
    (iblk m hO c 0 t : FVec Ideal S1024x2048 .bf16) (ix2 r d) = aX m c (ix2 (row (blkOf t) r) d) := by
  have h := idx0 m hO t
  unfold row blkOf
  blk_ext [iblk, V]
  · exact congrArg (fun n => n * 1024 + r.val) (congrFun h 0)
  · exact (congrArg (fun n => n * 2048 + d.val) (congrFun h 1)).trans (by show 0 * 2048 + d.val = d.val; omega)

include hE

theorem w1_at (t : Pt) (hl : Live m c t) (e : Fin 2048) (f : Fin 512) :
    (iblk m hO c 1 t : FVec Ideal S1x2048x512 .f32) (ix3 0 e f) = aW1 m c (ix3 (ex (aE m c) (blkOf t)) e (colOf t f)) := by
  have h := idx1 m hO c hE t hl
  generalize ex (aE m c) (blkOf t) = k at h ⊢
  unfold colOf
  blk_ext [iblk, V]
  · exact congrFun h 0
  · exact (congrArg (fun n => n * 2048 + e.val) (congrFun h 1)).trans (by show 0 * 2048 + e.val = e.val; omega)
  · exact congrArg (fun n => n * 512 + f.val) (congrFun h 2)

theorem w3_at (t : Pt) (hl : Live m c t) (e : Fin 2048) (f : Fin 512) :
    (iblk m hO c 2 t : FVec Ideal S1x2048x512 .f32) (ix3 0 e f) = aW3 m c (ix3 (ex (aE m c) (blkOf t)) e (colOf t f)) := by
  have h := idx2 m hO c hE t hl
  generalize ex (aE m c) (blkOf t) = k at h ⊢
  unfold colOf
  blk_ext [iblk, V]
  · exact congrFun h 0
  · exact (congrArg (fun n => n * 2048 + e.val) (congrFun h 1)).trans (by show 0 * 2048 + e.val = e.val; omega)
  · exact congrArg (fun n => n * 512 + f.val) (congrFun h 2)

theorem w2_at (t : Pt) (hl : Live m c t) (f : Fin 512) (d : Fin 2048) :
    (iblk m hO c 3 t : FVec Ideal S1x512x2048 .f32) (ix3 0 f d) = aW2 m c (ix3 (ex (aE m c) (blkOf t)) (colOf t f) d) := by
  have h := idx3 m hO c hE t hl
  generalize ex (aE m c) (blkOf t) = k at h ⊢
  unfold colOf
  blk_ext [iblk, V]
  · exact congrFun h 0
  · exact congrArg (fun n => n * 512 + f.val) (congrFun h 1)
  · exact (congrArg (fun n => n * 2048 + d.val) (congrFun h 2)).trans (by show 0 * 2048 + d.val = d.val; omega)

omit hE

/-- A point's four blocks. -/
abbrev b0 (t : Pt) : FVec Ideal S1024x2048 .bf16 := iblk m hO c 0 t
abbrev b1 (t : Pt) : FVec Ideal S1x2048x512 .f32 := iblk m hO c 1 t
abbrev b2 (t : Pt) : FVec Ideal S1x2048x512 .f32 := iblk m hO c 2 t
abbrev b3 (t : Pt) : FVec Ideal S1x512x2048 .f32 := iblk m hO c 3 t

/-- One hidden column's part, by number. -/
def partN (b : Fin 53) (r : Fin 1024) (d : Fin 2048) (n : ℕ) : EReal :=
  if h : n < 7168 then part (aX m c) (aE m c) (aW1 m c) (aW3 m c) (aW2 m c) b r d ⟨n, h⟩ else 0

include hE

/-- The columns of a point's chunk, of one row. -/
theorem chunk_sum (t : Pt) (hl : Live m c t) (r : Fin 1024) (d : Fin 2048) (X : Fin 2048 → EReal) (hX : ∀ e, X e = aX m c (ix2 (row (blkOf t) r) e)) :
    ∑ f : Fin 512, gated (∑ e : Fin 2048, X e * b1 m hO c t (ix3 0 e f)) * (∑ e : Fin 2048, X e * b2 m hO c t (ix3 0 e f)) * b3 m hO c t (ix3 0 f d)
      = ∑ f ∈ Finset.range 512, partN m c (blkOf t) r d (512 * (t.val % 14) + f) := by
  rw [Finset.sum_range]
  refine Finset.sum_congr rfl fun f _ => ?_
  unfold partN
  rw [dif_pos (by omega), show (⟨512 * (t.val % 14) + f.val, by omega⟩ : Fin 7168) = colOf t f from Fin.ext (by show 512 * (t.val % 14) + f.val = t.val % 14 * 512 + f.val; omega)]
  unfold part up
  have h1 : ∑ e : Fin 2048, X e * b1 m hO c t (ix3 0 e f) = ∑ e : Fin 2048, aX m c (ix2 (row (blkOf t) r) e) * aW1 m c (ix3 (ex (aE m c) (blkOf t)) e (colOf t f)) :=
    Finset.sum_congr rfl fun e _ => congrArg₂ (· * ·) (hX e) (w1_at m hO c hE t hl e f)
  have h3 : ∑ e : Fin 2048, X e * b2 m hO c t (ix3 0 e f) = ∑ e : Fin 2048, aX m c (ix2 (row (blkOf t) r) e) * aW3 m c (ix3 (ex (aE m c) (blkOf t)) e (colOf t f)) :=
    Finset.sum_congr rfl fun e _ => congrArg₂ (· * ·) (hX e) (w3_at m hO c hE t hl e f)
  exact congrArg₂ (· * ·) (congrArg₂ (· * ·) (congrArg gated h1) h3) (w2_at m hO c hE t hl f d)

/-- What a point that works all rows adds. -/
theorem full_at (t : Pt) (hl : Live m c t) (o : Vec Ideal S1024x2048 .f32) (r : Fin 1024) (d : Fin 2048) :
    k0_pay2 (F := Ideal) (b0 m hO c t) (b1 m hO c t) (b2 m hO c t) o (b3 m hO c t) (ix2 r d)
      = o (ix2 r d) + ∑ f ∈ Finset.range 512, partN m c (blkOf t) r d (512 * (t.val % 14) + f) :=
  (pay2_at _ _ _ _ _ r d).trans (congrArg _ (chunk_sum m hO c hE t hl r d _ fun e => x_at m hO c t r e))

omit hE

theorem ld_lo {e : EltTy} (x : Vec Ideal S1024x2048 e) (r : Fin 1024) (h : r.val < 512) (d : Fin 2048) : View.ld x lo (ix2 (⟨r.val, h⟩ : Fin 512) d) = x (ix2 r d) := by
  refine View.ld_unit_apply_of _ _ _ _ _ _ fun i => ?_
  fin_cases i
  · exact (Nat.zero_add _).symm
  · exact (Nat.zero_add _).symm

include hE

/-- What a point that works the first half of the rows adds. -/
theorem half_at (t : Pt) (hl : Live m c t) (o : Vec Ideal S1024x2048 .f32) (r : Fin 1024) (d : Fin 2048) :
    halfAt (b0 m hO c t) (b1 m hO c t) (b2 m hO c t) (b3 m hO c t) o r d
      = if r.val < 512 then o (ix2 r d) + ∑ f ∈ Finset.range 512, partN m c (blkOf t) r d (512 * (t.val % 14) + f) else o (ix2 r d) := by
  unfold halfAt
  by_cases h : r.val < 512
  · rw [dif_pos h, if_pos h]
    refine (pay3_at _ _ _ _ _ _ d).trans ?_
    exact congrArg₂ (· + ·) (ld_lo o r h d) (chunk_sum m hO c hE t hl r d _ fun e => (ld_lo _ r h e).trans (x_at m hO c t r e))
  · rw [dif_neg h, if_neg h]

omit hE

/-- The number of halves in use, as a point's body reads it. -/
theorem halves_at (t : Pt) :
    tbM0_1.view.readAt (Elt Ideal) (Rect.unit (s := S53) (k0_off1 (grid0.coords t)) S1.size (k0_off1_inb (grid0.coords t))).toLoadRect (tbl m 1) (Shape.Idx.first (numel1_S1.symm ▸ Nat.one_pos))
      = aH m c (ix1 (blkOf t)) := by
  have h := firstIdeal (grid0.coords t) (numel1_S1.symm ▸ Nat.one_pos)
  rw [coords0] at h
  exact (congrFun (table1Ideal m c) _).trans (congrArg (aH m c) h)

theorem is_two (i : grid0.Coords) (v : BitVec 32) : cond0_1 i v ↔ v = 2#32 := by
  have e : ∀ b : Bool, Scalar.cmpi .ne ((Scalar.extui (BitVec.ofBool b) : BitVec 32)) 0#32 = 1#1 ↔ b = true := by decide
  exact (e (decide (v = 2#32))).trans decide_eq_true_iff

theorem is_one (i : grid0.Coords) (v : BitVec 32) : cond0_2 i v ↔ v = 1#32 := by
  have e : ∀ b : Bool, Scalar.cmpi .ne ((Scalar.extui (BitVec.ofBool b) : BitVec 32)) 0#32 = 1#1 ↔ b = true := by decide
  exact (e (decide (v = 1#32))).trans decide_eq_true_iff

/-- What a point adds to an entry of the accumulator. -/
def adds (t : Pt) (r : Fin 1024) (d : Fin 2048) : EReal :=
  if used (aH m c) (blkOf t) r then ∑ f ∈ Finset.range 512, partN m c (blkOf t) r d (512 * (t.val % 14) + f) else 0

/-- What an entry of the accumulator is after a point. -/
def upto (t : Pt) (r : Fin 1024) (d : Fin 2048) : EReal :=
  if used (aH m c) (blkOf t) r then ∑ n ∈ Finset.range (512 * (t.val % 14 + 1)), partN m c (blkOf t) r d n else 0

theorem upto_first (t : Pt) (h : t.val % 14 = 0) (r : Fin 1024) (d : Fin 2048) : k0_pay1 (F := Ideal) (ix2 r d) + adds m c t r d = upto m c t r d := by
  have hz : k0_pay1 (F := Ideal) (ix2 r d) = 0 := Ideal.ofBits_zero_f32
  rw [hz, zero_add]
  unfold adds upto
  rw [h]
  simp only [Nat.mul_zero, Nat.zero_add, Nat.mul_one]

/-- The point before. -/
abbrev prev (t : Pt) : Pt := ⟨t.val - 1, Nat.lt_of_le_of_lt (Nat.sub_le _ _) t.isLt⟩

theorem upto_next (t : Pt) (h : ¬t.val % 14 = 0) (r : Fin 1024) (d : Fin 2048) : upto m c (prev t) r d + adds m c t r d = upto m c t r d := by
  have hb : blkOf (prev t) = blkOf t := Fin.ext (by show (t.val - 1) / 14 = t.val / 14; omega)
  unfold adds upto
  rw [hb]
  by_cases hu : used (aH m c) (blkOf t) r
  · rw [if_pos hu, if_pos hu, if_pos hu]
    show (∑ n ∈ Finset.range (512 * ((t.val - 1) % 14 + 1)), partN m c (blkOf t) r d n) + _ = _
    rw [show (t.val - 1) % 14 + 1 = t.val % 14 by omega, show 512 * (t.val % 14 + 1) = 512 * (t.val % 14) + 512 by ring, Finset.sum_range_add]
  · rw [if_neg hu, if_neg hu, if_neg hu, add_zero]

theorem two_ne_one : ¬(2#32 : BitVec 32) = 1#32 := by decide

include hE

theorem full_adds (t : Pt) (h : aH m c (ix1 (blkOf t)) = 2#32) (o : Vec Ideal S1024x2048 .f32) (r : Fin 1024) (d : Fin 2048) :
    k0_pay2 (F := Ideal) (b0 m hO c t) (b1 m hO c t) (b2 m hO c t) o (b3 m hO c t) (ix2 r d) = o (ix2 r d) + adds m c t r d := by
  refine (full_at m hO c hE t (Or.inl h) o r d).trans ?_
  unfold adds
  rw [if_pos (show used (aH m c) (blkOf t) r from Or.inl h)]

theorem half_adds (t : Pt) (h : aH m c (ix1 (blkOf t)) = 1#32) (o : Vec Ideal S1024x2048 .f32) (r : Fin 1024) (d : Fin 2048) :
    halfAt (b0 m hO c t) (b1 m hO c t) (b2 m hO c t) (b3 m hO c t) o r d = o (ix2 r d) + adds m c t r d := by
  refine (half_at m hO c hE t (Or.inr h) o r d).trans ?_
  unfold adds
  by_cases hr : r.val < 512
  · rw [if_pos hr, if_pos (show used (aH m c) (blkOf t) r from Or.inr ⟨h, hr⟩)]
  · have hu : ¬used (aH m c) (blkOf t) r := fun hu => hu.elim (fun h2 => two_ne_one (h2.symm.trans h)) fun h1 => hr h1.2
    rw [if_neg hr, if_neg hu, add_zero]

omit hE

theorem none_adds (t : Pt) (h2 : ¬aH m c (ix1 (blkOf t)) = 2#32) (h1 : ¬aH m c (ix1 (blkOf t)) = 1#32) (r : Fin 1024) (d : Fin 2048) : adds m c t r d = 0 := by
  unfold adds
  exact if_neg fun hu => hu.elim h2 fun h => h1 h.1

theorem fst_of {α β : Type} {p : α × β} {a : α} {b : β} (h : p = (a, b)) : p.1 = a := by rw [h]
theorem snd_of {α β : Type} {p : α × β} {a : α} {b : β} (h : p = (a, b)) : p.2 = b := by rw [h]

/-- A point reads two as its block's number of halves, or one. -/
abbrev Two (t : Pt) : Prop := cond0_1 (grid0.coords t) (tbM0_1.view.readAt (Elt Ideal) (Rect.unit (s := S53) (k0_off1 (grid0.coords t)) S1.size (k0_off1_inb (grid0.coords t))).toLoadRect (tbl m 1) (Shape.Idx.first (numel1_S1.symm ▸ Nat.one_pos)))
abbrev One (t : Pt) : Prop := cond0_2 (grid0.coords t) (tbM0_1.view.readAt (Elt Ideal) (Rect.unit (s := S53) (k0_off1 (grid0.coords t)) S1.size (k0_off1_inb (grid0.coords t))).toLoadRect (tbl m 1) (Shape.Idx.first (numel1_S1.symm ▸ Nat.one_pos)))

/-- What the point before left in the accumulator. -/
abbrev acc (t : Pt) : Vec Ideal S1024x2048 .f32 := (outsAt0 m hO c (t.val - 1) (Nat.lt_of_le_of_lt (Nat.sub_le _ _) t.isLt)).2

theorem caseB (t : Pt) (h0 : t.val % 14 = 0) (h1 : Two m t) (h2 : ¬One m t) (h3 : ¬t.val % 14 = 13) (r : Fin 1024) (d : Fin 2048) :
    (outsAt0 m hO c t.val t.isLt).2 (ix2 r d) = k0_pay2 (F := Ideal) (b0 m hO c t) (b1 m hO c t) (b2 m hO c t) (k0_pay1 (F := Ideal)) (b3 m hO c t) (ix2 r d) :=
  (congrFun (snd_of (outsAt0_B m hO c t h0 h1 h2 h3)) (ix2 r d)).trans (congrFun (sout_B c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) (b0 m hO c t) (b1 m hO c t) (b2 m hO c t) (b3 m hO c t) (tbl m 0) (tbl m 1) ((hcond0_0 t).mpr h0) (fun h => h3 ((hcond0_3 t).mp h)) h1 h2) (ix2 r d))

theorem caseC (t : Pt) (h0 : t.val % 14 = 0) (h1 : ¬Two m t) (h2 : One m t) (h3 : ¬t.val % 14 = 13) (r : Fin 1024) (d : Fin 2048) :
    (outsAt0 m hO c t.val t.isLt).2 (ix2 r d) = halfAt (b0 m hO c t) (b1 m hO c t) (b2 m hO c t) (b3 m hO c t) (k0_pay1 (F := Ideal)) r d :=
  (congrFun (snd_of (outsAt0_C m hO c t h0 h1 h2 h3)) (ix2 r d)).trans (sout_C c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) (b0 m hO c t) (b1 m hO c t) (b2 m hO c t) (b3 m hO c t) (tbl m 0) (tbl m 1) ((hcond0_0 t).mpr h0) (fun h => h3 ((hcond0_3 t).mp h)) h1 h2 r d)

theorem caseD (t : Pt) (h0 : t.val % 14 = 0) (h1 : ¬Two m t) (h2 : ¬One m t) (h3 : ¬t.val % 14 = 13) (r : Fin 1024) (d : Fin 2048) :
    (outsAt0 m hO c t.val t.isLt).2 (ix2 r d) = (k0_pay1 (F := Ideal)) (ix2 r d) :=
  (congrFun (snd_of (outsAt0_D m hO c t h0 h1 h2 h3)) (ix2 r d)).trans (congrFun (sout_D c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) (b0 m hO c t) (b1 m hO c t) (b2 m hO c t) (b3 m hO c t) (tbl m 0) (tbl m 1) ((hcond0_0 t).mpr h0) (fun h => h3 ((hcond0_3 t).mp h)) h1 h2) (ix2 r d))

theorem caseF (t : Pt) (h0 : ¬t.val % 14 = 0) (h1 : Two m t) (h2 : ¬One m t) (h3 : ¬t.val % 14 = 13) (r : Fin 1024) (d : Fin 2048) :
    (outsAt0 m hO c t.val t.isLt).2 (ix2 r d) = k0_pay2 (F := Ideal) (b0 m hO c t) (b1 m hO c t) (b2 m hO c t) (acc m hO c t) (b3 m hO c t) (ix2 r d) :=
  (congrFun (snd_of (outsAt0_F m hO c t h0 h1 h2 h3)) (ix2 r d)).trans (congrFun (sout_F c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) (b0 m hO c t) (b1 m hO c t) (b2 m hO c t) (b3 m hO c t) (tbl m 0) (tbl m 1) (acc m hO c t) (fun h => h0 ((hcond0_0 t).mp h)) (fun h => h3 ((hcond0_3 t).mp h)) h1 h2) (ix2 r d))

theorem caseG (t : Pt) (h0 : ¬t.val % 14 = 0) (h1 : ¬Two m t) (h2 : One m t) (h3 : ¬t.val % 14 = 13) (r : Fin 1024) (d : Fin 2048) :
    (outsAt0 m hO c t.val t.isLt).2 (ix2 r d) = halfAt (b0 m hO c t) (b1 m hO c t) (b2 m hO c t) (b3 m hO c t) (acc m hO c t) r d :=
  (congrFun (snd_of (outsAt0_G m hO c t h0 h1 h2 h3)) (ix2 r d)).trans (sout_G c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) (b0 m hO c t) (b1 m hO c t) (b2 m hO c t) (b3 m hO c t) (tbl m 0) (tbl m 1) (acc m hO c t) (fun h => h0 ((hcond0_0 t).mp h)) (fun h => h3 ((hcond0_3 t).mp h)) h1 h2 r d)

theorem caseJ (t : Pt) (h0 : ¬t.val % 14 = 0) (h1 : Two m t) (h2 : ¬One m t) (h3 : t.val % 14 = 13) (r : Fin 1024) (d : Fin 2048) :
    (outsAt0 m hO c t.val t.isLt).1 (ix2 r d) = k0_pay2 (F := Ideal) (b0 m hO c t) (b1 m hO c t) (b2 m hO c t) (acc m hO c t) (b3 m hO c t) (ix2 r d) :=
  (congrFun (fst_of (outsAt0_J m hO c t h0 h1 h2 h3)) (ix2 r d)).trans (congrFun (out_J c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) (b0 m hO c t) (b1 m hO c t) (b2 m hO c t) (b3 m hO c t) (tbl m 0) (tbl m 1) (acc m hO c t) (fun h => h0 ((hcond0_0 t).mp h)) ((hcond0_3 t).mpr h3) h1 h2) (ix2 r d))

theorem caseK (t : Pt) (h0 : ¬t.val % 14 = 0) (h1 : ¬Two m t) (h2 : One m t) (h3 : t.val % 14 = 13) (r : Fin 1024) (d : Fin 2048) :
    (outsAt0 m hO c t.val t.isLt).1 (ix2 r d) = halfAt (b0 m hO c t) (b1 m hO c t) (b2 m hO c t) (b3 m hO c t) (acc m hO c t) r d :=
  (congrFun (fst_of (outsAt0_K m hO c t h0 h1 h2 h3)) (ix2 r d)).trans (out_K c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) (b0 m hO c t) (b1 m hO c t) (b2 m hO c t) (b3 m hO c t) (tbl m 0) (tbl m 1) (acc m hO c t) (fun h => h0 ((hcond0_0 t).mp h)) ((hcond0_3 t).mpr h3) h1 h2 r d)

theorem caseL (t : Pt) (h0 : ¬t.val % 14 = 0) (h1 : ¬Two m t) (h2 : ¬One m t) (h3 : t.val % 14 = 13) (r : Fin 1024) (d : Fin 2048) :
    (outsAt0 m hO c t.val t.isLt).1 (ix2 r d) = (acc m hO c t) (ix2 r d) :=
  (congrFun (fst_of (outsAt0_L m hO c t h0 h1 h2 h3)) (ix2 r d)).trans (congrFun (out_L c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) (b0 m hO c t) (b1 m hO c t) (b2 m hO c t) (b3 m hO c t) (tbl m 0) (tbl m 1) (acc m hO c t) (fun h => h0 ((hcond0_0 t).mp h)) ((hcond0_3 t).mpr h3) h1 h2) (ix2 r d))

/-- What the accumulator holds after a point, and the output block after a block's last point. -/
def Holds (t : Pt) (a : Vec Ideal S1024x2048 .bf16 × Vec Ideal S1024x2048 .f32) : Prop :=
  (¬t.val % 14 = 13 → ∀ r d, a.2 (ix2 r d) = upto m c t r d) ∧ (t.val % 14 = 13 → ∀ r d, a.1 (ix2 r d) = upto m c t r d)

include hE

theorem holds_first (t : Pt) (h0 : t.val % 14 = 0) : Holds m c t (outsAt0 m hO c t.val t.isLt) := by
  have h3 : ¬t.val % 14 = 13 := by omega
  refine ⟨fun _ r d => ?_, fun h => absurd h h3⟩
  rw [← upto_first m c t h0 r d]
  by_cases h2 : aH m c (ix1 (blkOf t)) = 2#32
  · have c1 : Two m t := (is_two (grid0.coords t) _).mpr ((halves_at m c t).trans h2)
    have c2 : ¬One m t := fun h => two_ne_one (h2.symm.trans ((halves_at m c t).symm.trans ((is_one (grid0.coords t) _).mp h)))
    exact (caseB m hO c t h0 c1 c2 h3 r d).trans (full_adds m hO c hE t h2 _ r d)
  · have c1 : ¬Two m t := fun h => h2 ((halves_at m c t).symm.trans ((is_two (grid0.coords t) _).mp h))
    by_cases h1 : aH m c (ix1 (blkOf t)) = 1#32
    · have c2 : One m t := (is_one (grid0.coords t) _).mpr ((halves_at m c t).trans h1)
      exact (caseC m hO c t h0 c1 c2 h3 r d).trans (half_adds m hO c hE t h1 _ r d)
    · have c2 : ¬One m t := fun h => h1 ((halves_at m c t).symm.trans ((is_one (grid0.coords t) _).mp h))
      rw [none_adds m c t h2 h1, add_zero]
      exact caseD m hO c t h0 c1 c2 h3 r d

theorem holds_next (t : Pt) (h0 : ¬t.val % 14 = 0) (hp : Holds m c (prev t) (outsAt0 m hO c (t.val - 1) (Nat.lt_of_le_of_lt (Nat.sub_le _ _) t.isLt))) :
    Holds m c t (outsAt0 m hO c t.val t.isLt) := by
  have hs := hp.1 (by show ¬(t.val - 1) % 14 = 13; omega)
  have hu := fun r d => (congrArg (· + adds m c t r d) (hs r d)).trans (upto_next m c t h0 r d)
  by_cases h2 : aH m c (ix1 (blkOf t)) = 2#32
  · have c1 : Two m t := (is_two (grid0.coords t) _).mpr ((halves_at m c t).trans h2)
    have c2 : ¬One m t := fun h => two_ne_one (h2.symm.trans ((halves_at m c t).symm.trans ((is_one (grid0.coords t) _).mp h)))
    refine ⟨fun h3 r d => ?_, fun h3 r d => ?_⟩
    · exact (caseF m hO c t h0 c1 c2 h3 r d).trans ((full_adds m hO c hE t h2 _ r d).trans (hu r d))
    · exact (caseJ m hO c t h0 c1 c2 h3 r d).trans ((full_adds m hO c hE t h2 _ r d).trans (hu r d))
  · have c1 : ¬Two m t := fun h => h2 ((halves_at m c t).symm.trans ((is_two (grid0.coords t) _).mp h))
    by_cases h1 : aH m c (ix1 (blkOf t)) = 1#32
    · have c2 : One m t := (is_one (grid0.coords t) _).mpr ((halves_at m c t).trans h1)
      refine ⟨fun h3 r d => ?_, fun h3 r d => ?_⟩
      · exact (caseG m hO c t h0 c1 c2 h3 r d).trans ((half_adds m hO c hE t h1 _ r d).trans (hu r d))
      · exact (caseK m hO c t h0 c1 c2 h3 r d).trans ((half_adds m hO c hE t h1 _ r d).trans (hu r d))
    · have c2 : ¬One m t := fun h => h1 ((halves_at m c t).symm.trans ((is_one (grid0.coords t) _).mp h))
      have hz := fun r d => (hu r d).symm.trans ((congrArg (_ + ·) (none_adds m c t h2 h1 r d)).trans (add_zero _))
      refine ⟨fun h3 r d => ?_, fun h3 r d => ?_⟩
      · exact (congrFun (snd_of (outsAt0_H m hO c t h0 c1 c2 h3)) (ix2 r d)).trans ((hz r d).symm)
      · exact (caseL m hO c t h0 c1 c2 h3 r d).trans ((hz r d).symm)

theorem holds : ∀ (n : ℕ) (hn : n < grid0.N), Holds m c ⟨n, hn⟩ (outsAt0 m hO c n hn)
  | 0, hn => holds_first m hO c hE ⟨0, hn⟩ rfl
  | n + 1, hn => by
    by_cases h0 : (n + 1) % 14 = 0
    · exact holds_first m hO c hE ⟨n + 1, hn⟩ h0
    · exact holds_next m hO c hE ⟨n + 1, hn⟩ h0 (holds n (Nat.lt_of_succ_lt hn))

/-- The reference's result of the same arguments. -/
abbrev goal : FVec Ideal S74752x2048 .bf16 := result (aX m c) (aE m c) (aH m c) (aW1 m c) (aW3 m c) (aW2 m c) (aY m c)

/-- The last point of a block leaves the reference's rows. -/
theorem last (t : Pt) (h : t.val % 14 = 13) (r : Fin 1024) (d : Fin 2048) (R : Fin 74752) (hR : R.val = (20 + t.val / 14) * 1024 + r.val) :
    (outsAt0 m hO c t.val t.isLt).1 (ix2 r d) = goal m c (ix2 R d) := by
  refine ((holds m hO c hE t.val t.isLt).2 h r d).trans (Eq.trans ?_ (result_hi _ _ _ _ _ _ _ (blkOf t) r d R hR).symm)
  unfold upto
  refine congrArg (fun a => if used (aH m c) (blkOf t) r then a else 0) ?_
  show ∑ n ∈ Finset.range (512 * (t.val % 14 + 1)), partN m c (blkOf t) r d n = _
  rw [h, show 512 * (13 + 1) = 7168 from rfl, Finset.sum_range]
  refine Finset.sum_congr rfl fun f _ => ?_
  unfold partN
  rw [dif_pos f.isLt]

omit hE

/-- The blocks written are the ones from the twentieth on. -/
theorem written : (pcfg0.win (adm m hO) 4).CoversWhere (fun β => 20 ≤ β (0 : Fin 2)) := by
  refine ⟨fun a => ?_, fun t hf => ⟨?_, fun a => Or.inl ?_⟩, fun β hβ => ?_⟩
  · fin_cases a
    · show 0 < 1024
      omega
    · show 0 < 2048
      omega
  · rw [idx4 m hO t]
    show 20 ≤ 20 + t.val / 14
    omega
  · rfl
  · have h0 : (β (0 : Fin 2)).val < 73 := lt_of_lt_of_eq (β (0 : Fin 2)).isLt (show (74752 + 1024 - 1) / 1024 = 73 by omega)
    have h1 : (β (1 : Fin 2)).val < 1 := lt_of_lt_of_eq (β (1 : Fin 2)).isLt (show (2048 + 2048 - 1) / 2048 = 1 by omega)
    have hq : 20 ≤ (β (0 : Fin 2)).val := hβ
    have hN : grid0.N = 742 := N_0
    obtain ⟨t, ht⟩ : ∃ t : Pt, t.val = ((β (0 : Fin 2)).val - 20) * 14 + 13 := ⟨⟨((β (0 : Fin 2)).val - 20) * 14 + 13, by rw [hN]; omega⟩, rfl⟩
    refine ⟨t, fun a => ?_, (flush0_4 (adm m hO) t).mpr (by omega)⟩
    rw [idx4 m hO t]
    fin_cases a
    · show 20 + t.val / 14 = (β (0 : Fin 2)).val
      omega
    · show 0 = (β (1 : Fin 2)).val
      omega

/-- The result array before the run holds the earlier rows. -/
theorem entry : V (F := Ideal) m c main_v0 = aY m c := by
  unfold V
  simp only [hostOps0]
  after_results_simp
  rfl

include hE

/-- The result array after the run. -/
theorem final : (dats m hO 0 c).arrAt 4 (cfgM m hO).N = goal m c := by
  refine ((dats m hO 0 c).arrAt_eq_of_coversWhere (P := fun i => 20 ≤ (i (0 : Fin 2)).val / 1024) 4 (goal m c) (fun β => 20 ≤ β (0 : Fin 2)) (written m hO) (fun t hf y => ?_) (fun j => Iff.rfl)).trans ?_
  · have ht : t.val % 14 = 13 := (flush0_4 (adm m hO) t).mp hf
    rw [after0_4]
    change S1024x2048.Idx at y
    obtain ⟨r, d, rfl⟩ : ∃ (r : Fin 1024) (d : Fin 2048), y = ix2 r d := ⟨y 0, y 1, by funext a; fin_cases a <;> rfl⟩
    have hb : t.val < 742 := lt_of_lt_of_eq t.isLt N_0
    refine (last m hO c hE t ht r d ⟨(20 + t.val / 14) * 1024 + r.val, by omega⟩ rfl).trans (congrArg (goal m c) ?_)
    have h := idx4 m hO t
    funext a
    fin_cases a
    · refine Fin.ext ?_
      blk_simp
      exact congrArg (fun n => n * 1024 + r.val) (congrFun h 0).symm
    · refine Fin.ext ?_
      blk_simp
      exact ((congrArg (fun n => n * 2048 + d.val) (congrFun h 1)).trans (by show 0 * 2048 + d.val = d.val; omega)).symm
  · funext i
    change S74752x2048.Idx at i
    obtain ⟨R, d, rfl⟩ : ∃ (R : Fin 74752) (d : Fin 2048), i = ix2 R d := ⟨i 0, i 1, by funext a; fin_cases a <;> rfl⟩
    by_cases hR : 20 ≤ R.val / 1024
    · exact if_pos hR
    · refine (if_neg hR).trans ?_
      refine (congrFun ((A_eq m hO c 4).trans (entry m c)) (ix2 R d)).trans ?_
      exact (result_lo _ _ _ _ _ _ _ R d (by omega)).symm

omit hE

/-- The run leaves the result array as computed, and the arguments as they were. -/
theorem run_blocks (g : Dev nD → PrngReg) : θ_run defs (onTc (τ := τ) (main (F := Ideal))) ⟨m, fun _ => 0, g⟩ fun r => ∀ c : Dev nD,
      r.2.mem ((c : Thread nD τ).loc main_v0) = (dats m hO 0 c).arrAt 4 (cfgM m hO).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1 4,
      ((h c).1 0).trans (((dats m hO 0 c).arrAt_in 0 rfl _).trans ((A_eq m hO c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).1 1).trans (((dats m hO 0 c).arrAt_in 1 rfl _).trans ((A_eq m hO c 1).trans (V_main_arg3 m c))),
      ((h c).1 2).trans (((dats m hO 0 c).arrAt_in 2 rfl _).trans ((A_eq m hO c 2).trans (V_main_arg4 m c))),
      ((h c).1 3).trans (((dats m hO 0 c).arrAt_in 3 rfl _).trans ((A_eq m hO c 3).trans (V_main_arg5 m c))),
      ((h c).2 main_arg6 (by decide : main_arg6 ∈ Pipeline.restRefs sig spec0)).trans (V_main_arg6 m c)⟩)
    (run_main m g hO)

end Cert.Experts

end
-- ==== Proof.Combine.lean ====
/- The last call: the residual, the two experts' rows under their gates, and the final norm. The kernel's result after the
   run is the reference's, of the same arguments. -/
module
public import Idealize.ShloMosaic.Lib.Pipeline.ValueKit
public import proofs.«01_k».proof.Proof.DenseMath
public import proofs.«01_k».proof.Proof.Gen.Kernel6Ideal.Value
public import proofs.«01_k».proof.Proof.Gen.Reference6Ideal.Run
import all proofs.«01_k».proof.Proof.Gen.Kernel6Ideal.Loops
import all proofs.«01_k».proof.Proof.Gen.Kernel6Ideal.Frame.RunA

@[expose] public section

set_option maxRecDepth 16384

noncomputable section

namespace Cert.Combine

open Cert.Soft Idealize.ShloMosaic Idealize.ShloMosaic.TcCoe Idealize.SL.Sem

/-- A row over its root mean square, times the gain. -/
def over (y g : Fin 2048 → EReal) (d : Fin 2048) : EReal :=
  y d * Ideal.rsqrt (Ideal.div (∑ e : Fin 2048, y e * y e) (Ideal.ofBits .f32 0x45000000#32) + Ideal.ofBits .f32 0x358637BD#32) * g d

/-- The residual's row of token `s` of batch `b`, behind the prefix. -/
def rowH (b : Fin 16) (s : Fin 2048) : Fin 33024 := ⟨b.val * 2064 + (16 + s.val), by omega⟩

/-- The experts' row of token `s` of batch `b`. -/
def rowY (b : Fin 16) (s : Fin 2048) : Fin 32768 := ⟨b.val * 2048 + s.val, by omega⟩

section Reference
open Cert.Reference6Ideal Cert.Reference6Ideal.Gen

variable (h : FVec Ideal S33024x2048 .f32) (y0 y1 : FVec Ideal S32768x2048 .bf16) (g0 g1 : FVec Ideal S32768x1 .f32) (g : FVec Ideal S2048 .f32)

/-- The residual and both experts' rows under their gates. -/
def sum (b : Fin 16) (s d : Fin 2048) : EReal :=
  h (ix2 (rowH b s) d) + g0 (ix2 (rowY b s) 0) * y0 (ix2 (rowY b s) d) + g1 (ix2 (rowY b s) 0) * y1 (ix2 (rowY b s) d)

/-- That sum, as the reference computes it. -/
def sumRef : FVec Ideal S16x2048x2048 .f32 :=
  addf (extractStridedSlice S16x2048x2048 ![0, 16, 0] (shapeCast _ h shapeCasts_S33024x2048_S16x2064x2048) slices_S16x2064x2048_S16x2048x2048_0_16_0) (shapeCast _ (addf (mulf (broadcastInDim S32768x2048 ![0, 1] bcast_S32768x1_S32768x2048_0_1 g0) (extf .f32 y0 bitsLt_bf16_f32)) (mulf (broadcastInDim S32768x2048 ![0, 1] bcast_S32768x1_S32768x2048_0_1 g1) (extf .f32 y1 bitsLt_bf16_f32))) shapeCasts_S32768x2048_S16x2048x2048)

/-- The norm of an array of rows, as the reference computes it. -/
def overRef (y : FVec Ideal S16x2048x2048 .f32) : FVec Ideal S16x2048x2048 .f32 :=
  mulf (mulf y (broadcastInDim S16x2048x2048 ![0, 1, 2] bcast_S16x2048x1_S16x2048x2048_0_1_2 (Host.rsqrt (addf (Host.divf (broadcastInDim S16x2048x1 ![0, 1] bcast_S16x2048_S16x2048x1_0_1 (Host.reduceAdd (mulf y y) (constant S_ .f32 0x00000000#32) reducesTo_S16x2048x2048_S16x2048_d2 h_S_)) (broadcastInDim S16x2048x1 ![] bcast_S_S16x2048x1 (constant S_ .f32 0x45000000#32))) (broadcastInDim S16x2048x1 ![] bcast_S_S16x2048x1 (constant S_ .f32 0x358637BD#32)))))) (broadcastInDim S16x2048x2048 ![0, 1, 2] bcast_S1x1x2048_S16x2048x2048_0_1_2 (broadcastInDim S1x1x2048 ![2] bcast_S2048_S1x1x2048_2 g))

/-- The reference's result. -/
def result : FVec Ideal S16x2048x2048 .f32 := overRef g (sumRef h y0 y1 g0 g1)

theorem sumRef_at (b : Fin 16) (s d : Fin 2048) : sumRef h y0 y1 g0 g1 (ix3 b s d) = sum h y0 y1 g0 g1 b s d := by
  unfold sum
  rw [add_assoc]
  unfold sumRef rowH rowY
  pointwise

theorem overRef_at (y : FVec Ideal S16x2048x2048 .f32) (b : Fin 16) (s d : Fin 2048) :
    overRef g y (ix3 b s d) = over (fun e => y (ix3 b s e)) (fun e => g (ix1 e)) d := by
  unfold overRef over
  pointwise

theorem result_at (b : Fin 16) (s d : Fin 2048) :
    result h y0 y1 g0 g1 g (ix3 b s d) = over (sum h y0 y1 g0 g1 b s) (fun e => g (ix1 e)) d :=
  (overRef_at g _ b s d).trans (congrArg (fun y => over y (fun e => g (ix1 e)) d) (funext fun e => sumRef_at h y0 y1 g0 g1 b s e))

end Reference

open Cert.Kernel6Ideal Cert.Kernel6Ideal.Gen Cert.Kernel6Ideal.Value
open Idealize.ShloMosaic.Pipeline (Dat)

/-- What a trip of the loop stores, entry by entry. -/
theorem pay1_at (g : Vec Ideal S1x2048 .f32) (h : Vec Ideal S1x16x2048 .f32) (g0 : Vec Ideal S16x1 .f32) (y0 : Vec Ideal S16x2048 .bf16) (g1 : Vec Ideal S16x1 .f32) (y1 : Vec Ideal S16x2048 .bf16)
    (r : Fin 16) (d : Fin 2048) :
    k0_pay1 (F := Ideal) g h g0 y0 g1 y1 (ix3 0 r d)
      = over (fun e => h (ix3 0 r e) + g0 (ix2 r 0) * y0 (ix2 r e) + g1 (ix2 r 0) * y1 (ix2 r e)) (fun e => g (ix2 0 e)) d := by
  unfold over
  pointwise [k0_pay1]

theorem hz2 : (![0, 0] : Fin 2 → ℕ) = fun _ => 0 := by funext a; fin_cases a <;> rfl

/-- One trip of the loop stores one block of 16 rows. -/
theorem trip_list (𝒱 : Variants) (c : Dev nD) (bd) (i : grid0.Coords) (a2 h2 a3 h3 a4 h4 a5 h5 a6 h6 a7 h7 a8 h8) (v : Vec Ideal S1x2048 .f32) (X2 X3 X4 X5 X6) (k) :
    tripL_k0_t1 (F := Ideal) 𝒱 c bd i a2 h2 a3 h3 a4 h4 a5 h5 a6 h6 a7 h7 a8 h8 v X2 X3 X4 X5 X6 k
      = [⟨Rect.unit (s := S1x256x2048) (k0_off1 k) S1x16x2048.size (k0_off1_inb k),
          k0_pay1 v (a2.view.readAt (Elt Ideal) (Rect.unit (s := S1x256x2048) (k0_off1 k) S1x16x2048.size (k0_off1_inb k)).toLoadRect X2)
            (a5.view.readAt (Elt Ideal) (Rect.unit (s := S256x1) (k0_off2 k) S16x1.size (k0_off2_inb k)).toLoadRect X5)
            (a3.view.readAt (Elt Ideal) (Rect.unit (s := S256x2048) (k0_off3 k) S16x2048.size (k0_off3_inb k)).toLoadRect X3)
            (a6.view.readAt (Elt Ideal) (Rect.unit (s := S256x1) (k0_off2 k) S16x1.size (k0_off2_inb k)).toLoadRect X6)
            (a4.view.readAt (Elt Ideal) (Rect.unit (s := S256x2048) (k0_off3 k) S16x2048.size (k0_off3_inb k)).toLoadRect X4)⟩] := by
  unfold tripL_k0_t1 trip_k0_t1
  rfl

/-- Every piece stored by the trips before `n` agrees with `G`, when each trip's block does. -/
theorem pieces_of_trips (𝒱 : Variants) (c : Dev nD) (bd) (i : grid0.Coords) (a2 h2 a3 h3 a4 h4 a5 h5 a6 h6 a7 h7 a8 h8) (v : Vec Ideal S1x2048 .f32) (X2 X3 X4 X5 X6)
    (G : S1x256x2048.Idx → EReal)
    (hG : ∀ (k : Fin k0_t1_loop.trips) (x : S1x16x2048.Idx), k0_pay1 (F := Ideal) v (a2.view.readAt (Elt Ideal) (Rect.unit (s := S1x256x2048) (k0_off1 k) S1x16x2048.size (k0_off1_inb k)).toLoadRect X2)
            (a5.view.readAt (Elt Ideal) (Rect.unit (s := S256x1) (k0_off2 k) S16x1.size (k0_off2_inb k)).toLoadRect X5)
            (a3.view.readAt (Elt Ideal) (Rect.unit (s := S256x2048) (k0_off3 k) S16x2048.size (k0_off3_inb k)).toLoadRect X3)
            (a6.view.readAt (Elt Ideal) (Rect.unit (s := S256x1) (k0_off2 k) S16x1.size (k0_off2_inb k)).toLoadRect X6)
            (a4.view.readAt (Elt Ideal) (Rect.unit (s := S256x2048) (k0_off3 k) S16x2048.size (k0_off3_inb k)).toLoadRect X4) x
      = G ((Rect.unit (s := S1x256x2048) (k0_off1 k) S1x16x2048.size (k0_off1_inb k)).emb x)) :
    ∀ n : ℕ, n ≤ k0_t1_loop.trips → ∀ p ∈ pb_k0_t1 (F := Ideal) 𝒱 c bd i a2 h2 a3 h3 a4 h4 a5 h5 a6 h6 a7 h7 a8 h8 v X2 X3 X4 X5 X6 n, ∀ x : p.1.shape.Idx, p.2 x = G (p.1.emb x)
  | 0, _, p, hp, _ => absurd hp List.not_mem_nil
  | n + 1, hn, p, hp, x => by
    have hs := pb_k0_t1_succ (F := Ideal) 𝒱 c bd i a2 h2 a3 h3 a4 h4 a5 h5 a6 h6 a7 h7 a8 h8 v X2 X3 X4 X5 X6 ⟨n, hn⟩
    rw [trip_list] at hs
    have hp' := hs ▸ hp
    rcases List.mem_append.mp hp' with hp' | hp'
    · obtain rfl := List.mem_singleton.mp hp'
      exact hG ⟨n, hn⟩ x
    · exact pieces_of_trips 𝒱 c bd i a2 h2 a3 h3 a4 h4 a5 h5 a6 h6 a7 h7 a8 h8 v X2 X3 X4 X5 X6 G hG n (Nat.le_of_succ_le hn) p hp' x

/-- A point's output block, given what each block of 16 rows holds. -/
theorem out_A (c : Dev nD) (i : grid0.Coords) (a2 h2 a3 h3 a4 h4 a5 h5 a6 h6 a7 h7 a8 h8) (x0 : Vec Ideal S1x256x2048 .f32) (x1 x2 : Vec Ideal S256x2048 .bf16) (x3 x4 : Vec Ideal S256x1 .f32) (x5 : Vec Ideal S1x2048 .f32)
    (G : S1x256x2048.Idx → EReal)
    (hG : ∀ (k : Fin k0_t1_loop.trips) (x : S1x16x2048.Idx), k0_pay1 (F := Ideal) x5 (View.ld x0 (Rect.unit (s := S1x256x2048) (k0_off1 k) S1x16x2048.size (k0_off1_inb k)))
            (View.ld x3 (Rect.unit (s := S256x1) (k0_off2 k) S16x1.size (k0_off2_inb k)))
            (View.ld x1 (Rect.unit (s := S256x2048) (k0_off3 k) S16x2048.size (k0_off3_inb k)))
            (View.ld x4 (Rect.unit (s := S256x1) (k0_off2 k) S16x1.size (k0_off2_inb k)))
            (View.ld x2 (Rect.unit (s := S256x2048) (k0_off3 k) S16x2048.size (k0_off3_inb k))) x
      = G ((Rect.unit (s := S1x256x2048) (k0_off1 k) S1x16x2048.size (k0_off1_inb k)).emb x)) (y) :
    out0_A_6 (F := Ideal) c i a2 h2 a3 h3 a4 h4 a5 h5 a6 h6 a7 h7 a8 h8 x0 x1 x2 x3 x4 x5 y = G y := by
  have hcov := cover0_A_6 (F := Ideal) c i a2 h2 a3 h3 a4 h4 a5 h5 a6 h6 a7 h7 a8 h8 x0 x1 x2 x3 x4 x5 y
  have he : (kernelRun0_A (F := Ideal) c i a2 h2 a3 h3 a4 h4 a5 h5 a6 h6 a7 h7 a8 h8 x0 x1 x2 x3 x4 x5).1
      = pb_k0_t1 (F := Ideal) Variants.none c none i a2 h2 a3 h3 a4 h4 a5 h5 a6 h6 a7 h7 a8 h8 x5 (h2.unread x0) (h3.unread x1) (h4.unread x2) (h5.unread x3) (h6.unread x4) k0_t1_loop.trips := by
    unfold kernelRun0_A
    dsimp only
    simp only [View.readAt_eq_ld, h7.read_unread, View.ld_unit_zero (S := S1x2048) hz2]
  rw [he] at hcov
  frame_out
  refine View.canon_apply_of_pieces (Val := Elt Ideal) (e := .f32) G _ ?_ y hcov
  refine pieces_of_trips Variants.none c none i a2 h2 a3 h3 a4 h4 a5 h5 a6 h6 a7 h7 a8 h8 x5 (h2.unread x0) (h3.unread x1) (h4.unread x2) (h5.unread x3) (h6.unread x4) G (fun k x => ?_) _ le_rfl
  rw [View.readAt_eq_ld, View.readAt_eq_ld, View.readAt_eq_ld, View.readAt_eq_ld, View.readAt_eq_ld, h2.read_unread, h3.read_unread, h4.read_unread, h5.read_unread, h6.read_unread]
  exact hG k x

theorem idx : ∀ t : Fin cfg0.N,
    win0_0.index t = ![t.val / 8, 16 + t.val % 8 * 256, 0] ∧ win0_1.index t = ![t.val, 0] ∧ win0_2.index t = ![t.val, 0] ∧ win0_3.index t = ![t.val, 0]
    ∧ win0_4.index t = ![t.val, 0] ∧ win0_5.index t = ![0, 0] ∧ win0_6.index t = ![t.val / 8, t.val % 8, 0] :=
  (by decide +kernel : ∀ t : Fin grid0.N, _)

theorem lt_N (t : Fin cfg0.N) : t.val < 128 := lt_of_lt_of_eq t.isLt N_0

variable (m : (ℓ : Loc nD τ sig) → Buf (Elt Ideal) ℓ) (c : Dev nD)

/-- The arguments: the residual, the experts' rows and gates, the gain. -/
abbrev aH : FVec Ideal S33024x2048 .f32 := m ((c : Thread nD τ).loc main_arg0)
abbrev aY0 : FVec Ideal S32768x2048 .bf16 := m ((c : Thread nD τ).loc main_arg1)
abbrev aY1 : FVec Ideal S32768x2048 .bf16 := m ((c : Thread nD τ).loc main_arg2)
abbrev aG0 : FVec Ideal S32768x1 .f32 := m ((c : Thread nD τ).loc main_arg3)
abbrev aG1 : FVec Ideal S32768x1 .f32 := m ((c : Thread nD τ).loc main_arg4)
abbrev aG : FVec Ideal S2048 .f32 := m ((c : Thread nD τ).loc main_arg5)

/-- A point's batch, and the token that row `r` of its block is. -/
def bat (t : Fin cfg0.N) : Fin 16 := ⟨t.val / 8, by have := lt_N t; omega⟩
def tok (t : Fin cfg0.N) (r : Fin 256) : Fin 2048 := ⟨t.val % 8 * 256 + r.val, by omega⟩

theorem hHost (b : Fin 16) (s : Fin 2064) (d : Fin 2048) : (V (F := Ideal) m c main_v0 : FVec Ideal S16x2064x2048 .f32) (ix3 b s d) = aH m c (ix2 ⟨b.val * 2064 + s.val, by omega⟩ d) := by
  unfold V
  simp only [hostOps0]
  after_results_simp
  pointwise

theorem gHost (d : Fin 2048) : (V (F := Ideal) m c main_v1 : FVec Ideal S1x2048 .f32) (ix2 0 d) = aG m c (ix1 d) := by
  unfold V
  simp only [hostOps0]
  after_results_simp
  pointwise

theorem hRead (X : FVec Ideal S16x2064x2048 .f32) (t : Fin cfg0.N) (r : Fin 256) (d : Fin 2048) :
    View.read (Elt Ideal) ((cfg0.win 0).blk t).view X (ix3 0 r d) = X (ix3 (bat t) ⟨16 + (tok t r).val, by omega⟩ d) := by
  have h := (idx t).1
  refine congrArg X (funext fun a => Fin.ext ?_)
  fin_cases a
  · show win0_0.index t 0 + 1 * 0 = t.val / 8
    exact congrFun h 0
  · show win0_0.index t 1 + 1 * r.val = 16 + (t.val % 8 * 256 + r.val)
    have h1 : win0_0.index t 1 = 16 + t.val % 8 * 256 := congrFun h 1
    omega
  · show win0_0.index t 2 + 1 * d.val = d.val
    have h2 : win0_0.index t 2 = 0 := congrFun h 2
    omega

theorem gRead (X : FVec Ideal S1x2048 .f32) (t : Fin cfg0.N) (d : Fin 2048) :
    View.read (Elt Ideal) ((cfg0.win 5).blk t).view X (ix2 0 d) = X (ix2 0 d) := by
  blk_ext [idx t]

theorem h_at (t : Fin cfg0.N) (r : Fin 256) (d : Fin 2048) : (iblk m c 0 t : FVec Ideal S1x256x2048 .f32) (ix3 0 r d) = aH m c (ix2 (rowH (bat t) (tok t r)) d) := by
  unfold iblk
  exact (hRead (V (F := Ideal) m c main_v0) t r d).trans (hHost m c _ _ d)

theorem g_at (t : Fin cfg0.N) (d : Fin 2048) : (iblk m c 5 t : FVec Ideal S1x2048 .f32) (ix2 0 d) = aG m c (ix1 d) := by
  unfold iblk
  exact (gRead (V (F := Ideal) m c main_v1) t d).trans (gHost m c d)

theorem rowY_eq (t : Fin cfg0.N) (r : Fin 256) : rowY (bat t) (tok t r) = ⟨t.val * 256 + r.val, by have := lt_N t; omega⟩ :=
  Fin.ext (by show t.val / 8 * 2048 + (t.val % 8 * 256 + r.val) = t.val * 256 + r.val; omega)

theorem y0_at (t : Fin cfg0.N) (r : Fin 256) (d : Fin 2048) : (iblk m c 1 t : FVec Ideal S256x2048 .bf16) (ix2 r d) = aY0 m c (ix2 (rowY (bat t) (tok t r)) d) := by
  rw [rowY_eq]
  blk_ext [iblk, V, idx t]
theorem y1_at (t : Fin cfg0.N) (r : Fin 256) (d : Fin 2048) : (iblk m c 2 t : FVec Ideal S256x2048 .bf16) (ix2 r d) = aY1 m c (ix2 (rowY (bat t) (tok t r)) d) := by
  rw [rowY_eq]
  blk_ext [iblk, V, idx t]
theorem g0_at (t : Fin cfg0.N) (r : Fin 256) : (iblk m c 3 t : FVec Ideal S256x1 .f32) (ix2 r 0) = aG0 m c (ix2 (rowY (bat t) (tok t r)) 0) := by
  rw [rowY_eq]
  blk_ext [iblk, V, idx t]
theorem g1_at (t : Fin cfg0.N) (r : Fin 256) : (iblk m c 4 t : FVec Ideal S256x1 .f32) (ix2 r 0) = aG1 m c (ix2 (rowY (bat t) (tok t r)) 0) := by
  rw [rowY_eq]
  blk_ext [iblk, V, idx t]

/-- A load of 16 rows of a block, at a row and a column of it. -/
theorem ld_rows {e : EltTy} {n : ℕ} (x : (⟨2, ![256, n]⟩ : Shape).Idx → Elt Ideal e) (o : Fin 2 → ℕ) (k : ℕ) (ho : o = ![k, 0]) (hr) (a : Fin 16) (l : Fin n) (b : Fin 256)
    (hb : b.val = k + a.val) : View.ld (Val := Elt Ideal) (e' := e) x (Rect.unit (s := ⟨2, ![256, n]⟩) o (⟨2, ![16, n]⟩ : Shape).size hr) (ix2 a l) = x (ix2 b l) := by
  subst ho
  refine View.ld_unit_apply_of _ _ _ _ _ _ fun i => ?_
  fin_cases i
  · exact hb
  · exact (Nat.zero_add _).symm

theorem ld_rows3 (x : Vec Ideal S1x256x2048 .f32) (o : Fin 3 → ℕ) (k : ℕ) (ho : o = ![0, k, 0]) (hr : ∀ i, o i + S1x16x2048.size i ≤ S1x256x2048.size i) (a : Fin 16) (l : Fin 2048) (b : Fin 256)
    (hb : b.val = k + a.val) : View.ld x (Rect.unit (s := S1x256x2048) o S1x16x2048.size hr) (ix3 0 a l) = x (ix3 0 b l) := by
  subst ho
  refine View.ld_unit_apply_of _ _ _ _ _ _ fun i => ?_
  fin_cases i
  · rfl
  · exact hb
  · exact (Nat.zero_add _).symm

theorem emb_rows3 (o : Fin 3 → ℕ) (k : ℕ) (ho : o = ![0, k, 0]) (hr : ∀ i, o i + S1x16x2048.size i ≤ S1x256x2048.size i) (a : Fin 16) (l : Fin 2048) (b : Fin 256)
    (hb : b.val = k + a.val) : (Rect.unit (s := S1x256x2048) o S1x16x2048.size hr).emb (ix3 0 a l) = ix3 0 b l := by
  subst ho
  funext i
  fin_cases i
  · rfl
  · exact Fin.ext (by show k + 1 * a.val = b.val; omega)
  · exact Fin.ext (by show 0 + 1 * l.val = l.val; omega)

/-- The reference's result, of the kernel's arguments. -/
abbrev res : FVec Ideal S16x2048x2048 .f32 := result (aH m c) (aY0 m c) (aY1 m c) (aG0 m c) (aG1 m c) (aG m c)

/-- A point leaves the reference's block. -/
theorem out_at (t : Fin cfg0.N) (r : Fin 256) (d : Fin 2048) : outsAt0 m c t (ix3 0 r d) = res m c (ix3 (bat t) (tok t r) d) := by
  unfold outsAt0
  refine out_A c (grid0.coords t) _ _ _ _ _ _ _ _ _ _ _ _ _ _ _ _ _ _ _ _ (fun y => res m c (ix3 (bat t) (tok t (y 1)) (y 2))) (fun k x => ?_) (ix3 0 r d)
  change S1x16x2048.Idx at x
  obtain ⟨a, l, rfl⟩ : ∃ (a : Fin 16) (l : Fin 2048), x = ix3 0 a l := ⟨x 1, x 2, by
    funext i
    fin_cases i
    · exact Fin.ext (by have := (x 0).isLt; show (x 0).val = 0; exact Nat.lt_one_iff.mp this)
    · rfl
    · rfl⟩
  have hk : k.val < 16 := k.isLt
  rw [emb_rows3 _ (16 * k.val) (k0_off1_eq k) _ a l ⟨16 * k.val + a.val, by omega⟩ rfl]
  refine (pay1_at _ _ _ _ _ _ a l).trans ?_
  refine Eq.trans ?_ (result_at _ _ _ _ _ _ _ _ _).symm
  refine congrArg₂ (fun y g => over y g l) (funext fun e => ?_) (funext fun e => g_at m c t e)
  refine congrArg₂ (· + ·) (congrArg₂ (· + ·) ?_ (congrArg₂ (· * ·) ?_ ?_)) (congrArg₂ (· * ·) ?_ ?_)
  · exact (ld_rows3 _ _ (16 * k.val) (k0_off1_eq k) _ a e ⟨16 * k.val + a.val, by omega⟩ rfl).trans (h_at m c t _ e)
  · exact (ld_rows (e := .f32) _ _ (16 * k.val) (k0_off2_eq k) _ a 0 ⟨16 * k.val + a.val, by omega⟩ rfl).trans (g0_at m c t _)
  · exact (ld_rows (e := .bf16) _ _ (16 * k.val) (k0_off3_eq k) _ a e ⟨16 * k.val + a.val, by omega⟩ rfl).trans (y0_at m c t _ e)
  · exact (ld_rows (e := .f32) _ _ (16 * k.val) (k0_off2_eq k) _ a 0 ⟨16 * k.val + a.val, by omega⟩ rfl).trans (g1_at m c t _)
  · exact (ld_rows (e := .bf16) _ _ (16 * k.val) (k0_off3_eq k) _ a e ⟨16 * k.val + a.val, by omega⟩ rfl).trans (y1_at m c t _ e)

/-- The result array after the run. -/
theorem final : (dats m 0 c).arrAt 6 cfg0.N = res m c := by
  refine (dats m 0 c).arrAt_eq_of_covers 6 _ (by decide +kernel) fun t hf y => ?_
  blk_simp
  rw [after0_6]
  change S1x256x2048.Idx at y
  obtain ⟨r, d, rfl⟩ : ∃ (r : Fin 256) (d : Fin 2048), y = ix3 0 r d := ⟨y 1, y 2, by
    funext i
    fin_cases i
    · exact Fin.ext (by have := (y 0).isLt; show (y 0).val = 0; exact Nat.lt_one_iff.mp this)
    · rfl
    · rfl⟩
  refine (out_at m c t r d).trans ?_
  unfold bat tok
  blk_ext [idx t]

end Cert.Combine

end
-- ==== Proof.ShortConv.lean ====
/- The short gated convolution: a width-3 convolution along each batch's positions, between two gates. The kernel's result
   after the run is the reference's, of the same arguments. -/
module
public import Idealize.ShloMosaic.Lib.KernelVsHost
public import Idealize.ShloMosaic.Lib.Pipeline.ValueKit
public import proofs.«01_k».proof.Proof.DenseMath
public import proofs.«01_k».proof.Proof.Gen.Kernel7Ideal.Value
public import proofs.«01_k».proof.Proof.Gen.Reference7Ideal.Run

@[expose] public section

set_option maxRecDepth 16384

noncomputable section

namespace Cert.ShortConv

open Cert.Soft Idealize.ShloMosaic Idealize.ShloMosaic.TcCoe Idealize.SL.Sem

/-- The entry before position `s`, zero before the first, and the one after it, zero after the last. -/
def prev (z : Fin 2064 → EReal) (s : Fin 2064) : EReal := if s.val = 0 then 0 else z ⟨s.val - 1, by omega⟩
def next (z : Fin 2064 → EReal) (s : Fin 2064) : EReal := if h : s.val = 2063 then 0 else z ⟨s.val + 1, by omega⟩

theorem next_last (z : Fin 2064 → EReal) (s : Fin 2064) (h : s.val = 2063) : next z s = 0 := by
  unfold next
  rw [dif_pos h]

theorem next_in (z : Fin 2064 → EReal) (s : Fin 2064) (h : s.val ≠ 2063) : next z s = z ⟨s.val + 1, by omega⟩ := by
  unfold next
  rw [dif_neg h]

/-- Three neighbouring entries under the weights. -/
def conv (z : Fin 2064 → EReal) (w : Fin 3 → EReal) (s : Fin 2064) : EReal := prev z s * w 0 + z s * w 1 + next z s * w 2

/-- The row of position `s` of batch `b`. -/
def row (b : Fin 16) (s : Fin 2064) : Fin 33024 := ⟨b.val * 2064 + s.val, by omega⟩

section Reference
open Cert.Reference7Ideal Cert.Reference7Ideal.Gen

variable (p : FVec Ideal S33024x12288 .bf16) (w : FVec Ideal S3x512 .f32)

/-- The result at position `s` of batch `b`. -/
def val (b : Fin 16) (s : Fin 2064) (d : Fin 512) : EReal :=
  p (ix2 (row b s) ⟨3072 + d.val, by omega⟩)
    * conv (fun s => p (ix2 (row b s) ⟨3584 + d.val, by omega⟩) * p (ix2 (row b s) ⟨4096 + d.val, by omega⟩)) (fun k => w (ix2 k d)) s

/-- The outer gate and the product that is convolved, as the reference has them. -/
def gRef : FVec Ideal S16x2064x512 .f32 :=
  shapeCast _ (extf .f32 (extractStridedSlice S33024x512 ![0, 3072] p slices_S33024x12288_S33024x512_0_3072) bitsLt_bf16_f32) shapeCasts_S33024x512_S16x2064x512
def zRef : FVec Ideal S16x2064x512 .f32 :=
  mulf (shapeCast _ (extf .f32 (extractStridedSlice S33024x512 ![0, 3584] p slices_S33024x12288_S33024x512_0_3584) bitsLt_bf16_f32) shapeCasts_S33024x512_S16x2064x512) (shapeCast _ (extf .f32 (extractStridedSlice S33024x512 ![0, 4096] p slices_S33024x12288_S33024x512_0_4096) bitsLt_bf16_f32) shapeCasts_S33024x512_S16x2064x512)

/-- An array with a zero before and after each batch's positions. -/
def padRef (z : FVec Ideal S16x2064x512 .f32) : FVec Ideal S16x2066x512 .f32 :=
  pad S16x2066x512 ![0, 1, 0] ![0, 1, 0] ![0, 0, 0] z (sitofp .f32 (constantI S_ 32 0#32) : FVec Ideal S_ .f32) pads_S16x2064x512_S16x2066x512_000_110_000 h_S_

/-- The result from the gate and the padded product, as the reference computes it. -/
def outRef (g : FVec Ideal S16x2064x512 .f32) (z : FVec Ideal S16x2066x512 .f32) : FVec Ideal S33024x512 .bf16 :=
  truncf .bf16 (shapeCast _ (mulf g (addf (addf (mulf (extractStridedSlice S16x2064x512 ![0, 0, 0] z slices_S16x2066x512_S16x2064x512_0_0_0) (broadcastInDim S16x2064x512 ![0, 1, 2] bcast_S1x1x512_S16x2064x512_0_1_2 (broadcastInDim S1x1x512 ![2] bcast_S512_S1x1x512_2 (shapeCast _ (extractStridedSlice S1x512 ![0, 0] w slices_S3x512_S1x512_0_0) shapeCasts_S1x512_S512)))) (mulf (extractStridedSlice S16x2064x512 ![0, 1, 0] z slices_S16x2066x512_S16x2064x512_0_1_0) (broadcastInDim S16x2064x512 ![0, 1, 2] bcast_S1x1x512_S16x2064x512_0_1_2 (broadcastInDim S1x1x512 ![2] bcast_S512_S1x1x512_2 (shapeCast _ (extractStridedSlice S1x512 ![1, 0] w slices_S3x512_S1x512_1_0) shapeCasts_S1x512_S512))))) (mulf (extractStridedSlice S16x2064x512 ![0, 2, 0] z slices_S16x2066x512_S16x2064x512_0_2_0) (broadcastInDim S16x2064x512 ![0, 1, 2] bcast_S1x1x512_S16x2064x512_0_1_2 (broadcastInDim S1x1x512 ![2] bcast_S512_S1x1x512_2 (shapeCast _ (extractStridedSlice S1x512 ![2, 0] w slices_S3x512_S1x512_2_0) shapeCasts_S1x512_S512)))))) shapeCasts_S16x2064x512_S33024x512 : FVec Ideal S33024x512 .f32) bitsLt_bf16_f32

/-- The reference's result. -/
def result : FVec Ideal S33024x512 .bf16 := outRef w (gRef p) (padRef (zRef p))

theorem gRef_at (b : Fin 16) (s : Fin 2064) (d : Fin 512) : gRef p (ix3 b s d) = p (ix2 (row b s) ⟨3072 + d.val, by omega⟩) := by
  unfold gRef row
  pointwise

theorem zRef_at (b : Fin 16) (s : Fin 2064) (d : Fin 512) :
    zRef p (ix3 b s d) = p (ix2 (row b s) ⟨3584 + d.val, by omega⟩) * p (ix2 (row b s) ⟨4096 + d.val, by omega⟩) := by
  unfold zRef row
  pointwise

theorem padRef_in (z : FVec Ideal S16x2064x512 .f32) (b : Fin 16) (q : Fin 2066) (s : Fin 2064) (d : Fin 512) (h : q.val = 1 + s.val) : padRef z (ix3 b q d) = z (ix3 b s d) := by
  refine pad_apply_of_inside _ _ _ z _ _ _ (ix3 b q d) (ix3 b s d) fun a => ?_
  fin_cases a
  · show b.val = 0 + b.val * (0 + 1); omega
  · show q.val = 1 + s.val * (0 + 1); omega
  · show d.val = 0 + d.val * (0 + 1); omega

theorem padRef_out (z : FVec Ideal S16x2064x512 .f32) (b : Fin 16) (q : Fin 2066) (d : Fin 512) (h : q.val = 0 ∨ q.val = 2065) : padRef z (ix3 b q d) = 0 := by
  refine (pad_apply_of_not_inside _ _ _ z _ _ _ (ix3 b q d) 1 ?_).trans ?_
  · show ¬(1 ≤ q.val ∧ (q.val - 1) % (0 + 1) = 0 ∧ (q.val - 1) / (0 + 1) < 2064)
    omega
  · show (((0#32 : BitVec 32).toInt : ℝ) : EReal) = 0
    simp

theorem outRef_at (g : FVec Ideal S16x2064x512 .f32) (z : FVec Ideal S16x2066x512 .f32) (b : Fin 16) (s : Fin 2064) (d : Fin 512) :
    outRef w g z (ix2 (row b s) d) = g (ix3 b s d) * (z (ix3 b ⟨s.val, by omega⟩ d) * w (ix2 0 d) + z (ix3 b ⟨1 + s.val, by omega⟩ d) * w (ix2 1 d) + z (ix3 b ⟨2 + s.val, by omega⟩ d) * w (ix2 2 d)) := by
  unfold outRef row
  pointwise

theorem result_at (b : Fin 16) (s : Fin 2064) (d : Fin 512) : result p w (ix2 (row b s) d) = val p w b s d := by
  unfold result val conv
  refine (outRef_at w _ _ b s d).trans ?_
  refine congrArg₂ (· * ·) (gRef_at p b s d) (congrArg₂ (· + ·) (congrArg₂ (· + ·) (congrArg (· * _) ?_) (congrArg (· * _) ?_)) (congrArg (· * _) ?_))
  · unfold prev
    by_cases h : s.val = 0
    · exact (padRef_out _ b _ d (Or.inl h)).trans (if_pos h).symm
    · exact ((padRef_in _ b _ ⟨s.val - 1, by omega⟩ d (by show s.val = 1 + (s.val - 1); omega)).trans (zRef_at p b _ d)).trans (if_neg h).symm
  · exact (padRef_in _ b _ s d rfl).trans (zRef_at p b s d)
  · by_cases h : s.val = 2063
    · exact (padRef_out _ b _ d (Or.inr (by show 2 + s.val = 2065; omega))).trans (next_last _ s h).symm
    · rw [next_in _ s h]
      exact (padRef_in _ b _ ⟨s.val + 1, by omega⟩ d (by show 2 + s.val = 1 + (s.val + 1); omega)).trans (zRef_at p b _ d)

end Reference

open Cert.Kernel7Ideal Cert.Kernel7Ideal.Gen Cert.Kernel7Ideal.Value
open Idealize.ShloMosaic.Pipeline (Dat)

/-- A rotation by one position, and one by all but one, read at a position that no entry wraps to. -/
theorem rot_prev (z : FVec Ideal S2064x512 .f32) (s : Fin 2064) (d : Fin 512) (h : s.val ≠ 0) :
    dynamicRotate 0 1#32 none z rotates_S2064x512_d0 (ix2 s d) = z (ix2 ⟨s.val - 1, by omega⟩ d) := by
  refine dynamicRotate_apply 0 _ z _ _ _ fun a => ?_
  fin_cases a
  · show s.val - 1 = (s.val + 2064 - 1 % 2064) % 2064
    omega
  · rfl

theorem rot_next (z : FVec Ideal S2064x512 .f32) (s : Fin 2064) (d : Fin 512) (h : s.val ≠ 2063) :
    dynamicRotate 0 2063#32 none z rotates_S2064x512_d0 (ix2 s d) = z (ix2 ⟨s.val + 1, by omega⟩ d) := by
  refine dynamicRotate_apply 0 _ z _ _ _ fun a => ?_
  fin_cases a
  · show s.val + 1 = (s.val + 2064 - 2063 % 2064) % 2064
    omega
  · rfl

theorem at_first : ∀ s : Fin 2064, IntOp.cmpi CmpIPredicate.eq (BitVec.ofNat 32 s.val) 0#32 = BitVec.ofBool (decide (s.val = 0)) := by decide +kernel
theorem at_last : ∀ s : Fin 2064, IntOp.cmpi CmpIPredicate.eq (BitVec.ofNat 32 s.val) 2063#32 = BitVec.ofBool (decide (s.val = 2063)) := by decide +kernel

theorem pay1_at (c u g : FVec Ideal S2064x512 .bf16) (w : FVec Ideal S3x512 .f32) (s : Fin 2064) (d : Fin 512) :
    k0_pay1 (F := Ideal) c u g w (ix2 s d) = g (ix2 s d) * conv (fun s => c (ix2 s d) * u (ix2 s d)) (fun k => w (ix2 k d)) s := by
  have e1 := rot_prev (mulf (extf .f32 c bitsLt_bf16_f32) (extf .f32 u bitsLt_bf16_f32)) s d
  have e2 := rot_next (mulf (extf .f32 c bitsLt_bf16_f32) (extf .f32 u bitsLt_bf16_f32)) s d
  unfold k0_pay1 conv
  dsimp only
  revert e1 e2
  generalize dynamicRotate 0 1#32 none (mulf (extf .f32 c bitsLt_bf16_f32) (extf .f32 u bitsLt_bf16_f32)) rotates_S2064x512_d0 = P
  generalize dynamicRotate 0 2063#32 none (mulf (extf .f32 c bitsLt_bf16_f32) (extf .f32 u bitsLt_bf16_f32)) rotates_S2064x512_d0 = Q
  intro e1 e2
  pointwise
  rw [at_first s, at_last s]
  refine congrArg (_ * ·) (congrArg₂ (· + ·) (congrArg (· + _) ?_) ?_)
  · unfold prev
    by_cases h : s.val = 0
    · rw [if_pos h, zero_mul, h]
      rfl
    · rw [if_neg h, e1 h, decide_eq_false h]
      rfl
  · by_cases h : s.val = 2063
    · rw [next_last _ s h, zero_mul, h]
      rfl
    · rw [next_in _ s h, e2 h, decide_eq_false h]
      rfl

theorem out_eq (x0 x1 x2 : Vec Ideal S2064x512 .bf16) (x3 : Vec Ideal S3x512 .f32) : out0_4 (F := Ideal) x0 x1 x2 x3 = k0_pay1 (F := Ideal) x1 x2 x0 x3 := by
  frame_out

theorem idx : ∀ t : Fin cfg0.N,
    win0_0.index t = ![t.val, 6] ∧ win0_1.index t = ![t.val, 7] ∧ win0_2.index t = ![t.val, 8] ∧ win0_3.index t = ![0, 0] ∧ win0_4.index t = ![t.val, 0] :=
  (by decide +kernel : ∀ t : Fin grid0.N, _)

variable (m : (ℓ : Loc nD τ sig) → Buf (Elt Ideal) ℓ) (c : Dev nD)

/-- The arguments: the projected activations and the weights. -/
abbrev aP : FVec Ideal S33024x12288 .bf16 := m ((c : Thread nD τ).loc main_arg0)
abbrev aW : FVec Ideal S3x512 .f32 := m ((c : Thread nD τ).loc main_arg1)

/-- The batch of a point. -/
def bat (t : Fin cfg0.N) : Fin 16 := ⟨t.val, lt_of_lt_of_eq t.isLt N_0⟩

theorem g_at (t : Fin cfg0.N) (s : Fin 2064) (d : Fin 512) : (iblk m c 0 t : FVec Ideal S2064x512 .bf16) (ix2 s d) = aP m c (ix2 (row (bat t) s) ⟨3072 + d.val, by omega⟩) := by
  unfold row bat
  blk_ext [iblk, V, idx t]
theorem c_at (t : Fin cfg0.N) (s : Fin 2064) (d : Fin 512) : (iblk m c 1 t : FVec Ideal S2064x512 .bf16) (ix2 s d) = aP m c (ix2 (row (bat t) s) ⟨3584 + d.val, by omega⟩) := by
  unfold row bat
  blk_ext [iblk, V, idx t]
theorem u_at (t : Fin cfg0.N) (s : Fin 2064) (d : Fin 512) : (iblk m c 2 t : FVec Ideal S2064x512 .bf16) (ix2 s d) = aP m c (ix2 (row (bat t) s) ⟨4096 + d.val, by omega⟩) := by
  unfold row bat
  blk_ext [iblk, V, idx t]
theorem w_at (t : Fin cfg0.N) (k : Fin 3) (d : Fin 512) : (iblk m c 3 t : FVec Ideal S3x512 .f32) (ix2 k d) = aW m c (ix2 k d) := by
  blk_ext [iblk, V, idx t]

/-- The reference's result, of the kernel's arguments. -/
abbrev res : FVec Ideal S33024x512 .bf16 := result (aP m c) (aW m c)

/-- A point leaves the reference's rows of its batch. -/
theorem out_at (t : Fin cfg0.N) (s : Fin 2064) (d : Fin 512) :
    out0_4 (iblk m c 0 t) (iblk m c 1 t) (iblk m c 2 t) (iblk m c 3 t) (ix2 s d) = res m c (ix2 (row (bat t) s) d) := by
  rw [out_eq]
  refine (pay1_at _ _ _ _ s d).trans ?_
  refine Eq.trans ?_ (result_at _ _ _ _ _).symm
  unfold val
  refine congrArg₂ (· * ·) (g_at m c t s d) (congrArg₂ (fun z w => conv z w s) (funext fun q => ?_) (funext fun k => w_at m c t k d))
  exact congrArg₂ (· * ·) (c_at m c t q d) (u_at m c t q d)

/-- The result array after the run. -/
theorem final : (dats m 0 c).arrAt 4 cfg0.N = res m c := by
  refine (dats m 0 c).arrAt_eq_of_covers 4 _ (by decide +kernel) fun t hf y => ?_
  blk_simp
  rw [after0_4]
  change S2064x512.Idx at y
  obtain ⟨s, d, rfl⟩ : ∃ (s : Fin 2064) (d : Fin 512), y = ix2 s d := ⟨y 0, y 1, by funext a; fin_cases a <;> rfl⟩
  refine (out_at m c t s d).trans ?_
  unfold row bat
  blk_ext [idx t]

end Cert.ShortConv

end
-- ==== Proof.RefFrames.lean ====
/- The reference keeps its arguments and leaves every counter at zero, read at the ideal values and at the stored bits. -/
module

public import proofs.«01_k».proof.Defs
public import proofs.«01_k».proof.Proof.Gen.ReferenceIdeal
public import proofs.«01_k».proof.Proof.Gen.Reference2Ideal.Run
public import proofs.«01_k».proof.Proof.Gen.Reference2Ideal
public import proofs.«01_k».proof.Proof.Gen.Reference2
public import proofs.«01_k».proof.Proof.Gen.Reference3Ideal.Run
public import proofs.«01_k».proof.Proof.Gen.Reference3Ideal
public import proofs.«01_k».proof.Proof.Gen.Reference3
public import proofs.«01_k».proof.Proof.Gen.Reference4Ideal.Run
public import proofs.«01_k».proof.Proof.Gen.Reference4Ideal
public import proofs.«01_k».proof.Proof.Gen.Reference4
public import proofs.«01_k».proof.Proof.Gen.Reference5Ideal.Run
public import proofs.«01_k».proof.Proof.Gen.Reference5Ideal
public import proofs.«01_k».proof.Proof.Gen.Reference5
public import proofs.«01_k».proof.Proof.Gen.Reference6Ideal.Run
public import proofs.«01_k».proof.Proof.Gen.Reference6Ideal
public import proofs.«01_k».proof.Proof.Gen.Reference6
public import proofs.«01_k».proof.Proof.Gen.Reference7Ideal.Run
public import proofs.«01_k».proof.Proof.Gen.Reference7Ideal
public import proofs.«01_k».proof.Proof.Gen.Reference7
public import proofs.«01_k».proof.Proof.Gen.ReferenceIdeal.Run
public import proofs.«01_k».proof.Proof.Gen.Reference
public import Idealize.ShloMosaic.Lib.Claim
public import Idealize.ShloMosaic.Lib.Quiescent

@[expose] public section

noncomputable section

namespace Cert.Attn

open Idealize.ShloMosaic Idealize.SL.Sem

/-- The reference at the ideal values keeps its arguments, and no counter is left set. -/
theorem referenceIdeal_frame : Cert.quiescent_ReferenceIdeal := fun m g _ =>
  (θ_run _ _ _).mono (fun r h => ⟨fun c => (h c).2, sem_eq_zero_of_no_sems rfl r.2⟩) (Cert.ReferenceIdeal.Value.run m g)

/-- The reference at the stored bits is the same text, so the same run holds of it. -/
theorem reference_frame : Cert.quiescent_Reference := fun m g _ =>
  (θ_run _ _ _).mono (fun r h => ⟨fun c => (h c).2, sem_eq_zero_of_no_sems rfl r.2⟩) (Cert.ReferenceIdeal.Value.run m g)

/-- The dense feed-forward's reference is host operations only, likewise. -/
theorem reference2Ideal_frame : Cert.quiescent_Reference2Ideal := fun m g _ =>
  (θ_run _ _ _).mono (fun r h => ⟨fun c => (h c).2, sem_eq_zero_of_no_sems rfl r.2⟩) (Cert.Reference2Ideal.Value.run m g)

theorem reference2_frame : Cert.quiescent_Reference2 := fun m g _ =>
  (θ_run _ _ _).mono (fun r h => ⟨fun c => (h c).2, sem_eq_zero_of_no_sems rfl r.2⟩) (Cert.Reference2Ideal.Value.run m g)

/-- The in-projection's reference, likewise. -/
theorem reference3Ideal_frame : Cert.quiescent_Reference3Ideal := fun m g _ =>
  (θ_run _ _ _).mono (fun r h => ⟨fun c => (h c).2, sem_eq_zero_of_no_sems rfl r.2⟩) (Cert.Reference3Ideal.Value.run m g)

theorem reference3_frame : Cert.quiescent_Reference3 := fun m g _ =>
  (θ_run _ _ _).mono (fun r h => ⟨fun c => (h c).2, sem_eq_zero_of_no_sems rfl r.2⟩) (Cert.Reference3Ideal.Value.run m g)

/-- The mixer output's reference, likewise. -/
theorem reference4Ideal_frame : Cert.quiescent_Reference4Ideal := fun m g _ =>
  (θ_run _ _ _).mono (fun r h => ⟨fun c => (h c).2, sem_eq_zero_of_no_sems rfl r.2⟩) (Cert.Reference4Ideal.Value.run m g)

theorem reference4_frame : Cert.quiescent_Reference4 := fun m g _ =>
  (θ_run _ _ _).mono (fun r h => ⟨fun c => (h c).2, sem_eq_zero_of_no_sems rfl r.2⟩) (Cert.Reference4Ideal.Value.run m g)

/-- The experts' reference, likewise. -/
theorem reference5Ideal_frame : Cert.quiescent_Reference5Ideal := fun m g _ =>
  (θ_run _ _ _).mono (fun r h => ⟨fun c => (h c).2, sem_eq_zero_of_no_sems rfl r.2⟩) (Cert.Reference5Ideal.Value.run m g)

theorem reference5_frame : Cert.quiescent_Reference5 := fun m g _ =>
  (θ_run _ _ _).mono (fun r h => ⟨fun c => (h c).2, sem_eq_zero_of_no_sems rfl r.2⟩) (Cert.Reference5Ideal.Value.run m g)

/-- The last call's reference, likewise. -/
theorem reference6Ideal_frame : Cert.quiescent_Reference6Ideal := fun m g _ =>
  (θ_run _ _ _).mono (fun r h => ⟨fun c => (h c).2, sem_eq_zero_of_no_sems rfl r.2⟩) (Cert.Reference6Ideal.Value.run m g)

theorem reference6_frame : Cert.quiescent_Reference6 := fun m g _ =>
  (θ_run _ _ _).mono (fun r h => ⟨fun c => (h c).2, sem_eq_zero_of_no_sems rfl r.2⟩) (Cert.Reference6Ideal.Value.run m g)

theorem reference7Ideal_frame : Cert.quiescent_Reference7Ideal := fun m g _ =>
  (θ_run _ _ _).mono (fun r h => ⟨fun c => (h c).2, sem_eq_zero_of_no_sems rfl r.2⟩) (Cert.Reference7Ideal.Value.run m g)

theorem reference7_frame : Cert.quiescent_Reference7 := fun m g _ =>
  (θ_run _ _ _).mono (fun r h => ⟨fun c => (h c).2, sem_eq_zero_of_no_sems rfl r.2⟩) (Cert.Reference7Ideal.Value.run m g)

end Cert.Attn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Reference2Ideal
public import proofs.«01_k».proof.Proof.Gen.Reference2
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5
public import proofs.«01_k».proof.Proof.Gen.Reference5Ideal
public import proofs.«01_k».proof.Proof.Gen.Reference5Ideal.Run
public import proofs.«01_k».proof.Proof.Gen.ReferenceIdeal.Run
public import proofs.«01_k».proof.Proof.Finite
public import proofs.«01_k».proof.Proof.Dense
public import proofs.«01_k».proof.Proof.InProj
public import proofs.«01_k».proof.Proof.MixerOut
public import proofs.«01_k».proof.Proof.Experts
public import proofs.«01_k».proof.Proof.ExpertsOk
public import proofs.«01_k».proof.Proof.Combine
public import proofs.«01_k».proof.Proof.ShortConv
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7
public import proofs.«01_k».proof.Proof.Gen.Reference7Ideal
public import proofs.«01_k».proof.Proof.Gen.Reference7Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6
public import proofs.«01_k».proof.Proof.Gen.Reference6Ideal
public import proofs.«01_k».proof.Proof.Gen.Reference6Ideal.Run
public import proofs.«01_k».proof.Proof.RefFrames
public import Idealize.ShloMosaic.Lib.Claim
public import proofs.«01_k».proof.Proof.Gen.ReferenceIdeal
public import proofs.«01_k».proof.Proof.Gen.Reference
public import Idealize.ShloMosaic.Adequacy
public import Idealize.ShloMosaic.Init

@[expose] public section

noncomputable section

namespace Cert.Proof

open Idealize.ShloMosaic Idealize.SL.Sem Cert.Kernel

/-- The kernel's result is the reference's, of finite arguments. -/
theorem algebraic (hF : Cert.Pre_finite.Facts) : Cert.algebraic_KernelIdeal_ReferenceIdeal_pre_finite (hPre_finite := hF) := by
  intro m g m' g' hpre hagree
  refine ⟨fun c => (Cert.KernelIdeal.Gen.dats m 0 c).arrAt 5 Cert.KernelIdeal.cfg0.N, Cert.KernelIdeal.Value.run_blocks m g,
    (θ_run _ _ _).mono (fun r h c => ⟨(h c).1.trans ?_, (h c).2⟩) (Cert.ReferenceIdeal.Value.run m' g')⟩
  obtain ⟨f0, f1, f2⟩ := hpre c
  obtain ⟨e0, e1, e2⟩ := hagree c
  refine (Cert.ReferenceIdeal.Attn.res_eq m' c).trans ?_
  rw [e0, e1, e2]
  exact (Cert.KernelIdeal.Value.final m c (Cert.Attn.finite0 hF _ _ _ f0) (Cert.Attn.finite1 hF _ _ _ f1) (Cert.Attn.finite2 hF _ _ _ f2)).symm

/-- The dense feed-forward kernel's result is its reference's, of any arguments. -/
theorem algebraic2 : Cert.algebraic_Kernel2Ideal_Reference2Ideal := by
  intro m g m' g' _ hagree
  refine ⟨fun c => (Cert.Kernel2Ideal.Gen.dats m 0 c).arrAt 5 Cert.Kernel2Ideal.cfg0.N, Cert.Kernel2Ideal.Value.run_blocks m g,
    (θ_run _ _ _).mono (fun r h c => ⟨(h c).1.trans ?_, (h c).2⟩) (Cert.Reference2Ideal.Value.run m' g')⟩
  obtain ⟨e0, e1, e2, e3, e4⟩ := hagree c
  rw [e0, e1, e2, e3, e4]
  exact (Cert.Dense.final m c).symm

/-- The in-projection kernel's result is its reference's, of any arguments. -/
theorem algebraic3 : Cert.algebraic_Kernel3Ideal_Reference3Ideal := by
  intro m g m' g' _ hagree
  refine ⟨fun c => (Cert.Kernel3Ideal.Gen.dats m 0 c).arrAt 3 Cert.Kernel3Ideal.cfg0.N, Cert.Kernel3Ideal.Value.run_blocks m g,
    (θ_run _ _ _).mono (fun r h c => ⟨(h c).1.trans ?_, (h c).2⟩) (Cert.Reference3Ideal.Value.run m' g')⟩
  obtain ⟨e0, e1, e2⟩ := hagree c
  rw [e0, e1, e2]
  exact (Cert.InProj.final m c).symm

/-- The mixer output kernel's result is its reference's, of any arguments. -/
theorem algebraic4 : Cert.algebraic_Kernel4Ideal_Reference4Ideal := by
  intro m g m' g' _ hagree
  refine ⟨fun c => (Cert.Kernel4Ideal.Gen.dats m 0 c).arrAt 11 Cert.Kernel4Ideal.cfg0.N, Cert.Kernel4Ideal.Value.run_blocks m g,
    (θ_run _ _ _).mono (fun r h c => ⟨(h c).1.trans ?_, (h c).2⟩) (Cert.Reference4Ideal.Value.run m' g')⟩
  obtain ⟨e0, e1, e2, e3, e4, e5, e6, e7, e8⟩ := hagree c
  rw [e0, e1, e2, e3, e4, e5, e6, e7, e8]
  exact (Cert.MixerOut.final m c).symm

/-- The experts' last call gives its reference's result, when every block names one of the experts. -/
theorem algebraic5 (hF : Cert.Pre_experts.Facts) : Cert.algebraic_Kernel5Ideal_Reference5Ideal (hPre_experts := hF) := by
  intro m g m' g' hpre hagree
  have hO := Cert.Experts.okIdeal m hpre
  refine ⟨fun c => (Cert.Kernel5Ideal.Gen.dats m hO 0 c).arrAt 4 (Cert.Kernel5Ideal.Gen.cfgM m hO).N, Cert.Experts.run_blocks m hO g,
    (θ_run _ _ _).mono (fun r h c => ⟨(h c).1.trans ?_, (h c).2⟩) (Cert.Reference5Ideal.Value.run m' g')⟩
  obtain ⟨e0, e1, e2, e3, e4, e5, e6⟩ := hagree c
  rw [e0, e1, e2, e3, e4, e5, e6]
  exact (Cert.Experts.final m hO c (Cert.Experts.inRange (hpre c))).symm

/-- The last call's result is its reference's, of any arguments. -/
theorem algebraic6 : Cert.algebraic_Kernel6Ideal_Reference6Ideal := by
  intro m g m' g' _ hagree
  refine ⟨fun c => (Cert.Kernel6Ideal.Gen.dats m 0 c).arrAt 6 Cert.Kernel6Ideal.cfg0.N, Cert.Kernel6Ideal.Value.run_blocks m g,
    (θ_run _ _ _).mono (fun r h c => ⟨(h c).1.trans ?_, (h c).2⟩) (Cert.Reference6Ideal.Value.run m' g')⟩
  obtain ⟨e0, e1, e2, e3, e4, e5⟩ := hagree c
  rw [e0, e1, e2, e3, e4, e5]
  exact (Cert.Combine.final m c).symm

/-- The short convolution's result is its reference's, of any arguments. -/
theorem algebraic7 : Cert.algebraic_Kernel7Ideal_Reference7Ideal := by
  intro m g m' g' _ hagree
  refine ⟨fun c => (Cert.Kernel7Ideal.Gen.dats m 0 c).arrAt 4 Cert.Kernel7Ideal.cfg0.N, Cert.Kernel7Ideal.Value.run_blocks m g,
    (θ_run _ _ _).mono (fun r h c => ⟨(h c).1.trans ?_, (h c).2⟩) (Cert.Reference7Ideal.Value.run m' g')⟩
  obtain ⟨e0, e1⟩ := hagree c
  rw [e0, e1]
  exact (Cert.ShortConv.final m c).symm

theorem claim : Cert.Claim :=
  ⟨Cert.Kernel.Gen.facts, Cert.KernelIdeal.Gen.facts, Cert.ReferenceIdeal.Gen.facts, Cert.Reference.Gen.facts,
    Cert.Kernel2.Gen.facts, Cert.Kernel2Ideal.Gen.facts, Cert.Reference2Ideal.Gen.facts, Cert.Reference2.Gen.facts,
    Cert.Kernel3.Gen.facts, Cert.Kernel3Ideal.Gen.facts, Cert.Reference3Ideal.Gen.facts, Cert.Reference3.Gen.facts,
    Cert.Kernel4.Gen.facts, Cert.Kernel4Ideal.Gen.facts, Cert.Reference4Ideal.Gen.facts, Cert.Reference4.Gen.facts,
    Cert.Kernel5.Gen.facts, Cert.Kernel5Ideal.Gen.facts, Cert.Reference5Ideal.Gen.facts, Cert.Reference5.Gen.facts,
    Cert.Kernel6.Gen.facts, Cert.Kernel6Ideal.Gen.facts, Cert.Reference6Ideal.Gen.facts, Cert.Reference6.Gen.facts,
    Cert.Kernel7.Gen.facts, Cert.Kernel7Ideal.Gen.facts, Cert.Reference7Ideal.Gen.facts, Cert.Reference7.Gen.facts, Cert.Attn.pre_facts, Cert.Experts.pre_facts,
    fun m ρ _ => Cert.Kernel.Gen.frame m ρ, fun m ρ _ => Cert.KernelIdeal.Gen.frame m ρ, fun m ρ _ => Cert.KernelIdeal.Gen.frame m ρ,
    Cert.Attn.referenceIdeal_frame, fun m ρ _ => Cert.Attn.referenceIdeal_frame m ρ trivial, Cert.Attn.reference_frame,
    fun m ρ _ => Cert.Kernel2.Gen.frame m ρ, fun m ρ _ => Cert.Kernel2Ideal.Gen.frame m ρ, Cert.Attn.reference2Ideal_frame, Cert.Attn.reference2_frame,
    fun m ρ _ => Cert.Kernel3.Gen.frame m ρ, fun m ρ _ => Cert.Kernel3Ideal.Gen.frame m ρ, Cert.Attn.reference3Ideal_frame, Cert.Attn.reference3_frame,
    fun m ρ _ => Cert.Kernel4.Gen.frame m ρ, fun m ρ _ => Cert.Kernel4Ideal.Gen.frame m ρ, Cert.Attn.reference4Ideal_frame, Cert.Attn.reference4_frame,
    fun m ρ h => Cert.Kernel5.Gen.frame m ρ (@Cert.Experts.okBits Cert.Experts.pre_facts m h), fun m ρ h => Cert.Kernel5Ideal.Gen.frame m ρ (@Cert.Experts.okIdeal Cert.Experts.pre_facts m h),
    Cert.Attn.reference5Ideal_frame, fun m ρ _ => Cert.Attn.reference5Ideal_frame m ρ trivial, Cert.Attn.reference5_frame,
    fun m ρ _ => Cert.Kernel6.Gen.frame m ρ, fun m ρ _ => Cert.Kernel6Ideal.Gen.frame m ρ, Cert.Attn.reference6Ideal_frame, Cert.Attn.reference6_frame,
    fun m ρ _ => Cert.Kernel7.Gen.frame m ρ, fun m ρ _ => Cert.Kernel7Ideal.Gen.frame m ρ, Cert.Attn.reference7Ideal_frame, Cert.Attn.reference7_frame,
    trivial, trivial, algebraic Cert.Attn.pre_facts, trivial, trivial, algebraic2, trivial, trivial, algebraic3, trivial, trivial, algebraic4,
    trivial, trivial, algebraic5 Cert.Experts.pre_facts, trivial, trivial, algebraic6, trivial, trivial, algebraic7⟩

end Cert.Proof

end
